-- ==== Defs.lean ====
def Pre_FoxP (m : (ℓ : Loc Cert.FoxP.nD Cert.FoxP.τ Cert.FoxP.sig) → Buf (Elt Bits) ℓ) : Prop :=
  True

def Pre_FoxPIdeal (m : (ℓ : Loc Cert.FoxPIdeal.nD Cert.FoxPIdeal.τ Cert.FoxPIdeal.sig) → Buf (Elt Ideal) ℓ) : Prop :=
  True

def Pre_FoxPIdeal_finite [hPre_finite : Cert.Pre_finite.Facts] (m : (ℓ : Loc Cert.FoxPIdeal.nD Cert.FoxPIdeal.τ Cert.FoxPIdeal.sig) → Buf (Elt Ideal) ℓ) : Prop :=
  ∀ c : Dev Cert.FoxPIdeal.nD,
    (Cert.Pre_finite.fn (F := Ideal) (m ((c.tc : Thread Cert.FoxPIdeal.nD Cert.FoxPIdeal.τ).loc Cert.FoxPIdeal.main_arg0)) (m ((c.tc : Thread Cert.FoxPIdeal.nD Cert.FoxPIdeal.τ).loc Cert.FoxPIdeal.main_arg1))) = (fun _ => 1#1)

def Pre_FoxPRefIdeal (m : (ℓ : Loc Cert.FoxPRefIdeal.nD Cert.FoxPRefIdeal.τ Cert.FoxPRefIdeal.sig) → Buf (Elt Ideal) ℓ) : Prop :=
  True

def Pre_FoxPRefIdeal_finite [hPre_finite : Cert.Pre_finite.Facts] (m : (ℓ : Loc Cert.FoxPRefIdeal.nD Cert.FoxPRefIdeal.τ Cert.FoxPRefIdeal.sig) → Buf (Elt Ideal) ℓ) : Prop :=
  ∀ c : Dev Cert.FoxPRefIdeal.nD,
    (Cert.Pre_finite.fn (F := Ideal) (m ((c.tc : Thread Cert.FoxPRefIdeal.nD Cert.FoxPRefIdeal.τ).loc Cert.FoxPRefIdeal.main_arg0)) (m ((c.tc : Thread Cert.FoxPRefIdeal.nD Cert.FoxPRefIdeal.τ).loc Cert.FoxPRefIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_XaP (m : (ℓ : Loc Cert.XaP.nD Cert.XaP.τ Cert.XaP.sig) → Buf (Elt Bits) ℓ) : Prop :=
  True

def Pre_XaPIdeal (m : (ℓ : Loc Cert.XaPIdeal.nD Cert.XaPIdeal.τ Cert.XaPIdeal.sig) → Buf (Elt Ideal) ℓ) : Prop :=
  True

def Pre_XaPRefIdeal (m : (ℓ : Loc Cert.XaPRefIdeal.nD Cert.XaPRefIdeal.τ Cert.XaPRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def quiescent_FoxP [hFoxP : Cert.FoxP.Facts] : Prop :=
  ∀ (m : (ℓ : Loc Cert.FoxP.nD Cert.FoxP.τ Cert.FoxP.sig) → Buf (Elt Bits) ℓ) (g : Dev Cert.FoxP.nD → PrngReg), Pre_FoxP m →
    θ_run (Cert.FoxP.defs (F := Bits)) (onTc (τ := Cert.FoxP.τ) (Cert.FoxP.main (F := Bits))) ⟨m, fun _ => 0, g⟩ (fun r => (∀ c : Dev Cert.FoxP.nD,
      r.2.mem ((c.tc : Thread Cert.FoxP.nD Cert.FoxP.τ).loc Cert.FoxP.main_arg0) = m ((c.tc : Thread Cert.FoxP.nD Cert.FoxP.τ).loc Cert.FoxP.main_arg0)
      ∧ r.2.mem ((c.tc : Thread Cert.FoxP.nD Cert.FoxP.τ).loc Cert.FoxP.main_arg1) = m ((c.tc : Thread Cert.FoxP.nD Cert.FoxP.τ).loc Cert.FoxP.main_arg1))
      ∧ r.2.sem = fun _ => 0)

def quiescent_FoxPIdeal [hFoxPIdeal : Cert.FoxPIdeal.Facts] : Prop :=
  ∀ (m : (ℓ : Loc Cert.FoxPIdeal.nD Cert.FoxPIdeal.τ Cert.FoxPIdeal.sig) → Buf (Elt Ideal) ℓ) (g : Dev Cert.FoxPIdeal.nD → PrngReg), Pre_FoxPIdeal m →
    θ_run (Cert.FoxPIdeal.defs (F := Ideal)) (onTc (τ := Cert.FoxPIdeal.τ) (Cert.FoxPIdeal.main (F := Ideal))) ⟨m, fun _ => 0, g⟩ (fun r => (∀ c : Dev Cert.FoxPIdeal.nD,
      r.2.mem ((c.tc : Thread Cert.FoxPIdeal.nD Cert.FoxPIdeal.τ).loc Cert.FoxPIdeal.main_arg0) = m ((c.tc : Thread Cert.FoxPIdeal.nD Cert.FoxPIdeal.τ).loc Cert.FoxPIdeal.main_arg0)
      ∧ r.2.mem ((c.tc : Thread Cert.FoxPIdeal.nD Cert.FoxPIdeal.τ).loc Cert.FoxPIdeal.main_arg1) = m ((c.tc : Thread Cert.FoxPIdeal.nD Cert.FoxPIdeal.τ).loc Cert.FoxPIdeal.main_arg1))
      ∧ r.2.sem = fun _ => 0)

def quiescent_FoxPIdeal_pre_finite [hFoxPIdeal : Cert.FoxPIdeal.Facts] [hPre_finite : Cert.Pre_finite.Facts] : Prop :=
  ∀ (m : (ℓ : Loc Cert.FoxPIdeal.nD Cert.FoxPIdeal.τ Cert.FoxPIdeal.sig) → Buf (Elt Ideal) ℓ) (g : Dev Cert.FoxPIdeal.nD → PrngReg), Pre_FoxPIdeal_finite m →
    θ_run (Cert.FoxPIdeal.defs (F := Ideal)) (onTc (τ := Cert.FoxPIdeal.τ) (Cert.FoxPIdeal.main (F := Ideal))) ⟨m, fun _ => 0, g⟩ (fun r => (∀ c : Dev Cert.FoxPIdeal.nD,
      r.2.mem ((c.tc : Thread Cert.FoxPIdeal.nD Cert.FoxPIdeal.τ).loc Cert.FoxPIdeal.main_arg0) = m ((c.tc : Thread Cert.FoxPIdeal.nD Cert.FoxPIdeal.τ).loc Cert.FoxPIdeal.main_arg0)
      ∧ r.2.mem ((c.tc : Thread Cert.FoxPIdeal.nD Cert.FoxPIdeal.τ).loc Cert.FoxPIdeal.main_arg1) = m ((c.tc : Thread Cert.FoxPIdeal.nD Cert.FoxPIdeal.τ).loc Cert.FoxPIdeal.main_arg1))
      ∧ r.2.sem = fun _ => 0)

def quiescent_FoxPRefIdeal [hFoxPRefIdeal : Cert.FoxPRefIdeal.Facts] : Prop :=
  ∀ (m : (ℓ : Loc Cert.FoxPRefIdeal.nD Cert.FoxPRefIdeal.τ Cert.FoxPRefIdeal.sig) → Buf (Elt Ideal) ℓ) (g : Dev Cert.FoxPRefIdeal.nD → PrngReg), Pre_FoxPRefIdeal m →
    θ_run (Cert.FoxPRefIdeal.defs (F := Ideal)) (onTc (τ := Cert.FoxPRefIdeal.τ) (Cert.FoxPRefIdeal.main (F := Ideal))) ⟨m, fun _ => 0, g⟩ (fun r => (∀ c : Dev Cert.FoxPRefIdeal.nD,
      r.2.mem ((c.tc : Thread Cert.FoxPRefIdeal.nD Cert.FoxPRefIdeal.τ).loc Cert.FoxPRefIdeal.main_arg0) = m ((c.tc : Thread Cert.FoxPRefIdeal.nD Cert.FoxPRefIdeal.τ).loc Cert.FoxPRefIdeal.main_arg0)
      ∧ r.2.mem ((c.tc : Thread Cert.FoxPRefIdeal.nD Cert.FoxPRefIdeal.τ).loc Cert.FoxPRefIdeal.main_arg1) = m ((c.tc : Thread Cert.FoxPRefIdeal.nD Cert.FoxPRefIdeal.τ).loc Cert.FoxPRefIdeal.main_arg1))
      ∧ r.2.sem = fun _ => 0)

def quiescent_FoxPRefIdeal_pre_finite [hFoxPRefIdeal : Cert.FoxPRefIdeal.Facts] [hPre_finite : Cert.Pre_finite.Facts] : Prop :=
  ∀ (m : (ℓ : Loc Cert.FoxPRefIdeal.nD Cert.FoxPRefIdeal.τ Cert.FoxPRefIdeal.sig) → Buf (Elt Ideal) ℓ) (g : Dev Cert.FoxPRefIdeal.nD → PrngReg), Pre_FoxPRefIdeal_finite m →
    θ_run (Cert.FoxPRefIdeal.defs (F := Ideal)) (onTc (τ := Cert.FoxPRefIdeal.τ) (Cert.FoxPRefIdeal.main (F := Ideal))) ⟨m, fun _ => 0, g⟩ (fun r => (∀ c : Dev Cert.FoxPRefIdeal.nD,
      r.2.mem ((c.tc : Thread Cert.FoxPRefIdeal.nD Cert.FoxPRefIdeal.τ).loc Cert.FoxPRefIdeal.main_arg0) = m ((c.tc : Thread Cert.FoxPRefIdeal.nD Cert.FoxPRefIdeal.τ).loc Cert.FoxPRefIdeal.main_arg0)
      ∧ r.2.mem ((c.tc : Thread Cert.FoxPRefIdeal.nD Cert.FoxPRefIdeal.τ).loc Cert.FoxPRefIdeal.main_arg1) = m ((c.tc : Thread Cert.FoxPRefIdeal.nD Cert.FoxPRefIdeal.τ).loc Cert.FoxPRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_XaP [hXaP : Cert.XaP.Facts] : Prop :=
  ∀ (m : (ℓ : Loc Cert.XaP.nD Cert.XaP.τ Cert.XaP.sig) → Buf (Elt Bits) ℓ) (g : Dev Cert.XaP.nD → PrngReg), Pre_XaP m →
    θ_run (Cert.XaP.defs (F := Bits)) (onTc (τ := Cert.XaP.τ) (Cert.XaP.main (F := Bits))) ⟨m, fun _ => 0, g⟩ (fun r => (∀ c : Dev Cert.XaP.nD,
      r.2.mem ((c.tc : Thread Cert.XaP.nD Cert.XaP.τ).loc Cert.XaP.main_arg0) = m ((c.tc : Thread Cert.XaP.nD Cert.XaP.τ).loc Cert.XaP.main_arg0)
      ∧ r.2.mem ((c.tc : Thread Cert.XaP.nD Cert.XaP.τ).loc Cert.XaP.main_arg1) = m ((c.tc : Thread Cert.XaP.nD Cert.XaP.τ).loc Cert.XaP.main_arg1))
      ∧ r.2.sem = fun _ => 0)

def quiescent_XaPIdeal [hXaPIdeal : Cert.XaPIdeal.Facts] : Prop :=
  ∀ (m : (ℓ : Loc Cert.XaPIdeal.nD Cert.XaPIdeal.τ Cert.XaPIdeal.sig) → Buf (Elt Ideal) ℓ) (g : Dev Cert.XaPIdeal.nD → PrngReg), Pre_XaPIdeal m →
    θ_run (Cert.XaPIdeal.defs (F := Ideal)) (onTc (τ := Cert.XaPIdeal.τ) (Cert.XaPIdeal.main (F := Ideal))) ⟨m, fun _ => 0, g⟩ (fun r => (∀ c : Dev Cert.XaPIdeal.nD,
      r.2.mem ((c.tc : Thread Cert.XaPIdeal.nD Cert.XaPIdeal.τ).loc Cert.XaPIdeal.main_arg0) = m ((c.tc : Thread Cert.XaPIdeal.nD Cert.XaPIdeal.τ).loc Cert.XaPIdeal.main_arg0)
      ∧ r.2.mem ((c.tc : Thread Cert.XaPIdeal.nD Cert.XaPIdeal.τ).loc Cert.XaPIdeal.main_arg1) = m ((c.tc : Thread Cert.XaPIdeal.nD Cert.XaPIdeal.τ).loc Cert.XaPIdeal.main_arg1))
      ∧ r.2.sem = fun _ => 0)

def quiescent_XaPRefIdeal [hXaPRefIdeal : Cert.XaPRefIdeal.Facts] : Prop :=
  ∀ (m : (ℓ : Loc Cert.XaPRefIdeal.nD Cert.XaPRefIdeal.τ Cert.XaPRefIdeal.sig) → Buf (Elt Ideal) ℓ) (g : Dev Cert.XaPRefIdeal.nD → PrngReg), Pre_XaPRefIdeal m →
    θ_run (Cert.XaPRefIdeal.defs (F := Ideal)) (onTc (τ := Cert.XaPRefIdeal.τ) (Cert.XaPRefIdeal.main (F := Ideal))) ⟨m, fun _ => 0, g⟩ (fun r => (∀ c : Dev Cert.XaPRefIdeal.nD,
      r.2.mem ((c.tc : Thread Cert.XaPRefIdeal.nD Cert.XaPRefIdeal.τ).loc Cert.XaPRefIdeal.main_arg0) = m ((c.tc : Thread Cert.XaPRefIdeal.nD Cert.XaPRefIdeal.τ).loc Cert.XaPRefIdeal.main_arg0)
      ∧ r.2.mem ((c.tc : Thread Cert.XaPRefIdeal.nD Cert.XaPRefIdeal.τ).loc Cert.XaPRefIdeal.main_arg1) = m ((c.tc : Thread Cert.XaPRefIdeal.nD Cert.XaPRefIdeal.τ).loc Cert.XaPRefIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2)
      ∧ r.2.mem ((c.tc : Thread Cert.Xo.nD Cert.Xo.τ).loc Cert.Xo.main_arg3) = m ((c.tc : Thread Cert.Xo.nD Cert.Xo.τ).loc Cert.Xo.main_arg3))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
      ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2)
      ∧ r.2.mem ((c.tc : Thread Cert.XoRefIdeal.nD Cert.XoRefIdeal.τ).loc Cert.XoRefIdeal.main_arg3) = m ((c.tc : Thread Cert.XoRefIdeal.nD Cert.XoRefIdeal.τ).loc Cert.XoRefIdeal.main_arg3))
      ∧ r.2.sem = fun _ => 0)

def preserves_FoxP_FoxPIdeal : Prop :=
  True

def algebraic_FoxPIdeal_FoxPRefIdeal_pre_finite [hFoxPIdeal : Cert.FoxPIdeal.Facts] [hFoxPRefIdeal : Cert.FoxPRefIdeal.Facts] [hPre_finite : Cert.Pre_finite.Facts] : Prop :=
  ∀ (m : (ℓ : Loc Cert.FoxPIdeal.nD Cert.FoxPIdeal.τ Cert.FoxPIdeal.sig) → Buf (Elt Ideal) ℓ) (g : Dev Cert.FoxPIdeal.nD → PrngReg)
    (m' : (ℓ : Loc Cert.FoxPRefIdeal.nD Cert.FoxPRefIdeal.τ Cert.FoxPRefIdeal.sig) → Buf (Elt Ideal) ℓ) (g' : Dev Cert.FoxPRefIdeal.nD → PrngReg), Pre_FoxPIdeal_finite m →
    (∀ c : Dev Cert.FoxPIdeal.nD,
      m' ((c.tc : Thread Cert.FoxPRefIdeal.nD Cert.FoxPRefIdeal.τ).loc Cert.FoxPRefIdeal.main_arg0) = m ((c.tc : Thread Cert.FoxPIdeal.nD Cert.FoxPIdeal.τ).loc Cert.FoxPIdeal.main_arg0)
      ∧ m' ((c.tc : Thread Cert.FoxPRefIdeal.nD Cert.FoxPRefIdeal.τ).loc Cert.FoxPRefIdeal.main_arg1) = m ((c.tc : Thread Cert.FoxPIdeal.nD Cert.FoxPIdeal.τ).loc Cert.FoxPIdeal.main_arg1)) →
    ∃ (v0 : (c : Dev Cert.FoxPIdeal.nD) → Buf (Elt Ideal) ((c.tc : Thread Cert.FoxPIdeal.nD Cert.FoxPIdeal.τ).loc Cert.FoxPIdeal.main_v0)),
      θ_run (Cert.FoxPIdeal.defs (F := Ideal)) (onTc (τ := Cert.FoxPIdeal.τ) (Cert.FoxPIdeal.main (F := Ideal))) ⟨m, fun _ => 0, g⟩ (fun r => ∀ c : Dev Cert.FoxPIdeal.nD,
          r.2.mem ((c.tc : Thread Cert.FoxPIdeal.nD Cert.FoxPIdeal.τ).loc Cert.FoxPIdeal.main_v0) = v0 c
          ∧ r.2.mem ((c.tc : Thread Cert.FoxPIdeal.nD Cert.FoxPIdeal.τ).loc Cert.FoxPIdeal.main_arg0) = m ((c.tc : Thread Cert.FoxPIdeal.nD Cert.FoxPIdeal.τ).loc Cert.FoxPIdeal.main_arg0)
          ∧ r.2.mem ((c.tc : Thread Cert.FoxPIdeal.nD Cert.FoxPIdeal.τ).loc Cert.FoxPIdeal.main_arg1) = m ((c.tc : Thread Cert.FoxPIdeal.nD Cert.FoxPIdeal.τ).loc Cert.FoxPIdeal.main_arg1))
      ∧ θ_run (Cert.FoxPRefIdeal.defs (F := Ideal)) (onTc (τ := Cert.FoxPRefIdeal.τ) (Cert.FoxPRefIdeal.main (F := Ideal))) ⟨m', fun _ => 0, g'⟩ (fun r => ∀ c : Dev Cert.FoxPRefIdeal.nD,
          r.2.mem ((c.tc : Thread Cert.FoxPRefIdeal.nD Cert.FoxPRefIdeal.τ).loc Cert.FoxPRefIdeal.main_v39) = v0 c
          ∧ r.2.mem ((c.tc : Thread Cert.FoxPRefIdeal.nD Cert.FoxPRefIdeal.τ).loc Cert.FoxPRefIdeal.main_arg0) = m' ((c.tc : Thread Cert.FoxPRefIdeal.nD Cert.FoxPRefIdeal.τ).loc Cert.FoxPRefIdeal.main_arg0)
          ∧ r.2.mem ((c.tc : Thread Cert.FoxPRefIdeal.nD Cert.FoxPRefIdeal.τ).loc Cert.FoxPRefIdeal.main_arg1) = m' ((c.tc : Thread Cert.FoxPRefIdeal.nD Cert.FoxPRefIdeal.τ).loc Cert.FoxPRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v18) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)) →
    ∃ (v0 : (c : Dev Cert.XqIdeal.nD) → Buf (Elt Ideal) ((c.tc : Thread Cert.XqIdeal.nD Cert.XqIdeal.τ).loc Cert.XqIdeal.main_v2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v2) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v17) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v23) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_XaP_XaPIdeal : Prop :=
  True

def algebraic_XaPIdeal_XaPRefIdeal [hXaPIdeal : Cert.XaPIdeal.Facts] [hXaPRefIdeal : Cert.XaPRefIdeal.Facts] : Prop :=
  ∀ (m : (ℓ : Loc Cert.XaPIdeal.nD Cert.XaPIdeal.τ Cert.XaPIdeal.sig) → Buf (Elt Ideal) ℓ) (g : Dev Cert.XaPIdeal.nD → PrngReg)
    (m' : (ℓ : Loc Cert.XaPRefIdeal.nD Cert.XaPRefIdeal.τ Cert.XaPRefIdeal.sig) → Buf (Elt Ideal) ℓ) (g' : Dev Cert.XaPRefIdeal.nD → PrngReg), Pre_XaPIdeal m →
    (∀ c : Dev Cert.XaPIdeal.nD,
      m' ((c.tc : Thread Cert.XaPRefIdeal.nD Cert.XaPRefIdeal.τ).loc Cert.XaPRefIdeal.main_arg0) = m ((c.tc : Thread Cert.XaPIdeal.nD Cert.XaPIdeal.τ).loc Cert.XaPIdeal.main_arg0)
      ∧ m' ((c.tc : Thread Cert.XaPRefIdeal.nD Cert.XaPRefIdeal.τ).loc Cert.XaPRefIdeal.main_arg1) = m ((c.tc : Thread Cert.XaPIdeal.nD Cert.XaPIdeal.τ).loc Cert.XaPIdeal.main_arg1)) →
    ∃ (v0 : (c : Dev Cert.XaPIdeal.nD) → Buf (Elt Ideal) ((c.tc : Thread Cert.XaPIdeal.nD Cert.XaPIdeal.τ).loc Cert.XaPIdeal.main_v0)),
      θ_run (Cert.XaPIdeal.defs (F := Ideal)) (onTc (τ := Cert.XaPIdeal.τ) (Cert.XaPIdeal.main (F := Ideal))) ⟨m, fun _ => 0, g⟩ (fun r => ∀ c : Dev Cert.XaPIdeal.nD,
          r.2.mem ((c.tc : Thread Cert.XaPIdeal.nD Cert.XaPIdeal.τ).loc Cert.XaPIdeal.main_v0) = v0 c
          ∧ r.2.mem ((c.tc : Thread Cert.XaPIdeal.nD Cert.XaPIdeal.τ).loc Cert.XaPIdeal.main_arg0) = m ((c.tc : Thread Cert.XaPIdeal.nD Cert.XaPIdeal.τ).loc Cert.XaPIdeal.main_arg0)
          ∧ r.2.mem ((c.tc : Thread Cert.XaPIdeal.nD Cert.XaPIdeal.τ).loc Cert.XaPIdeal.main_arg1) = m ((c.tc : Thread Cert.XaPIdeal.nD Cert.XaPIdeal.τ).loc Cert.XaPIdeal.main_arg1))
      ∧ θ_run (Cert.XaPRefIdeal.defs (F := Ideal)) (onTc (τ := Cert.XaPRefIdeal.τ) (Cert.XaPRefIdeal.main (F := Ideal))) ⟨m', fun _ => 0, g'⟩ (fun r => ∀ c : Dev Cert.XaPRefIdeal.nD,
          r.2.mem ((c.tc : Thread Cert.XaPRefIdeal.nD Cert.XaPRefIdeal.τ).loc Cert.XaPRefIdeal.main_v25) = v0 c
          ∧ r.2.mem ((c.tc : Thread Cert.XaPRefIdeal.nD Cert.XaPRefIdeal.τ).loc Cert.XaPRefIdeal.main_arg0) = m' ((c.tc : Thread Cert.XaPRefIdeal.nD Cert.XaPRefIdeal.τ).loc Cert.XaPRefIdeal.main_arg0)
          ∧ r.2.mem ((c.tc : Thread Cert.XaPRefIdeal.nD Cert.XaPRefIdeal.τ).loc Cert.XaPRefIdeal.main_arg1) = m' ((c.tc : Thread Cert.XaPRefIdeal.nD Cert.XaPRefIdeal.τ).loc Cert.XaPRefIdeal.main_arg1))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)
      ∧ m' ((c.tc : Thread Cert.XoRefIdeal.nD Cert.XoRefIdeal.τ).loc Cert.XoRefIdeal.main_arg3) = m ((c.tc : Thread Cert.XoIdeal.nD Cert.XoIdeal.τ).loc Cert.XoIdeal.main_arg3)) →
    ∃ (v0 : (c : Dev Cert.XoIdeal.nD) → Buf (Elt Ideal) ((c.tc : Thread Cert.XoIdeal.nD Cert.XoIdeal.τ).loc Cert.XoIdeal.main_v1)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v1) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
          ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v5) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2)
          ∧ r.2.mem ((c.tc : Thread Cert.XoRefIdeal.nD Cert.XoRefIdeal.τ).loc Cert.XoRefIdeal.main_arg3) = m' ((c.tc : Thread Cert.XoRefIdeal.nD Cert.XoRefIdeal.τ).loc Cert.XoRefIdeal.main_arg3))

def Claim : Prop :=
  ∃ (hFoxP : Cert.FoxP.Facts) (hFoxPIdeal : Cert.FoxPIdeal.Facts) (hFoxPRefIdeal : Cert.FoxPRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts) (hXq : Cert.Xq.Facts) (hXqIdeal : Cert.XqIdeal.Facts) (hXqRefIdeal : Cert.XqRefIdeal.Facts) (hKv : Cert.Kv.Facts) (hKvIdeal : Cert.KvIdeal.Facts) (hKvRefIdeal : Cert.KvRefIdeal.Facts) (hXaP : Cert.XaP.Facts) (hXaPIdeal : Cert.XaPIdeal.Facts) (hXaPRefIdeal : Cert.XaPRefIdeal.Facts) (hXo : Cert.Xo.Facts) (hXoIdeal : Cert.XoIdeal.Facts) (hXoRefIdeal : Cert.XoRefIdeal.Facts) (hPre_finite : Cert.Pre_finite.Facts),
    quiescent_FoxP (hFoxP := hFoxP)
    ∧ quiescent_FoxPIdeal (hFoxPIdeal := hFoxPIdeal)
    ∧ quiescent_FoxPIdeal_pre_finite (hFoxPIdeal := hFoxPIdeal) (hPre_finite := hPre_finite)
    ∧ quiescent_FoxPRefIdeal (hFoxPRefIdeal := hFoxPRefIdeal)
    ∧ quiescent_FoxPRefIdeal_pre_finite (hFoxPRefIdeal := hFoxPRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixRefIdeal (hMixRefIdeal := hMixRefIdeal)
    ∧ quiescent_Xq (hXq := hXq)
    ∧ quiescent_XqIdeal (hXqIdeal := hXqIdeal)
    ∧ quiescent_XqRefIdeal (hXqRefIdeal := hXqRefIdeal)
    ∧ quiescent_Kv (hKv := hKv)
    ∧ quiescent_KvIdeal (hKvIdeal := hKvIdeal)
    ∧ quiescent_KvRefIdeal (hKvRefIdeal := hKvRefIdeal)
    ∧ quiescent_XaP (hXaP := hXaP)
    ∧ quiescent_XaPIdeal (hXaPIdeal := hXaPIdeal)
    ∧ quiescent_XaPRefIdeal (hXaPRefIdeal := hXaPRefIdeal)
    ∧ quiescent_Xo (hXo := hXo)
    ∧ quiescent_XoIdeal (hXoIdeal := hXoIdeal)
    ∧ quiescent_XoRefIdeal (hXoRefIdeal := hXoRefIdeal)
    ∧ preserves_FoxP_FoxPIdeal
    ∧ algebraic_FoxPIdeal_FoxPRefIdeal_pre_finite (hFoxPIdeal := hFoxPIdeal) (hFoxPRefIdeal := hFoxPRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Mix_MixIdeal
    ∧ algebraic_MixIdeal_MixRefIdeal (hMixIdeal := hMixIdeal) (hMixRefIdeal := hMixRefIdeal)
    ∧ preserves_Xq_XqIdeal
    ∧ algebraic_XqIdeal_XqRefIdeal (hXqIdeal := hXqIdeal) (hXqRefIdeal := hXqRefIdeal)
    ∧ preserves_Kv_KvIdeal
    ∧ algebraic_KvIdeal_KvRefIdeal (hKvIdeal := hKvIdeal) (hKvRefIdeal := hKvRefIdeal)
    ∧ preserves_XaP_XaPIdeal
    ∧ algebraic_XaPIdeal_XaPRefIdeal (hXaPIdeal := hXaPIdeal) (hXaPRefIdeal := hXaPRefIdeal)
    ∧ preserves_Xo_XoIdeal
    ∧ algebraic_XoIdeal_XoRefIdeal (hXoIdeal := hXoIdeal) (hXoRefIdeal := hXoRefIdeal)
-- ==== Pre_finite.lean ====
abbrev S17408x6144 : Shape := ⟨2, ![17408, 6144]⟩
abbrev S16384x128 : Shape := ⟨2, ![16384, 128]⟩
abbrev S16384x1024 : Shape := ⟨2, ![16384, 1024]⟩
abbrev S_ : Shape := ⟨0, ![]⟩
abbrev S16384x8 : Shape := ⟨2, ![16384, 8]⟩

class Facts : Prop where
  slices_S17408x6144_S16384x1024_0_2048 : S17408x6144.Slices ![0, 2048] S16384x1024
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S16384x128_S16384x8_0_0 : S16384x128.Slices ![0, 0] S16384x8
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S17408x6144 .f32) (main_arg1 : FVec F S16384x128 .f32) : IVec S_ 1 :=
  let main_v0 : FVec F S16384x1024 .f32 := (extractStridedSlice S16384x1024 ![0, 2048] · slices_S17408x6144_S16384x1024_0_2048) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x8 .f32 := (extractStridedSlice S16384x8 ![0, 0] · slices_S16384x128_S16384x8_0_0) main_arg1
  let main_v6 : FVec F S16384x8 .f32 := Host.absf main_v5
  let main_cst_0 : FVec F S_ .f32 := constant S_ .f32 0x7F800000#32
  let main_v7 : FVec F S16384x8 .f32 := broadcastInDim S16384x8 ![] bcast_S_S16384x8 main_cst_0
  let main_v8 : IVec S16384x8 1 := cmpf .olt main_v6 main_v7
  let main_c_1 : IVec S_ 1 := constantI S_ 1 1#1
  let main_v9 : IVec S_ 1 := (fun x v => Host.reduce IntOp.andi x v reducesTo_S16384x8_S_d0_1 h_S_) main_v8 main_c_1
  let main_v10 : IVec S_ 1 := andi main_v4 main_v9
  main_v10
-- ==== FoxP.lean ====
abbrev S17408x6144 : Shape := ⟨2, ![17408, 6144]⟩
abbrev S16384x128 : Shape := ⟨2, ![16384, 128]⟩
abbrev S16384x512 : Shape := ⟨2, ![16384, 512]⟩
abbrev S1024x512 : Shape := ⟨2, ![1024, 512]⟩
abbrev S2048x512 : Shape := ⟨2, ![2048, 512]⟩
abbrev S2048x128 : Shape := ⟨2, ![2048, 128]⟩
abbrev S512x2048 : Shape := ⟨2, ![512, 2048]⟩
abbrev S512x1024 : Shape := ⟨2, ![512, 1024]⟩
abbrev S8x1x1024 : Shape := ⟨3, ![8, 1, 1024]⟩
abbrev S1024x1024 : Shape := ⟨2, ![1024, 1024]⟩
abbrev S1024x64 : Shape := ⟨2, ![1024, 64]⟩
abbrev S64x1024 : Shape := ⟨2, ![64, 1024]⟩
abbrev S1024x1 : Shape := ⟨2, ![1024, 1]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 3
  | .vmem => 16
  | .smem => 0
  | _ => 0

abbrev bufTy : (tb : Table) → Fin (tcTables nBuf tb) → BufTy
  | .hbm, ⟨0, _⟩ => ⟨S17408x6144, .f32⟩
  | .hbm, ⟨1, _⟩ => ⟨S16384x128, .f32⟩
  | .hbm, ⟨2, _⟩ => ⟨S16384x512, .bf16⟩
  | .local _ .vmem, ⟨0, _⟩ => ⟨S1024x512, .f32⟩
  | .local _ .vmem, ⟨1, _⟩ => ⟨S1024x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x128, .f32⟩
  | .local _ .vmem, ⟨7, _⟩ => ⟨S2048x128, .f32⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S512x2048, .bf16⟩
  | .local _ .vmem, ⟨12, _⟩ => ⟨S512x1024, .bf16⟩
  | .local _ .vmem, ⟨13, _⟩ => ⟨S8x1x1024, .f32⟩
  | .local _ .vmem, ⟨14, _⟩ => ⟨S8x1x1024, .f32⟩
  | .local _ .vmem, ⟨15, _⟩ => ⟨S512x1024, .f32⟩
  | _, _ => ⟨S17408x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  v27
def k0_off1 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v29 : Index := Scalar.indexCast v28
  let c0_15 : Index := 0#32
  ![v29.toNat, 0]
def k0_off2 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v33 : Index := Scalar.indexCast v28
  let c0_19 : Index := 0#32
  ![v33.toNat, 0]
def k0_off3 (i : grid0.Coords) : Fin 2 → Nat :=
  let c0_35 : Index := 0#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v63 : Index := Scalar.indexCast v28
  ![0, v63.toNat]
def k0_off4 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v74 : Index := Scalar.indexCast v28
  let c64 : Index := 64#32
  ![v74.toNat, 64]
def k0_off5 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v78 : Index := Scalar.indexCast v28
  let c1 : Index := 1#32
  ![v78.toNat, 1]
def k0_off6 (i : grid0.Coords) : Fin 2 → Nat :=
  let c64_60 : Index := 64#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v108 : Index := Scalar.indexCast v28
  ![64, v108.toNat]
def k0_off7 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v119 : Index := Scalar.indexCast v28
  let c128 : Index := 128#32
  ![v119.toNat, 128]
def k0_off8 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v123 : Index := Scalar.indexCast v28
  let c2 : Index := 2#32
  ![v123.toNat, 2]
def k0_off9 (i : grid0.Coords) : Fin 2 → Nat :=
  let c128_85 : Index := 128#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v153 : Index := Scalar.indexCast v28
  ![128, v153.toNat]
def k0_off10 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v164 : Index := Scalar.indexCast v28
  let c192 : Index := 192#32
  ![v164.toNat, 192]
def k0_off11 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v168 : Index := Scalar.indexCast v28
  let c3 : Index := 3#32
  ![v168.toNat, 3]
def k0_off12 (i : grid0.Coords) : Fin 2 → Nat :=
  let c192_110 : Index := 192#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v198 : Index := Scalar.indexCast v28
  ![192, v198.toNat]
def k0_off13 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v209 : Index := Scalar.indexCast v28
  let c256 : Index := 256#32
  ![v209.toNat, 256]
def k0_off14 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v213 : Index := Scalar.indexCast v28
  let c4 : Index := 4#32
  ![v213.toNat, 4]
def k0_off15 (i : grid0.Coords) : Fin 2 → Nat :=
  let c256_135 : Index := 256#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v243 : Index := Scalar.indexCast v28
  ![256, v243.toNat]
def k0_off16 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v254 : Index := Scalar.indexCast v28
  let c320 : Index := 320#32
  ![v254.toNat, 320]
def k0_off17 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v258 : Index := Scalar.indexCast v28
  let c5 : Index := 5#32
  ![v258.toNat, 5]
def k0_off18 (i : grid0.Coords) : Fin 2 → Nat :=
  let c320_160 : Index := 320#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v288 : Index := Scalar.indexCast v28
  ![320, v288.toNat]
def k0_off19 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v299 : Index := Scalar.indexCast v28
  let c384 : Index := 384#32
  ![v299.toNat, 384]
def k0_off20 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v303 : Index := Scalar.indexCast v28
  let c6 : Index := 6#32
  ![v303.toNat, 6]
def k0_off21 (i : grid0.Coords) : Fin 2 → Nat :=
  let c384_185 : Index := 384#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v333 : Index := Scalar.indexCast v28
  ![384, v333.toNat]
def k0_off22 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v344 : Index := Scalar.indexCast v28
  let c448 : Index := 448#32
  ![v344.toNat, 448]
def k0_off23 (i : grid0.Coords) : Fin 2 → Nat :=
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v348 : Index := Scalar.indexCast v28
  let c7 : Index := 7#32
  ![v348.toNat, 7]
def k0_off24 (i : grid0.Coords) : Fin 2 → Nat :=
  let c448_210 : Index := 448#32
  let arg1 : BitVec 32 := BitVec.ofNat 32 (i 1).val
  let c1_i32 : BitVec 32 := 1#32
  let v26 : BitVec 32 := Scalar.muli arg1 c1_i32
  let c1024_i32 : BitVec 32 := 1024#32
  let v27 : BitVec 32 := Scalar.muli v26 c1024_i32
  let v28 : BitVec 32 := v27
  let v378 : Index := Scalar.indexCast v28
  ![448, v378.toNat]
@[reducible] def k0_t1_loop (i : grid0.Coords) : Scf.Loop 32 :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_221 : BitVec 32 := 1#32
  ⟨c0_i32_219, v394, c1_i32_221⟩
def k0_mult2 (i : grid0.Coords) (k0_t1 : Fin (k0_t1_loop i).trips) : BitVec 32 :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  v463
def k0_off25 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v465 : Index := Scalar.indexCast v464
  let c0_284 : Index := 0#32
  ![v465.toNat, 0]
def k0_off26 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v469 : Index := Scalar.indexCast v464
  let c0_288 : Index := 0#32
  ![v469.toNat, 0]
def k0_off27 (i : grid0.Coords) (k0_t1 : Fin (k0_t1_loop i).trips) : Fin 2 → Nat :=
  let c0_302 : Index := 0#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v495 : Index := Scalar.indexCast v464
  ![0, v495.toNat]
def k0_off28 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v506 : Index := Scalar.indexCast v464
  let c64_309 : Index := 64#32
  ![v506.toNat, 64]
def k0_off29 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v510 : Index := Scalar.indexCast v464
  let c1_313 : Index := 1#32
  ![v510.toNat, 1]
def k0_off30 (i : grid0.Coords) (k0_t1 : Fin (k0_t1_loop i).trips) : Fin 2 → Nat :=
  let c64_327 : Index := 64#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v536 : Index := Scalar.indexCast v464
  ![64, v536.toNat]
def k0_off31 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v547 : Index := Scalar.indexCast v464
  let c128_334 : Index := 128#32
  ![v547.toNat, 128]
def k0_off32 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v551 : Index := Scalar.indexCast v464
  let c2_338 : Index := 2#32
  ![v551.toNat, 2]
def k0_off33 (i : grid0.Coords) (k0_t1 : Fin (k0_t1_loop i).trips) : Fin 2 → Nat :=
  let c128_352 : Index := 128#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v577 : Index := Scalar.indexCast v464
  ![128, v577.toNat]
def k0_off34 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v588 : Index := Scalar.indexCast v464
  let c192_359 : Index := 192#32
  ![v588.toNat, 192]
def k0_off35 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v592 : Index := Scalar.indexCast v464
  let c3_363 : Index := 3#32
  ![v592.toNat, 3]
def k0_off36 (i : grid0.Coords) (k0_t1 : Fin (k0_t1_loop i).trips) : Fin 2 → Nat :=
  let c192_377 : Index := 192#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v618 : Index := Scalar.indexCast v464
  ![192, v618.toNat]
def k0_off37 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v629 : Index := Scalar.indexCast v464
  let c256_384 : Index := 256#32
  ![v629.toNat, 256]
def k0_off38 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v633 : Index := Scalar.indexCast v464
  let c4_388 : Index := 4#32
  ![v633.toNat, 4]
def k0_off39 (i : grid0.Coords) (k0_t1 : Fin (k0_t1_loop i).trips) : Fin 2 → Nat :=
  let c256_402 : Index := 256#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v659 : Index := Scalar.indexCast v464
  ![256, v659.toNat]
def k0_off40 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v670 : Index := Scalar.indexCast v464
  let c320_409 : Index := 320#32
  ![v670.toNat, 320]
def k0_off41 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v674 : Index := Scalar.indexCast v464
  let c5_413 : Index := 5#32
  ![v674.toNat, 5]
def k0_off42 (i : grid0.Coords) (k0_t1 : Fin (k0_t1_loop i).trips) : Fin 2 → Nat :=
  let c320_427 : Index := 320#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v700 : Index := Scalar.indexCast v464
  ![320, v700.toNat]
def k0_off43 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v711 : Index := Scalar.indexCast v464
  let c384_434 : Index := 384#32
  ![v711.toNat, 384]
def k0_off44 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v715 : Index := Scalar.indexCast v464
  let c6_438 : Index := 6#32
  ![v715.toNat, 6]
def k0_off45 (i : grid0.Coords) (k0_t1 : Fin (k0_t1_loop i).trips) : Fin 2 → Nat :=
  let c384_452 : Index := 384#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v741 : Index := Scalar.indexCast v464
  ![384, v741.toNat]
def k0_off46 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v752 : Index := Scalar.indexCast v464
  let c448_459 : Index := 448#32
  ![v752.toNat, 448]
def k0_off47 (i : grid0.Coords) (k0_t1 : Fin (k0_t1_loop i).trips) : Fin 2 → Nat :=
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v756 : Index := Scalar.indexCast v464
  let c7_463 : Index := 7#32
  ![v756.toNat, 7]
def k0_off48 (i : grid0.Coords) (k0_t1 : Fin (k0_t1_loop i).trips) : Fin 2 → Nat :=
  let c448_477 : Index := 448#32
  let c0_i32_219 : BitVec 32 := 0#32
  let c1_i32_221 : BitVec 32 := 1#32
  let arg13 : BitVec 32 := Scf.iv c0_i32_219 c1_i32_221 k0_t1
  let c1024_i32_283 : BitVec 32 := 1024#32
  let v463 : BitVec 32 := Scalar.muli arg13 c1024_i32_283
  let v464 : BitVec 32 := v463
  let v782 : Index := Scalar.indexCast v464
  ![448, v782.toNat]
@[reducible] def k0_t2_loop (i : grid0.Coords) : Scf.Loop 32 :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let v391 : BitVec 32 := Scalar.addi c0_i32_219 v390
  let c1_i32_222 : BitVec 32 := 1#32
  ⟨v394, v391, c1_i32_222⟩
def k0_mult3 (i : grid0.Coords) (k0_t2 : Fin (k0_t2_loop i).trips) : BitVec 32 :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  v463
def k0_off49 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v465 : Index := Scalar.indexCast v464
  let c0_284 : Index := 0#32
  ![v465.toNat, 0]
def k0_off50 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v469 : Index := Scalar.indexCast v464
  let c0_288 : Index := 0#32
  ![v469.toNat, 0]
def k0_off51 (i : grid0.Coords) (k0_t2 : Fin (k0_t2_loop i).trips) : Fin 2 → Nat :=
  let c0_302 : Index := 0#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v495 : Index := Scalar.indexCast v464
  ![0, v495.toNat]
def k0_off52 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v506 : Index := Scalar.indexCast v464
  let c64_309 : Index := 64#32
  ![v506.toNat, 64]
def k0_off53 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v510 : Index := Scalar.indexCast v464
  let c1_313 : Index := 1#32
  ![v510.toNat, 1]
def k0_off54 (i : grid0.Coords) (k0_t2 : Fin (k0_t2_loop i).trips) : Fin 2 → Nat :=
  let c64_327 : Index := 64#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v536 : Index := Scalar.indexCast v464
  ![64, v536.toNat]
def k0_off55 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v547 : Index := Scalar.indexCast v464
  let c128_334 : Index := 128#32
  ![v547.toNat, 128]
def k0_off56 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v551 : Index := Scalar.indexCast v464
  let c2_338 : Index := 2#32
  ![v551.toNat, 2]
def k0_off57 (i : grid0.Coords) (k0_t2 : Fin (k0_t2_loop i).trips) : Fin 2 → Nat :=
  let c128_352 : Index := 128#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v577 : Index := Scalar.indexCast v464
  ![128, v577.toNat]
def k0_off58 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v588 : Index := Scalar.indexCast v464
  let c192_359 : Index := 192#32
  ![v588.toNat, 192]
def k0_off59 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v592 : Index := Scalar.indexCast v464
  let c3_363 : Index := 3#32
  ![v592.toNat, 3]
def k0_off60 (i : grid0.Coords) (k0_t2 : Fin (k0_t2_loop i).trips) : Fin 2 → Nat :=
  let c192_377 : Index := 192#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v618 : Index := Scalar.indexCast v464
  ![192, v618.toNat]
def k0_off61 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v629 : Index := Scalar.indexCast v464
  let c256_384 : Index := 256#32
  ![v629.toNat, 256]
def k0_off62 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v633 : Index := Scalar.indexCast v464
  let c4_388 : Index := 4#32
  ![v633.toNat, 4]
def k0_off63 (i : grid0.Coords) (k0_t2 : Fin (k0_t2_loop i).trips) : Fin 2 → Nat :=
  let c256_402 : Index := 256#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v659 : Index := Scalar.indexCast v464
  ![256, v659.toNat]
def k0_off64 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v670 : Index := Scalar.indexCast v464
  let c320_409 : Index := 320#32
  ![v670.toNat, 320]
def k0_off65 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v674 : Index := Scalar.indexCast v464
  let c5_413 : Index := 5#32
  ![v674.toNat, 5]
def k0_off66 (i : grid0.Coords) (k0_t2 : Fin (k0_t2_loop i).trips) : Fin 2 → Nat :=
  let c320_427 : Index := 320#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v700 : Index := Scalar.indexCast v464
  ![320, v700.toNat]
def k0_off67 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v711 : Index := Scalar.indexCast v464
  let c384_434 : Index := 384#32
  ![v711.toNat, 384]
def k0_off68 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v715 : Index := Scalar.indexCast v464
  let c6_438 : Index := 6#32
  ![v715.toNat, 6]
def k0_off69 (i : grid0.Coords) (k0_t2 : Fin (k0_t2_loop i).trips) : Fin 2 → Nat :=
  let c384_452 : Index := 384#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v741 : Index := Scalar.indexCast v464
  ![384, v741.toNat]
def k0_off70 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v752 : Index := Scalar.indexCast v464
  let c448_459 : Index := 448#32
  ![v752.toNat, 448]
def k0_off71 (i : grid0.Coords) (k0_t2 : Fin (k0_t2_loop i).trips) : Fin 2 → Nat :=
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v756 : Index := Scalar.indexCast v464
  let c7_463 : Index := 7#32
  ![v756.toNat, 7]
def k0_off72 (i : grid0.Coords) (k0_t2 : Fin (k0_t2_loop i).trips) : Fin 2 → Nat :=
  let c448_477 : Index := 448#32
  let c0_i32_219 : BitVec 32 := 0#32
  let arg1 : BitVec 32 := BitVec.ofNat 32 (i 1).val
  let c1_i32_217 : BitVec 32 := 1#32
  let v389 : BitVec 32 := Scalar.muli arg1 c1_i32_217
  let v390 : BitVec 32 := Scalar.subi v389 c0_i32_219
  let c1_i32_220 : BitVec 32 := 1#32
  let v392 : BitVec 32 := Scalar.divsi v390 c1_i32_220
  let v393 : BitVec 32 := Scalar.muli v392 c1_i32_220
  let v394 : BitVec 32 := Scalar.addi c0_i32_219 v393
  let c1_i32_222 : BitVec 32 := 1#32
  let arg13 : BitVec 32 := Scf.iv v394 c1_i32_222 k0_t2
  let c1024_i32_283 : BitVec 32 := 1024#32
  let v463 : BitVec 32 := Scalar.muli arg13 c1024_i32_283
  let v464 : BitVec 32 := v463
  let v782 : Index := Scalar.indexCast v464
  ![448, v782.toNat]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxPRefIdeal.lean ====
abbrev S17408x6144 : Shape := ⟨2, ![17408, 6144]⟩
abbrev S16384x128 : Shape := ⟨2, ![16384, 128]⟩
abbrev S16384x512 : Shape := ⟨2, ![16384, 512]⟩
abbrev S8x2048x8x64 : Shape := ⟨4, ![8, 2048, 8, 64]⟩
abbrev S16384x8 : Shape := ⟨2, ![16384, 8]⟩
abbrev S8x2048x8 : Shape := ⟨3, ![8, 2048, 8]⟩
abbrev S8x8x2048 : Shape := ⟨3, ![8, 8, 2048]⟩
abbrev S8x8x2048x2048 : Shape := ⟨4, ![8, 8, 2048, 2048]⟩
abbrev S_ : Shape := ⟨0, ![]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩

abbrev nBuf : Space → Nat
  | .hbm => 50
  | .vmem => 0
  | .smem => 0
  | _ => 0

abbrev bufTy : (tb : Table) → Fin (tcTables nBuf tb) → BufTy
  | .hbm, ⟨0, _⟩ => ⟨S17408x6144, .f32⟩
  | .hbm, ⟨1, _⟩ => ⟨S16384x128, .f32⟩
  | .hbm, ⟨2, _⟩ => ⟨S16384x512, .f32⟩
  | .hbm, ⟨3, _⟩ => ⟨S8x2048x8x64, .f32⟩
  | .hbm, ⟨4, _⟩ => ⟨S16384x512, .f32⟩
  | .hbm, ⟨5, _⟩ => ⟨S8x2048x8x64, .f32⟩
  | .hbm, ⟨6, _⟩ => ⟨S16384x512, .f32⟩
  | .hbm, ⟨7, _⟩ => ⟨S8x2048x8x64, .f32⟩
  | .hbm, ⟨8, _⟩ => ⟨S16384x8, .f32⟩
  | .hbm, ⟨9, _⟩ => ⟨S8x2048x8, .f32⟩
  | .hbm, ⟨10, _⟩ => ⟨S8x8x2048, .f32⟩
  | .hbm, ⟨11, _⟩ => ⟨S8x8x2048x2048, .f32⟩
  | .hbm, ⟨12, _⟩ => ⟨S_, .f32⟩
  | .hbm, ⟨13, _⟩ => ⟨S8x8x2048x2048, .f32⟩
  | .hbm, ⟨14, _⟩ => ⟨S8x8x2048x2048, .f32⟩
  | .hbm, ⟨15, _⟩ => ⟨S8x8x2048x1, .f32⟩
  | .hbm, ⟨16, _⟩ => ⟨S8x8x2048x2048, .f32⟩
  | .hbm, ⟨17, _⟩ => ⟨S8x8x2048x2048, .f32⟩
  | .hbm, ⟨18, _⟩ => ⟨S8x8x1x2048, .f32⟩
  | .hbm, ⟨19, _⟩ => ⟨S8x8x2048x2048, .f32⟩
  | .hbm, ⟨20, _⟩ => ⟨S8x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x8x2048x2048, .i1⟩
  | .hbm, ⟨30, _⟩ => ⟨S8x8x2048x2048, .f32⟩
  | .hbm, ⟨31, _⟩ => ⟨S8x8x2048x2048, .f32⟩
  | .hbm, ⟨32, _⟩ => ⟨S_, .f32⟩
  | .hbm, ⟨33, _⟩ => ⟨S8x8x2048, .f32⟩
  | .hbm, ⟨34, _⟩ => ⟨S_, .f32⟩
  | .hbm, ⟨35, _⟩ => ⟨S8x8x2048, .f32⟩
  | .hbm, ⟨36, _⟩ => ⟨S8x8x2048, .f32⟩
  | .hbm, ⟨37, _⟩ => ⟨S8x8x2048x1, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S8x8x2048, .f32⟩
  | .hbm, ⟨43, _⟩ => ⟨S8x8x2048x1, .f32⟩
  | .hbm, ⟨44, _⟩ => ⟨S8x8x2048x2048, .f32⟩
  | .hbm, ⟨45, _⟩ => ⟨S8x8x2048x2048, .f32⟩
  | .hbm, ⟨46, _⟩ => ⟨S8x8x64x2048, .f32⟩
  | .hbm, ⟨47, _⟩ => ⟨S8x2048x8x64, .f32⟩
  | .hbm, ⟨48, _⟩ => ⟨S16384x512, .f32⟩
  | .hbm, ⟨49, _⟩ => ⟨S16384x512, .bf16⟩
  | _, _ => ⟨S17408x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Ffn.lean ====
abbrev S17408x1024 : Shape := ⟨2, ![17408, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S4x1x1024, .f32⟩
  | .hbm, ⟨5, _⟩ => ⟨S4x1024x5632, .bf16⟩
  | .hbm, ⟨6, _⟩ => ⟨S4x2816x1024, .bf16⟩
  | .hbm, ⟨7, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S17408x1024 : Shape := ⟨2, ![17408, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x5632 : Shape := ⟨3, ![1, 1024, 5632]⟩
abbrev S1024x5632 : Shape := ⟨2, ![1024, 5632]⟩
abbrev S17408x5632 : Shape := ⟨2, ![17408, 5632]⟩
abbrev S17408x2816 : Shape := ⟨2, ![17408, 2816]⟩
abbrev S1x2816x1024 : Shape := ⟨3, ![1, 2816, 1024]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S17408x1024, .f32⟩
  | .hbm, ⟨7, _⟩ => ⟨S_, .f32⟩
  | .hbm, ⟨8, _⟩ => ⟨S17408, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S17408x1, .f32⟩
  | .hbm, ⟨17, _⟩ => ⟨S17408x1024, .f32⟩
  | .hbm, ⟨18, _⟩ => ⟨S17408x1024, .f32⟩
  | .hbm, ⟨19, _⟩ => ⟨S1x1024, .f32⟩
  | .hbm, ⟨20, _⟩ => ⟨S17408x1024, .f32⟩
  | .hbm, ⟨21, _⟩ => ⟨S17408x1024, .f32⟩
  | .hbm, ⟨22, _⟩ => ⟨S1x1024x5632, .f32⟩
  | .hbm, ⟨23, _⟩ => ⟨S1024x5632, .f32⟩
  | .hbm, ⟨24, _⟩ => ⟨S17408x5632, .f32⟩
  | .hbm, ⟨25, _⟩ => ⟨S17408x2816, .f32⟩
  | .hbm, ⟨26, _⟩ => ⟨S17408x2816, .f32⟩
  | .hbm, ⟨27, _⟩ => ⟨S17408x2816, .f32⟩
  | .hbm, ⟨28, _⟩ => ⟨S17408x2816, .f32⟩
  | .hbm, ⟨29, _⟩ => ⟨S_, .f32⟩
  | .hbm, ⟨30, _⟩ => ⟨S17408x2816, .f32⟩
  | .hbm, ⟨31, _⟩ => ⟨S17408x2816, .f32⟩
  | .hbm, ⟨32, _⟩ => ⟨S_, .f32⟩
  | .hbm, ⟨33, _⟩ => ⟨S17408x2816, .f32⟩
  | .hbm, ⟨34, _⟩ => ⟨S17408x2816, .f32⟩
  | .hbm, ⟨35, _⟩ => ⟨S17408x2816, .f32⟩
  | .hbm, ⟨36, _⟩ => ⟨S17408x2816, .f32⟩
  | .hbm, ⟨37, _⟩ => ⟨S1x2816x1024, .f32⟩
  | .hbm, ⟨38, _⟩ => ⟨S2816x1024, .f32⟩
  | .hbm, ⟨39, _⟩ => ⟨S17408x1024, .f32⟩
  | .hbm, ⟨40, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Merge.lean ====
abbrev S17408x1024 : Shape := ⟨2, ![17408, 1024]⟩
abbrev S4x1024 : Shape := ⟨2, ![4, 1024]⟩
abbrev S16384x512 : Shape := ⟨2, ![16384, 512]⟩
abbrev S1024x512 : Shape := ⟨2, ![1024, 512]⟩
abbrev S4x1024x4096 : Shape := ⟨3, ![4, 1024, 4096]⟩
abbrev S4x4x1024 : Shape := ⟨3, ![4, 4, 1024]⟩
abbrev S4x4x512x1024 : Shape := ⟨4, ![4, 4, 512, 1024]⟩
abbrev S4x1024x1024 : Shape := ⟨3, ![4, 1024, 1024]⟩
abbrev S4x1x1024 : Shape := ⟨3, ![4, 1, 1024]⟩
abbrev S4x4x1x1024 : Shape := ⟨4, ![4, 4, 1, 1024]⟩
abbrev S512x1024 : Shape := ⟨2, ![512, 1024]⟩
abbrev S1x1x1024 : Shape := ⟨3, ![1, 1, 1024]⟩
abbrev S512x512 : Shape := ⟨2, ![512, 512]⟩
abbrev S1x1024x4096 : Shape := ⟨3, ![1, 1024, 4096]⟩
abbrev S1x4x1x1024 : Shape := ⟨4, ![1, 4, 1, 1024]⟩
abbrev S1x4x512x1024 : Shape := ⟨4, ![1, 4, 512, 1024]⟩
abbrev S1x1024x1024 : Shape := ⟨3, ![1, 1024, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x1x1024 : Shape := ⟨4, ![1, 1, 1, 1024]⟩
abbrev S1x1x512x1024 : Shape := ⟨4, ![1, 1, 512, 1024]⟩

abbrev nBuf : Space → Nat
  | .hbm => 19
  | .vmem => 25
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S4x1024x4096, .bf16⟩
  | .hbm, ⟨11, _⟩ => ⟨S4x4x1024, .f32⟩
  | .hbm, ⟨12, _⟩ => ⟨S4x4x512x1024, .f32⟩
  | .hbm, ⟨13, _⟩ => ⟨S4x1024x1024, .f32⟩
  | .hbm, ⟨14, _⟩ => ⟨S4x1x1024, .f32⟩
  | .hbm, ⟨15, _⟩ => ⟨S4x4x1x1024, .f32⟩
  | .hbm, ⟨16, _⟩ => ⟨S4x4x512x1024, .bf16⟩
  | .hbm, ⟨17, _⟩ => ⟨S4x1024x1024, .bf16⟩
  | .hbm, ⟨18, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x1024x4096, .bf16⟩
  | .local _ .vmem, ⟨20, _⟩ => ⟨S1x4x1x1024, .f32⟩
  | .local _ .vmem, ⟨21, _⟩ => ⟨S1x4x512x1024, .bf16⟩
  | .local _ .vmem, ⟨22, _⟩ => ⟨S1x1024x1024, .bf16⟩
  | .local _ .vmem, ⟨23, _⟩ => ⟨S512x1024, .f32⟩
  | .local _ .vmem, ⟨24, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_12 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S17408x1024 : Shape := ⟨2, ![17408, 1024]⟩
abbrev S4x1024 : Shape := ⟨2, ![4, 1024]⟩
abbrev S16384x512 : Shape := ⟨2, ![16384, 512]⟩
abbrev S1024x512 : Shape := ⟨2, ![1024, 512]⟩
abbrev S4x1024x4096 : Shape := ⟨3, ![4, 1024, 4096]⟩
abbrev S4x4x1024 : Shape := ⟨3, ![4, 4, 1024]⟩
abbrev S4x4x512x1024 : Shape := ⟨4, ![4, 4, 512, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S17408x512 : Shape := ⟨2, ![17408, 512]⟩
abbrev S17408x1x512 : Shape := ⟨3, ![17408, 1, 512]⟩
abbrev S17408x4x512 : Shape := ⟨3, ![17408, 4, 512]⟩
abbrev S1x4x512x1024 : Shape := ⟨4, ![1, 4, 512, 1024]⟩
abbrev S4x512x1024 : Shape := ⟨3, ![4, 512, 1024]⟩
abbrev S4x1024x17408 : Shape := ⟨3, ![4, 1024, 17408]⟩
abbrev S17408x4x1024 : Shape := ⟨3, ![17408, 4, 1024]⟩
abbrev S1x1024x4096 : Shape := ⟨3, ![1, 1024, 4096]⟩
abbrev S1024x4096 : Shape := ⟨2, ![1024, 4096]⟩
abbrev S17408x4096 : Shape := ⟨2, ![17408, 4096]⟩
abbrev S1x4x1024 : Shape := ⟨3, ![1, 4, 1024]⟩
abbrev S1x1024x1024 : Shape := ⟨3, ![1, 1024, 1024]⟩
abbrev S1024x1024 : Shape := ⟨2, ![1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S4x1024x4096, .bf16⟩
  | .hbm, ⟨11, _⟩ => ⟨S4x4x1024, .f32⟩
  | .hbm, ⟨12, _⟩ => ⟨S4x4x512x1024, .f32⟩
  | .hbm, ⟨13, _⟩ => ⟨S4x1024x1024, .f32⟩
  | .hbm, ⟨14, _⟩ => ⟨S1x1024, .f32⟩
  | .hbm, ⟨15, _⟩ => ⟨S1024, .f32⟩
  | .hbm, ⟨16, _⟩ => ⟨S17408x1024, .f32⟩
  | .hbm, ⟨17, _⟩ => ⟨S_, .f32⟩
  | .hbm, ⟨18, _⟩ => ⟨S17408, .f32⟩
  | .hbm, ⟨19, _⟩ => ⟨S17408x1, .f32⟩
  | .hbm, ⟨20, _⟩ => ⟨S_, .f32⟩
  | .hbm, ⟨21, _⟩ => ⟨S17408x1, .f32⟩
  | .hbm, ⟨22, _⟩ => ⟨S17408x1, .f32⟩
  | .hbm, ⟨23, _⟩ => ⟨S_, .f32⟩
  | .hbm, ⟨24, _⟩ => ⟨S17408x1, .f32⟩
  | .hbm, ⟨25, _⟩ => ⟨S17408x1, .f32⟩
  | .hbm, ⟨26, _⟩ => ⟨S17408x1, .f32⟩
  | .hbm, ⟨27, _⟩ => ⟨S17408x1024, .f32⟩
  | .hbm, ⟨28, _⟩ => ⟨S17408x1024, .f32⟩
  | .hbm, ⟨29, _⟩ => ⟨S1x1024, .f32⟩
  | .hbm, ⟨30, _⟩ => ⟨S17408x1024, .f32⟩
  | .hbm, ⟨31, _⟩ => ⟨S17408x1024, .f32⟩
  | .hbm, ⟨32, _⟩ => ⟨S16384x512, .f32⟩
  | .hbm, ⟨33, _⟩ => ⟨S17408x512, .f32⟩
  | .hbm, ⟨34, _⟩ => ⟨S16384x512, .f32⟩
  | .hbm, ⟨35, _⟩ => ⟨S17408x512, .f32⟩
  | .hbm, ⟨36, _⟩ => ⟨S16384x512, .f32⟩
  | .hbm, ⟨37, _⟩ => ⟨S17408x512, .f32⟩
  | .hbm, ⟨38, _⟩ => ⟨S16384x512, .f32⟩
  | .hbm, ⟨39, _⟩ => ⟨S17408x512, .f32⟩
  | .hbm, ⟨40, _⟩ => ⟨S17408x1x512, .f32⟩
  | .hbm, ⟨41, _⟩ => ⟨S17408x1x512, .f32⟩
  | .hbm, ⟨42, _⟩ => ⟨S17408x1x512, .f32⟩
  | .hbm, ⟨43, _⟩ => ⟨S17408x1x512, .f32⟩
  | .hbm, ⟨44, _⟩ => ⟨S17408x4x512, .f32⟩
  | .hbm, ⟨45, _⟩ => ⟨S1x4x512x1024, .f32⟩
  | .hbm, ⟨46, _⟩ => ⟨S4x512x1024, .f32⟩
  | .hbm, ⟨47, _⟩ => ⟨S4x1024x17408, .f32⟩
  | .hbm, ⟨48, _⟩ => ⟨S17408x4x1024, .f32⟩
  | .hbm, ⟨49, _⟩ => ⟨S1x1024x4096, .bf16⟩
  | .hbm, ⟨50, _⟩ => ⟨S1024x4096, .bf16⟩
  | .hbm, ⟨51, _⟩ => ⟨S1024x4096, .f32⟩
  | .hbm, ⟨52, _⟩ => ⟨S17408x4096, .f32⟩
  | .hbm, ⟨53, _⟩ => ⟨S17408x4x1024, .f32⟩
  | .hbm, ⟨54, _⟩ => ⟨S1x4x1024, .f32⟩
  | .hbm, ⟨55, _⟩ => ⟨S4x1024, .f32⟩
  | .hbm, ⟨56, _⟩ => ⟨S1x4x1024, .f32⟩
  | .hbm, ⟨57, _⟩ => ⟨S17408x4x1024, .f32⟩
  | .hbm, ⟨58, _⟩ => ⟨S17408x4x1024, .f32⟩
  | .hbm, ⟨59, _⟩ => ⟨S17408x4x1024, .f32⟩
  | .hbm, ⟨60, _⟩ => ⟨S17408x4x1024, .f32⟩
  | .hbm, ⟨61, _⟩ => ⟨S_, .f32⟩
  | .hbm, ⟨62, _⟩ => ⟨S17408x4x1024, .f32⟩
  | .hbm, ⟨63, _⟩ => ⟨S17408x4x1024, .f32⟩
  | .hbm, ⟨64, _⟩ => ⟨S_, .f32⟩
  | .hbm, ⟨65, _⟩ => ⟨S17408x4x1024, .f32⟩
  | .hbm, ⟨66, _⟩ => ⟨S17408x4x1024, .f32⟩
  | .hbm, ⟨67, _⟩ => ⟨S17408x4x1024, .f32⟩
  | .hbm, ⟨68, _⟩ => ⟨S_, .f32⟩
  | .hbm, ⟨69, _⟩ => ⟨S17408x1024, .f32⟩
  | .hbm, ⟨70, _⟩ => ⟨S1x1024x1024, .f32⟩
  | .hbm, ⟨71, _⟩ => ⟨S1024x1024, .f32⟩
  | .hbm, ⟨72, _⟩ => ⟨S17408x1024, .f32⟩
  | .hbm, ⟨73, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Mix.lean ====
abbrev S17408x1024 : Shape := ⟨2, ![17408, 1024]⟩
abbrev S4x1024 : Shape := ⟨2, ![4, 1024]⟩
abbrev S4x1024x6144 : Shape := ⟨3, ![4, 1024, 6144]⟩
abbrev S4x1x1024 : Shape := ⟨3, ![4, 1, 1024]⟩
abbrev S17408x6144 : Shape := ⟨2, ![17408, 6144]⟩
abbrev S512x1024 : Shape := ⟨2, ![512, 1024]⟩
abbrev S1x1x1024 : Shape := ⟨3, ![1, 1, 1024]⟩
abbrev S1x1024x6144 : Shape := ⟨3, ![1, 1024, 6144]⟩
abbrev S512x6144 : Shape := ⟨2, ![512, 6144]⟩
abbrev S1x1024 : Shape := ⟨2, ![1, 1024]⟩
abbrev S512 : Shape := ⟨1, ![512]⟩
abbrev S512x1 : Shape := ⟨2, ![512, 1]⟩
abbrev S1024x6144 : Shape := ⟨2, ![1024, 6144]⟩

abbrev nBuf : Space → Nat
  | .hbm => 5
  | .vmem => 6
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x6144, .bf16⟩
  | .hbm, ⟨3, _⟩ => ⟨S4x1x1024, .f32⟩
  | .hbm, ⟨4, _⟩ => ⟨S17408x6144, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x6144, .bf16⟩
  | .local _ .vmem, ⟨4, _⟩ => ⟨S512x6144, .f32⟩
  | .local _ .vmem, ⟨5, _⟩ => ⟨S512x6144, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixRefIdeal.lean ====
abbrev S17408x1024 : Shape := ⟨2, ![17408, 1024]⟩
abbrev S4x1024 : Shape := ⟨2, ![4, 1024]⟩
abbrev S4x1024x6144 : Shape := ⟨3, ![4, 1024, 6144]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x6144 : Shape := ⟨3, ![1, 1024, 6144]⟩
abbrev S1024x6144 : Shape := ⟨2, ![1024, 6144]⟩
abbrev S17408x6144 : Shape := ⟨2, ![17408, 6144]⟩

abbrev nBuf : Space → Nat
  | .hbm => 25
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x6144, .bf16⟩
  | .hbm, ⟨3, _⟩ => ⟨S1x1024, .f32⟩
  | .hbm, ⟨4, _⟩ => ⟨S1024, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S1x1024x6144, .bf16⟩
  | .hbm, ⟨22, _⟩ => ⟨S1024x6144, .bf16⟩
  | .hbm, ⟨23, _⟩ => ⟨S1024x6144, .f32⟩
  | .hbm, ⟨24, _⟩ => ⟨S17408x6144, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Xq.lean ====
abbrev S17408x1024 : Shape := ⟨2, ![17408, 1024]⟩
abbrev S4x1024 : Shape := ⟨2, ![4, 1024]⟩
abbrev S4x1024x1024 : Shape := ⟨3, ![4, 1024, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x1024, .f32⟩
  | .hbm, ⟨3, _⟩ => ⟨S4x1x1024, .f32⟩
  | .hbm, ⟨4, _⟩ => ⟨S4x1024x1024, .bf16⟩
  | .hbm, ⟨5, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XqRefIdeal.lean ====
abbrev S17408x1024 : Shape := ⟨2, ![17408, 1024]⟩
abbrev S4x1024 : Shape := ⟨2, ![4, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x1024 : Shape := ⟨3, ![1, 1024, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x1024, .f32⟩
  | .hbm, ⟨3, _⟩ => ⟨S1x1024, .f32⟩
  | .hbm, ⟨4, _⟩ => ⟨S1024, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S1x1024x1024, .f32⟩
  | .hbm, ⟨22, _⟩ => ⟨S1024x1024, .f32⟩
  | .hbm, ⟨23, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kv.lean ====
abbrev S8x256x1024 : Shape := ⟨3, ![8, 256, 1024]⟩
abbrev S4x1024 : Shape := ⟨2, ![4, 1024]⟩
abbrev S4x1024x2048 : Shape := ⟨3, ![4, 1024, 2048]⟩
abbrev S2048x1024 : Shape := ⟨2, ![2048, 1024]⟩
abbrev S4x1x1024 : Shape := ⟨3, ![4, 1, 1024]⟩
abbrev S2x2048x1024 : Shape := ⟨3, ![2, 2048, 1024]⟩
abbrev S1024x1024 : Shape := ⟨2, ![1024, 1024]⟩
abbrev S1x1x1024 : Shape := ⟨3, ![1, 1, 1024]⟩
abbrev S1x1024x2048 : Shape := ⟨3, ![1, 1024, 2048]⟩
abbrev S2x1024x1024 : Shape := ⟨3, ![2, 1024, 1024]⟩
abbrev S1x1024 : Shape := ⟨2, ![1, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x2048, .f32⟩
  | .hbm, ⟨3, _⟩ => ⟨S2048x1024, .f32⟩
  | .hbm, ⟨4, _⟩ => ⟨S4x1x1024, .f32⟩
  | .hbm, ⟨5, _⟩ => ⟨S4x1024x2048, .bf16⟩
  | .hbm, ⟨6, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S2x1024x1024, .f32⟩
  | .local _ .vmem, ⟨5, _⟩ => ⟨S2x1024x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvRefIdeal.lean ====
abbrev S8x256x1024 : Shape := ⟨3, ![8, 256, 1024]⟩
abbrev S4x1024 : Shape := ⟨2, ![4, 1024]⟩
abbrev S4x1024x2048 : Shape := ⟨3, ![4, 1024, 2048]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S8x256x2048 : Shape := ⟨3, ![8, 256, 2048]⟩
abbrev S1x8x256x1024 : Shape := ⟨4, ![1, 8, 256, 1024]⟩
abbrev S2x8x256x1024 : Shape := ⟨4, ![2, 8, 256, 1024]⟩
abbrev S2x2048x1024 : Shape := ⟨3, ![2, 2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x2048, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x2048, .f32⟩
  | .hbm, ⟨22, _⟩ => ⟨S1024x2048, .f32⟩
  | .hbm, ⟨23, _⟩ => ⟨S8x256x2048, .f32⟩
  | .hbm, ⟨24, _⟩ => ⟨S8x256x1024, .f32⟩
  | .hbm, ⟨25, _⟩ => ⟨S8x256x1024, .f32⟩
  | .hbm, ⟨26, _⟩ => ⟨S1x8x256x1024, .f32⟩
  | .hbm, ⟨27, _⟩ => ⟨S1x8x256x1024, .f32⟩
  | .hbm, ⟨28, _⟩ => ⟨S2x8x256x1024, .f32⟩
  | .hbm, ⟨29, _⟩ => ⟨S2x2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== XaP.lean ====
abbrev S17408x1024 : Shape := ⟨2, ![17408, 1024]⟩
abbrev S2x8x256x1024 : Shape := ⟨4, ![2, 8, 256, 1024]⟩
abbrev S16384x1024 : Shape := ⟨2, ![16384, 1024]⟩
abbrev S512x1024 : Shape := ⟨2, ![512, 1024]⟩
abbrev S1x1x256x1024 : Shape := ⟨4, ![1, 1, 256, 1024]⟩
abbrev S512x256 : Shape := ⟨2, ![512, 256]⟩
abbrev S1x1x256x256 : Shape := ⟨4, ![1, 1, 256, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S2x8x256x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S512x1024, .bf16⟩
  | .local _ .vmem, ⟨7, _⟩ => ⟨S512x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XaPRefIdeal.lean ====
abbrev S17408x1024 : Shape := ⟨2, ![17408, 1024]⟩
abbrev S2x8x256x1024 : Shape := ⟨4, ![2, 8, 256, 1024]⟩
abbrev S16384x1024 : Shape := ⟨2, ![16384, 1024]⟩
abbrev S8x2048x4x256 : Shape := ⟨4, ![8, 2048, 4, 256]⟩
abbrev S1x8x256x1024 : Shape := ⟨4, ![1, 8, 256, 1024]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x8x256x1024, .f32⟩
  | .hbm, ⟨2, _⟩ => ⟨S16384x1024, .f32⟩
  | .hbm, ⟨3, _⟩ => ⟨S8x2048x4x256, .f32⟩
  | .hbm, ⟨4, _⟩ => ⟨S1x8x256x1024, .f32⟩
  | .hbm, ⟨5, _⟩ => ⟨S8x256x1024, .f32⟩
  | .hbm, ⟨6, _⟩ => ⟨S8x256x4x256, .f32⟩
  | .hbm, ⟨7, _⟩ => ⟨S1x8x256x1024, .f32⟩
  | .hbm, ⟨8, _⟩ => ⟨S8x256x1024, .f32⟩
  | .hbm, ⟨9, _⟩ => ⟨S8x256x4x256, .f32⟩
  | .hbm, ⟨10, _⟩ => ⟨S8x4x2048x256, .f32⟩
  | .hbm, ⟨11, _⟩ => ⟨S_, .f32⟩
  | .hbm, ⟨12, _⟩ => ⟨S8x4x2048x256, .f32⟩
  | .hbm, ⟨13, _⟩ => ⟨S8x4x2048x256, .f32⟩
  | .hbm, ⟨14, _⟩ => ⟨S_, .f32⟩
  | .hbm, ⟨15, _⟩ => ⟨S8x4x2048, .f32⟩
  | .hbm, ⟨16, _⟩ => ⟨S_, .f32⟩
  | .hbm, ⟨17, _⟩ => ⟨S8x4x2048, .f32⟩
  | .hbm, ⟨18, _⟩ => ⟨S8x4x2048, .f32⟩
  | .hbm, ⟨19, _⟩ => ⟨S8x4x2048x1, .f32⟩
  | .hbm, ⟨20, _⟩ => ⟨S8x4x2048x256, .f32⟩
  | .hbm, ⟨21, _⟩ => ⟨S8x4x2048x256, .f32⟩
  | .hbm, ⟨22, _⟩ => ⟨S8x4x2048x256, .f32⟩
  | .hbm, ⟨23, _⟩ => ⟨S_, .f32⟩
  | .hbm, ⟨24, _⟩ => ⟨S8x4x2048, .f32⟩
  | .hbm, ⟨25, _⟩ => ⟨S8x4x2048x1, .f32⟩
  | .hbm, ⟨26, _⟩ => ⟨S8x4x2048x256, .f32⟩
  | .hbm, ⟨27, _⟩ => ⟨S8x4x2048x256, .f32⟩
  | .hbm, ⟨28, _⟩ => ⟨S8x4x256x2048, .f32⟩
  | .hbm, ⟨29, _⟩ => ⟨S8x2048x4x256, .f32⟩
  | .hbm, ⟨30, _⟩ => ⟨S16384x1024, .f32⟩
  | .hbm, ⟨31, _⟩ => ⟨S16384x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Xo.lean ====
abbrev S17408x1024 : Shape := ⟨2, ![17408, 1024]⟩
abbrev S16384x1024 : Shape := ⟨2, ![16384, 1024]⟩
abbrev S1024x1024 : Shape := ⟨2, ![1024, 1024]⟩
abbrev S4x1024x1024 : Shape := ⟨3, ![4, 1024, 1024]⟩
abbrev S1x1024x1024 : Shape := ⟨3, ![1, 1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S16384x1024, .bf16⟩
  | .hbm, ⟨2, _⟩ => ⟨S1024x1024, .f32⟩
  | .hbm, ⟨3, _⟩ => ⟨S4x1024x1024, .f32⟩
  | .hbm, ⟨4, _⟩ => ⟨S4x1024x1024, .bf16⟩
  | .hbm, ⟨5, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XoRefIdeal.lean ====
abbrev S17408x1024 : Shape := ⟨2, ![17408, 1024]⟩
abbrev S16384x1024 : Shape := ⟨2, ![16384, 1024]⟩
abbrev S1024x1024 : Shape := ⟨2, ![1024, 1024]⟩
abbrev S4x1024x1024 : Shape := ⟨3, ![4, 1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .bf16⟩
  | .hbm, ⟨2, _⟩ => ⟨S1024x1024, .f32⟩
  | .hbm, ⟨3, _⟩ => ⟨S4x1024x1024, .f32⟩
  | .hbm, ⟨4, _⟩ => ⟨S16384x1024, .f32⟩
  | .hbm, ⟨5, _⟩ => ⟨S17408x1024, .f32⟩
  | .hbm, ⟨6, _⟩ => ⟨S1x1024x1024, .f32⟩
  | .hbm, ⟨7, _⟩ => ⟨S1024x1024, .f32⟩
  | .hbm, ⟨8, _⟩ => ⟨S17408x1024, .f32⟩
  | .hbm, ⟨9, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.FoxPSoft.lean ====
/- Softmax attention worked out over two blocks of keys in turn, over the extended reals. -/
module

public import Idealize.ShloMosaic.Lib.Pipeline.ValueKit
public import Idealize.ShloMosaic.Lib.Pointwise

@[expose] public section

noncomputable section

namespace Cert.Soft

open Idealize.ShloMosaic

/-- The largest of a row of scores. -/
def top {n : Nat} (f : Fin n → EReal) : EReal := Finset.fold max (Ideal.ofBits .f32 4286578688#32) f Finset.univ

/-- Softmax of a row of scores, weighing a row of values. -/
def attn {n : Nat} (b v : Fin n → EReal) : EReal :=
  ∑ s, Ideal.div (Ideal.exp (b s - top b)) (∑ z, Ideal.exp (b z - top b)) * v s

/-- The running maximum after a block of scores. -/
def stepM {n : Nat} (m : EReal) (s : Fin n → EReal) : EReal := max m (top s)

/-- The running sum of exponentials after a block of scores. -/
def stepL {n : Nat} (m l : EReal) (s : Fin n → EReal) : EReal :=
  Ideal.exp (m - stepM m s) * l + ∑ j, Ideal.exp (s j - stepM m s)

/-- The running weighted sum after a block of scores. -/
def stepA {n : Nat} (m a : EReal) (s v : Fin n → EReal) : EReal :=
  Ideal.exp (m - stepM m s) * a + ∑ j, v j * Ideal.exp (s j - stepM m s)

theorem bits_bot : Ideal.ofBits .f32 4286578688#32 = (⊥ : EReal) := by
  simp [Ideal.ofBits, Ideal.ieee]

/-- The scale of the queries is a real. -/
theorem bits_eighth : ∃ r : ℝ, Ideal.ofBits .f32 1040187392#32 = (r : EReal) := by
  simp [Ideal.ofBits, Ideal.ieee]
  exact ⟨_, (EReal.coe_mul _ _).symm⟩

theorem top_eq {n : Nat} (f : Fin n → EReal) : top f = Finset.univ.sup f := by
  unfold top
  rw [bits_bot]
  rfl

theorem le_top {n : Nat} (f : Fin n → EReal) (s : Fin n) : f s ≤ top f := by
  rw [top_eq]
  exact Finset.le_sup (Finset.mem_univ s)

theorem top_le {n : Nat} {f : Fin n → EReal} {x : EReal} (h : ∀ s, f s ≤ x) : top f ≤ x := by
  rw [top_eq]
  exact Finset.sup_le fun s _ => h s

/-- A real or the least element. -/
def Low (x : EReal) : Prop := x ≠ ⊤

theorem top_real {n : Nat} {f : Fin n → EReal} (h : ∀ s, f s ≠ ⊤) {s0 : Fin n} (h0 : f s0 ≠ ⊥) :
    ∃ r : ℝ, top f = r := by
  have h1 : top f ≠ ⊤ := by
    rw [top_eq]
    exact ne_of_lt ((Finset.sup_lt_iff bot_lt_top).mpr fun s _ => lt_top_iff_ne_top.mpr (h s))
  have h2 : top f ≠ ⊥ := fun e => h0 (le_bot_iff.mp (e ▸ le_top f s0))
  exact ⟨(top f).toReal, (EReal.coe_toReal h1 h2).symm⟩

theorem exp_nonneg (x : EReal) : 0 ≤ Ideal.exp x := by
  induction x using EReal.rec with
  | bot => exact le_rfl
  | coe r => exact EReal.coe_nonneg.mpr (Real.exp_pos r).le
  | top => exact le_of_lt EReal.zero_lt_top

theorem exp_ne_top {x : EReal} (h : x ≠ ⊤) : Ideal.exp x ≠ ⊤ := by
  induction x using EReal.rec with
  | bot => exact EReal.zero_ne_top
  | coe r => exact EReal.coe_ne_top _
  | top => exact absurd rfl h

theorem sub_real_ne_top {x : EReal} (h : x ≠ ⊤) (m : ℝ) : x - (m : EReal) ≠ ⊤ := by
  induction x using EReal.rec with
  | bot => rw [EReal.bot_sub]; exact bot_ne_top
  | coe r => rw [← EReal.coe_sub]; exact EReal.coe_ne_top _
  | top => exact absurd rfl h

/-- Rescaling an exponential from one maximum to another. -/
theorem exp_scale {x : EReal} (h : x ≠ ⊤) (m m' : ℝ) :
    Ideal.exp ((m : EReal) - m') * Ideal.exp (x - m) = Ideal.exp (x - m') := by
  induction x using EReal.rec with
  | bot =>
    rw [EReal.bot_sub, EReal.bot_sub]
    exact mul_zero _
  | coe r =>
    rw [← EReal.coe_sub, ← EReal.coe_sub, ← EReal.coe_sub]
    show ((Real.exp (m - m') : ℝ) : EReal) * ((Real.exp (r - m) : ℝ) : EReal) = ((Real.exp (r - m') : ℝ) : EReal)
    rw [← EReal.coe_mul, ← Real.exp_add]
    congr 2
    ring
  | top => exact absurd rfl h

theorem mul_sum_nonneg {n : Nat} {x : EReal} (h : 0 ≤ x) (ht : x ≠ ⊤) (f : Fin n → EReal) (S : Finset (Fin n)) :
    x * ∑ s ∈ S, f s = ∑ s ∈ S, x * f s := by
  classical
  induction S using Finset.induction_on with
  | empty => simp
  | insert a S ha ih =>
    rw [Finset.sum_insert ha, Finset.sum_insert ha, EReal.left_distrib_of_nonneg_of_ne_top h ht, ih]

/-- The running sums divided are the attention, given the sums over all the keys at a real maximum. -/
theorem quotient {n : Nat} (a v b : Fin n → EReal) (m c : ℝ) (hb : ∀ s, b s = a s + c) (ha : ∀ s, a s ≠ ⊤)
    (hm : top a = m) (s0 : Fin n) (h0 : a s0 ≠ ⊥) :
    Ideal.div (∑ s, v s * Ideal.exp (a s - m)) (∑ s, Ideal.exp (a s - m)) = attn b v := by
  have htop : top b = m + c := by
    refine le_antisymm (top_le fun s => ?_) ?_
    · rw [hb, ← hm]
      exact add_le_add_left (le_top a s) _
    · have h : top a ≤ top b - c := top_le fun s => by
        rw [EReal.le_sub_iff_add_le (Or.inl (EReal.coe_ne_bot c)) (Or.inl (EReal.coe_ne_top c)), ← hb]
        exact le_top b s
      rw [hm, EReal.le_sub_iff_add_le (Or.inl (EReal.coe_ne_bot c)) (Or.inl (EReal.coe_ne_top c))] at h
      exact h
  have hw : ∀ s, Ideal.exp (b s - top b) = Ideal.exp (a s - m) := by
    intro s
    rw [htop, hb]
    congr 1
    have h1 := ha s
    generalize a s = x at h1
    induction x using EReal.rec with
    | bot => simp
    | coe r =>
      rw [← EReal.coe_add, ← EReal.coe_add, ← EReal.coe_sub, ← EReal.coe_sub]
      congr 1
      ring
    | top => exact absurd rfl h1
  unfold attn
  simp only [hw]
  have hnn : ∀ s, 0 ≤ Ideal.exp (a s - m) := fun s => exp_nonneg _
  have hpos : 0 < ∑ s, Ideal.exp (a s - m) := by
    refine lt_of_lt_of_le ?_ (Finset.single_le_sum (f := fun s => Ideal.exp (a s - m)) (fun s _ => hnn s) (Finset.mem_univ s0))
    have h1 := ha s0
    generalize a s0 = x at h0 h1
    induction x using EReal.rec with
    | bot => exact absurd rfl h0
    | coe r =>
      show 0 < Ideal.exp ((r : EReal) - m)
      rw [← EReal.coe_sub]
      exact EReal.coe_pos.mpr (Real.exp_pos _)
    | top => exact absurd rfl h1
  generalize (∑ s, Ideal.exp (a s - m)) = L at hpos
  have hL : L ≠ 0 := ne_of_gt hpos
  have hi : 0 ≤ L⁻¹ := EReal.inv_nonneg_of_nonneg hpos.le
  have hit : L⁻¹ ≠ ⊤ := by
    induction L using EReal.rec with
    | bot => simp
    | coe r => rw [← EReal.coe_inv]; exact EReal.coe_ne_top _
    | top => simp
  unfold Ideal.div
  simp only [if_neg hL]
  rw [mul_comm, mul_sum_nonneg hi hit]
  refine Finset.sum_congr rfl fun s _ => ?_
  rw [mul_comm (Ideal.exp _) L⁻¹, mul_assoc, mul_comm (v s)]

/-- Two rows of 1024 laid one after the other. -/
def join (f d : Fin 1024 → EReal) (s : Fin 2048) : EReal := if h : s.val < 1024 then f ⟨s.val, h⟩ else d ⟨s.val - 1024, by omega⟩

theorem join_lt (f d : Fin 1024 → EReal) {s : Fin 2048} (h : s.val < 1024) : join f d s = f ⟨s.val, h⟩ := dif_pos h

theorem join_ge (f d : Fin 1024 → EReal) {s : Fin 2048} (h : ¬s.val < 1024) : join f d s = d ⟨s.val - 1024, by omega⟩ := dif_neg h

theorem join_lo (f d : Fin 1024 → EReal) (s : Fin 1024) : join f d (Fin.castAdd 1024 s) = f s := join_lt f d s.isLt

theorem join_hi (f d : Fin 1024 → EReal) (s : Fin 1024) : join f d (Fin.natAdd 1024 s) = d s :=
  (join_ge f d (by simp)).trans (congrArg d (Fin.ext (by simp)))

/-- One block, from nothing. -/
theorem one_block {n : Nat} (a v b : Fin n → EReal) (c : ℝ) (hb : ∀ s, b s = a s + c) (ha : ∀ s, a s ≠ ⊤)
    (s0 : Fin n) (h0 : a s0 ≠ ⊥) :
    stepM ⊥ a = top a ∧ stepL ⊥ 0 a = ∑ s, Ideal.exp (a s - top a) ∧ stepA ⊥ 0 a v = ∑ s, v s * Ideal.exp (a s - top a) := by
  have h : stepM ⊥ a = top a := max_eq_right bot_le
  refine ⟨h, ?_, ?_⟩
  · unfold stepL
    rw [h, mul_zero, zero_add]
  · unfold stepA
    rw [h, mul_zero, zero_add]

/-- The first block of two alone: the second block's scores are all the least element. -/
theorem first_only (a v : Fin 1024 → EReal) (b w : Fin 2048 → EReal) (c : ℝ)
    (hb : ∀ s : Fin 1024, b ⟨s.val, by omega⟩ = a s + c) (hb' : ∀ s : Fin 1024, b ⟨1024 + s.val, by omega⟩ = ⊥)
    (hw : ∀ s : Fin 1024, w ⟨s.val, by omega⟩ = v s)
    (ha : ∀ s, a s ≠ ⊤) (s0 : Fin 1024) (h0 : a s0 ≠ ⊥) :
    Ideal.div (stepA ⊥ 0 a v) (stepL ⊥ 0 a) = attn b w := by
  obtain ⟨m, hm⟩ := top_real ha h0
  obtain ⟨-, hl, hacc⟩ := one_block a v (fun s => a s + c) c (fun _ => rfl) ha s0 h0
  rw [hl, hacc, hm]
  obtain ⟨a', ea⟩ : ∃ a', a' = join a (fun _ => ⊥) := ⟨_, rfl⟩
  have lt : ∀ {s : Fin 2048} (h : s.val < 1024), a' s = a ⟨s.val, h⟩ := fun h => by rw [ea]; exact join_lt _ _ h
  have ge : ∀ {s : Fin 2048} (h : ¬s.val < 1024), a' s = ⊥ := fun h => by rw [ea]; exact join_ge _ _ h
  have lo : ∀ s : Fin 1024, a' (Fin.castAdd 1024 s) = a s := fun s => by rw [ea]; exact join_lo _ _ s
  have hi : ∀ s : Fin 1024, a' (Fin.natAdd 1024 s) = ⊥ := fun s => by rw [ea]; exact join_hi _ _ s
  have ht : top a' = m := by
    rw [← hm]
    refine le_antisymm (top_le fun s => ?_) (top_le fun s => ?_)
    · by_cases h : s.val < 1024
      · rw [lt h]; exact le_top a _
      · rw [ge h]; exact bot_le
    · rw [← lo s]
      exact le_top a' _
  have e := quotient a' w b m c (fun s => by
      by_cases h : s.val < 1024
      · exact (hb ⟨s.val, h⟩).trans (congrArg (· + (c : EReal)) (lt h).symm)
      · have e1 := hb' ⟨s.val - 1024, by omega⟩
        have e2 : (⟨1024 + (s.val - 1024), by omega⟩ : Fin 2048) = s := Fin.ext (by show 1024 + (s.val - 1024) = s.val; omega)
        rw [e2] at e1
        rw [e1, ge h, EReal.bot_add])
    (fun s => by
      by_cases h : s.val < 1024
      · rw [lt h]; exact ha _
      · rw [ge h]; exact bot_ne_top) ht (Fin.castAdd 1024 s0) (by rw [lo]; exact h0)
  rw [← e, Fin.sum_univ_add (a := 1024) (b := 1024), Fin.sum_univ_add (a := 1024) (b := 1024) (f := fun s => Ideal.exp _)]
  simp only [lo, hi]
  have z : Ideal.exp (⊥ - (m : EReal)) = 0 := by rw [EReal.bot_sub]; rfl
  simp only [z, mul_zero, Finset.sum_const_zero, add_zero]
  congr 1
  exact Finset.sum_congr rfl fun s _ => congrArg (· * _) (hw s).symm

/-- The second block first, then the first block. -/
theorem two_blocks (d vd f vf : Fin 1024 → EReal) (b w : Fin 2048 → EReal) (c : ℝ)
    (hb : ∀ s : Fin 1024, b ⟨s.val, by omega⟩ = f s + c) (hb' : ∀ s : Fin 1024, b ⟨1024 + s.val, by omega⟩ = d s + c)
    (hw : ∀ s : Fin 1024, w ⟨s.val, by omega⟩ = vf s) (hw' : ∀ s : Fin 1024, w ⟨1024 + s.val, by omega⟩ = vd s)
    (hd : ∀ s, d s ≠ ⊤) (hf : ∀ s, f s ≠ ⊤) (s0 : Fin 1024) (h0 : d s0 ≠ ⊥) :
    Ideal.div (stepA (stepM ⊥ d) (stepA ⊥ 0 d vd) f vf) (stepL (stepM ⊥ d) (stepL ⊥ 0 d) f) = attn b w := by
  obtain ⟨m, hm⟩ := top_real hd h0
  obtain ⟨h1, hl, hacc⟩ := one_block d vd (fun s => d s + c) c (fun _ => rfl) hd s0 h0
  rw [hl, hacc, h1, hm]
  obtain ⟨a', ea⟩ : ∃ a', a' = join f d := ⟨_, rfl⟩
  have lt : ∀ {s : Fin 2048} (h : s.val < 1024), a' s = f ⟨s.val, h⟩ := fun h => by rw [ea]; exact join_lt _ _ h
  have ge : ∀ {s : Fin 2048} (h : ¬s.val < 1024), a' s = d ⟨s.val - 1024, by omega⟩ := fun h => by rw [ea]; exact join_ge _ _ h
  have lo : ∀ s : Fin 1024, a' (Fin.castAdd 1024 s) = f s := fun s => by rw [ea]; exact join_lo _ _ s
  have hi : ∀ s : Fin 1024, a' (Fin.natAdd 1024 s) = d s := fun s => by rw [ea]; exact join_hi _ _ s
  have hna : ∀ s, a' s ≠ ⊤ := fun s => by
    by_cases h : s.val < 1024
    · rw [lt h]; exact hf _
    · rw [ge h]; exact hd _
  have ht : top a' = stepM (m : EReal) f := by
    unfold stepM
    rw [← hm]
    refine le_antisymm (top_le fun s => ?_) (max_le (top_le fun s => ?_) (top_le fun s => ?_))
    · by_cases h : s.val < 1024
      · rw [lt h]; exact le_max_of_le_right (le_top f _)
      · rw [ge h]; exact le_max_of_le_left (le_top d _)
    · rw [← hi s]
      exact le_top a' _
    · rw [← lo s]
      exact le_top a' _
  obtain ⟨m', hm'⟩ := top_real hna (s0 := Fin.natAdd 1024 s0) (by rw [hi]; exact h0)
  have e := quotient a' w b m' c (fun s => by
      by_cases h : s.val < 1024
      · exact (hb ⟨s.val, h⟩).trans (congrArg (· + (c : EReal)) (lt h).symm)
      · have e1 := hb' ⟨s.val - 1024, by omega⟩
        have e2 : (⟨1024 + (s.val - 1024), by omega⟩ : Fin 2048) = s := Fin.ext (by show 1024 + (s.val - 1024) = s.val; omega)
        rw [e2] at e1
        rw [e1, ge h]) hna hm' (Fin.natAdd 1024 s0) (by rw [hi]; exact h0)
  rw [← e, Fin.sum_univ_add (a := 1024) (b := 1024), Fin.sum_univ_add (a := 1024) (b := 1024) (f := fun s => Ideal.exp _)]
  simp only [lo, hi]
  unfold stepA stepL
  rw [← ht, hm']
  have p0 : 0 ≤ Ideal.exp ((m : EReal) - m') := exp_nonneg _
  have pt : Ideal.exp ((m : EReal) - m') ≠ ⊤ := exp_ne_top (sub_real_ne_top (EReal.coe_ne_top m) m')
  rw [mul_sum_nonneg p0 pt, mul_sum_nonneg p0 pt]
  congr 1
  · rw [add_comm]
    congr 1
    · exact Finset.sum_congr rfl fun s _ => congrArg (· * _) (hw s).symm
    · refine Finset.sum_congr rfl fun s _ => ?_
      rw [mul_left_comm, exp_scale (hd s)]
      exact congrArg (· * _) (hw' s).symm
  · rw [add_comm]
    congr 1
    exact Finset.sum_congr rfl fun s _ => exp_scale (hd s) m m'

end Cert.Soft

end
-- ==== Proof.FoxPFin.lean ====
/- What the precondition says: the queries, the keys and the decays are reals. -/
module

public import proofs.«01_k».proof.Proof.Gen.FoxPIdeal.Value
public import proofs.«01_k».proof.Defs
public import proofs.«01_k».proof.Proof.FoxPSoft
public import proofs.«01_k».proof.Proof.Gen.Pre_finite
public import Idealize.ShloMosaic.Lib.ReduceAll
public import Idealize.ShloMosaic.Lib.Pipeline.ValueKit
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem

/-- The word the precondition compares with is the greatest element. -/
theorem bits_top : Ideal.ofBits .f32 0x7F800000#32 = (⊤ : EReal) := by
  simp [Ideal.ofBits, Ideal.ieee]

/-- A comparison of an absolute value below it that came out 1. -/
theorem real_of {x : EReal} (h : FloatOps.cmpf (F := Ideal) (φ := .f32) .olt (FloatOps.hostAbsf (F := Ideal) (φ := .f32) x) (FloatOps.ofBits (F := Ideal) .f32 0x7F800000#32) = 1#1) :
    ∃ r : ℝ, x = r := by
  have e : max x (-x) < ⊤ := by
    by_contra hn
    have h' : BitVec.ofBool (decide (max x (-x) < Ideal.ofBits .f32 0x7F800000#32)) = 1#1 := h
    rw [bits_top, decide_eq_false hn] at h'
    exact absurd h' (by decide)
  induction x using EReal.rec with
  | bot => exact absurd e (by simp)
  | coe r => exact ⟨r, rfl⟩
  | top => exact absurd e (by simp)

theorem reals (X0 : FVec Ideal S17408x6144 .f32) (X1 : FVec Ideal S16384x128 .f32) (h : Cert.Pre_finite.fn (F := Ideal) X0 X1 = (fun _ => 1#1)) :
    (∀ (r : Fin 17408) (k : Fin 6144), r.val < 16384 → 2048 ≤ k.val → k.val < 3072 → ∃ z : ℝ, X0 (ix2 r k) = z)
    ∧ ∀ (r : Fin 16384) (k : Fin 128), k.val < 8 → ∃ z : ℝ, X1 (ix2 r k) = z := by
  haveI : Subsingleton Cert.Pre_finite.S_.Idx := ⟨fun a b => funext fun k => k.elim0⟩
  obtain ⟨h1, h2⟩ := IntOp.andi_eq_one.1 (congrFun h (fun k => k.elim0))
  constructor
  · intro r k hr hk hk'
    have e := Host.reduce_andi_all _ _ _ _ _ h1 (ix2 (n0 := 16384) (n1 := 1024) ⟨r.val, hr⟩ ⟨k.val - 2048, by omega⟩)
    refine real_of (x := X0 (ix2 r k)) ?_
    refine Eq.trans ?_ e
    refine congrArg (fun z => FloatOps.cmpf (F := Ideal) (φ := .f32) .olt (FloatOps.hostAbsf (F := Ideal) (φ := .f32) z) (FloatOps.ofBits (F := Ideal) .f32 0x7F800000#32)) ?_
    refine congrArg X0 ?_
    funext a; fin_cases a <;> refine Fin.ext ?_ <;> simp [ix2] <;> omega
  · intro r k hk
    have e := Host.reduce_andi_all _ _ _ _ _ h2 (ix2 (n0 := 16384) (n1 := 8) r ⟨k.val, hk⟩)
    refine real_of (x := X1 (ix2 r k)) ?_
    refine Eq.trans ?_ e
    refine congrArg (fun z => FloatOps.cmpf (F := Ideal) (φ := .f32) .olt (FloatOps.hostAbsf (F := Ideal) (φ := .f32) z) (FloatOps.ofBits (F := Ideal) .f32 0x7F800000#32)) ?_
    refine congrArg X1 ?_
    funext a; fin_cases a <;> refine Fin.ext ?_ <;> simp [ix2]

end Cert.FoxPIdeal.Val

end
-- ==== Proof.FoxPPay.lean ====
/- What each head of the forgetting attention computes from the blocks it loads: one block of scores folded into the
running maximum, the running sum and the running weighted values. -/
module

public import proofs.«01_k».proof.Proof.Gen.FoxPIdeal.Value
public import proofs.«01_k».proof.Proof.FoxPSoft
public import Idealize.ShloMosaic.Lib.Pipeline.ValueKit
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem

/-- The scores of a block of keys against a query: the product of the key and the scaled query less the key's decay. -/
def fsc (k : FVec Ideal S1024x64 .bf16) (q : FVec Ideal S64x1024 .bf16) (c : FVec Ideal S1024x1 .f32) (x s : Fin 1024) : EReal :=
  (∑ e : Fin 64, k (ix2 s e) * q (ix2 e x)) - c (ix2 s 0)

/-- The same in the block on the diagonal, where a key after the query scores the least element. -/
def dsc (k : FVec Ideal S1024x64 .bf16) (q : FVec Ideal S64x1024 .bf16) (c : FVec Ideal S1024x1 .f32) (x s : Fin 1024) : EReal :=
  if s.val ≤ x.val then fsc k q c x s else Ideal.ofBits .f32 4286578688#32

/-- The mask of the diagonal block. -/
theorem dsel (s x : Fin 1024) (a b : EReal) :
    Scalar.select (IntOp.cmpi CmpIPredicate.sle (IntOp.subi (BitVec.ofNat 32 s.val) (BitVec.ofNat 32 x.val)) 0#32) a b = if s.val ≤ x.val then a else b := by
  have hs := s.isLt
  have hx := x.isLt
  have e := IntOp.cmpi_sle (x := IntOp.subi (BitVec.ofNat 32 s.val) (BitVec.ofNat 32 x.val)) (y := 0#32)
  have e1 : (IntOp.subi (BitVec.ofNat 32 s.val) (BitVec.ofNat 32 x.val)).toInt = (s.val : Int) - x.val := by
    show (BitVec.ofNat 32 s.val - BitVec.ofNat 32 x.val).toInt = _
    have a1 : (BitVec.ofNat 32 s.val).toInt = s.val := by
      rw [BitVec.toInt_eq_toNat_of_lt (by simp only [BitVec.toNat_ofNat]; omega), BitVec.toNat_ofNat, Nat.mod_eq_of_lt (by omega)]
    have a2 : (BitVec.ofNat 32 x.val).toInt = x.val := by
      rw [BitVec.toInt_eq_toNat_of_lt (by simp only [BitVec.toNat_ofNat]; omega), BitVec.toNat_ofNat, Nat.mod_eq_of_lt (by omega)]
    rw [BitVec.toInt_sub, a1, a2]
    exact Int.bmod_eq_of_le (by omega) (by omega)
  rw [e1] at e
  have e0 : (0#32 : BitVec 32).toInt = 0 := rfl
  rw [e0] at e
  by_cases h : s.val ≤ x.val
  · rw [if_pos h, e.mpr (by omega)]; rfl
  · rw [if_neg h]
    generalize IntOp.cmpi CmpIPredicate.sle (IntOp.subi (BitVec.ofNat 32 s.val) (BitVec.ofNat 32 x.val)) 0#32 = w at e ⊢
    have hw : w = 0#1 := (BitVec.eq_zero_or_eq_one w).resolve_right fun y => h (by have := e.mp y; omega)
    rw [hw]; rfl

variable (k : FVec Ideal S1024x64 .bf16) (q : FVec Ideal S64x1024 .bf16) (c : FVec Ideal S1024x1 .f32) (m l : FVec Ideal S1x1x1024 .f32) (a : FVec Ideal S64x1024 .f32) (v : FVec Ideal S64x1024 .bf16)

theorem dm0 (x : Fin 1024) : k0_pay155 (F := Ideal) (k0_pay149 k0_pay146 k q c m) (ix3 0 0 x) = Soft.stepM (m (ix3 0 0 x)) (dsc k q c x) := by
  open_payloads
  pointwise
  simp only [dsel]
  rfl

theorem dl0 (x : Fin 1024) : k0_pay152 (F := Ideal) k0_pay146 k q c m l (ix3 0 0 x) = Soft.stepL (m (ix3 0 0 x)) (l (ix3 0 0 x)) (dsc k q c x) := by
  open_payloads
  pointwise
  simp only [dsel]
  rfl

theorem da0 (d : Fin 64) (x : Fin 1024) : k0_pay154 (F := Ideal) (k0_pay153 k0_pay146 k q c m a v) (ix2 d x) = Soft.stepA (m (ix3 0 0 x)) (a (ix2 d x)) (dsc k q c x) (fun s => v (ix2 d s)) := by
  open_payloads
  pointwise
  simp only [dsel]
  rfl

theorem dm1 (x : Fin 1024) : k0_pay163 (F := Ideal) (k0_pay158 k0_pay146 k q c m) (ix3 0 0 x) = Soft.stepM (m (ix3 0 0 x)) (dsc k q c x) := by
  open_payloads
  pointwise
  simp only [dsel]
  rfl

theorem dl1 (x : Fin 1024) : k0_pay161 (F := Ideal) k0_pay146 k q c m l (ix3 0 0 x) = Soft.stepL (m (ix3 0 0 x)) (l (ix3 0 0 x)) (dsc k q c x) := by
  open_payloads
  pointwise
  simp only [dsel]
  rfl

theorem da1 (d : Fin 64) (x : Fin 1024) : k0_pay162 (F := Ideal) (k0_pay159 k0_pay146 k q c m) (k0_pay160 k0_pay146 k q c m) a v (ix2 d x) = Soft.stepA (m (ix3 0 0 x)) (a (ix2 d x)) (dsc k q c x) (fun s => v (ix2 d s)) := by
  open_payloads
  pointwise
  simp only [dsel]
  rfl

theorem dm2 (x : Fin 1024) : k0_pay171 (F := Ideal) (k0_pay166 k0_pay146 k q c m) (ix3 0 0 x) = Soft.stepM (m (ix3 0 0 x)) (dsc k q c x) := by
  open_payloads
  pointwise
  simp only [dsel]
  rfl

theorem dl2 (x : Fin 1024) : k0_pay169 (F := Ideal) (k0_pay167 k0_pay146 k q c m) (k0_pay168 k0_pay146 k q c m) l (ix3 0 0 x) = Soft.stepL (m (ix3 0 0 x)) (l (ix3 0 0 x)) (dsc k q c x) := by
  open_payloads
  pointwise
  simp only [dsel]
  rfl

theorem da2 (d : Fin 64) (x : Fin 1024) : k0_pay170 (F := Ideal) (k0_pay167 k0_pay146 k q c m) (k0_pay168 k0_pay146 k q c m) a v (ix2 d x) = Soft.stepA (m (ix3 0 0 x)) (a (ix2 d x)) (dsc k q c x) (fun s => v (ix2 d s)) := by
  open_payloads
  pointwise
  simp only [dsel]
  rfl

theorem dm3 (x : Fin 1024) : k0_pay179 (F := Ideal) (k0_pay172 k0_pay146 k q c) m (ix3 0 0 x) = Soft.stepM (m (ix3 0 0 x)) (dsc k q c x) := by
  open_payloads
  pointwise
  simp only [dsel]
  rfl

theorem dl3 (x : Fin 1024) : k0_pay177 (F := Ideal) (k0_pay172 k0_pay146 k q c) m l (ix3 0 0 x) = Soft.stepL (m (ix3 0 0 x)) (l (ix3 0 0 x)) (dsc k q c x) := by
  open_payloads
  pointwise
  simp only [dsel]
  rfl

theorem da3 (d : Fin 64) (x : Fin 1024) : k0_pay178 (F := Ideal) (k0_pay172 k0_pay146 k q c) m a v (ix2 d x) = Soft.stepA (m (ix3 0 0 x)) (a (ix2 d x)) (dsc k q c x) (fun s => v (ix2 d s)) := by
  open_payloads
  pointwise
  simp only [dsel]
  rfl

theorem dm4 (x : Fin 1024) : k0_pay188 (F := Ideal) (k0_pay182 k0_pay146 k q c m) (ix3 0 0 x) = Soft.stepM (m (ix3 0 0 x)) (dsc k q c x) := by
  open_payloads
  pointwise
  simp only [dsel]
  rfl

theorem dl4 (x : Fin 1024) : k0_pay185 (F := Ideal) k0_pay146 k q c m l (ix3 0 0 x) = Soft.stepL (m (ix3 0 0 x)) (l (ix3 0 0 x)) (dsc k q c x) := by
  open_payloads
  pointwise
  simp only [dsel]
  rfl

theorem da4 (d : Fin 64) (x : Fin 1024) : k0_pay187 (F := Ideal) (k0_pay186 k0_pay146 k q c m a v) (ix2 d x) = Soft.stepA (m (ix3 0 0 x)) (a (ix2 d x)) (dsc k q c x) (fun s => v (ix2 d s)) := by
  open_payloads
  pointwise
  simp only [dsel]
  rfl

theorem dm5 (x : Fin 1024) : k0_pay196 (F := Ideal) (k0_pay191 k0_pay146 k q c m) (ix3 0 0 x) = Soft.stepM (m (ix3 0 0 x)) (dsc k q c x) := by
  open_payloads
  pointwise
  simp only [dsel]
  rfl

theorem dl5 (x : Fin 1024) : k0_pay194 (F := Ideal) k0_pay146 k q c m l (ix3 0 0 x) = Soft.stepL (m (ix3 0 0 x)) (l (ix3 0 0 x)) (dsc k q c x) := by
  open_payloads
  pointwise
  simp only [dsel]
  rfl

theorem da5 (d : Fin 64) (x : Fin 1024) : k0_pay195 (F := Ideal) (k0_pay192 k0_pay146 k q c m) (k0_pay193 k0_pay146 k q c m) a v (ix2 d x) = Soft.stepA (m (ix3 0 0 x)) (a (ix2 d x)) (dsc k q c x) (fun s => v (ix2 d s)) := by
  open_payloads
  pointwise
  simp only [dsel]
  rfl

theorem dm6 (x : Fin 1024) : k0_pay204 (F := Ideal) (k0_pay199 k0_pay146 k q c m) (ix3 0 0 x) = Soft.stepM (m (ix3 0 0 x)) (dsc k q c x) := by
  open_payloads
  pointwise
  simp only [dsel]
  rfl

theorem dl6 (x : Fin 1024) : k0_pay202 (F := Ideal) (k0_pay200 k0_pay146 k q c m) (k0_pay201 k0_pay146 k q c m) l (ix3 0 0 x) = Soft.stepL (m (ix3 0 0 x)) (l (ix3 0 0 x)) (dsc k q c x) := by
  open_payloads
  pointwise
  simp only [dsel]
  rfl

theorem da6 (d : Fin 64) (x : Fin 1024) : k0_pay203 (F := Ideal) (k0_pay200 k0_pay146 k q c m) (k0_pay201 k0_pay146 k q c m) a v (ix2 d x) = Soft.stepA (m (ix3 0 0 x)) (a (ix2 d x)) (dsc k q c x) (fun s => v (ix2 d s)) := by
  open_payloads
  pointwise
  simp only [dsel]
  rfl

theorem dm7 (x : Fin 1024) : k0_pay212 (F := Ideal) (k0_pay205 k0_pay146 k q c) m (ix3 0 0 x) = Soft.stepM (m (ix3 0 0 x)) (dsc k q c x) := by
  open_payloads
  pointwise
  simp only [dsel]
  rfl

theorem dl7 (x : Fin 1024) : k0_pay210 (F := Ideal) (k0_pay205 k0_pay146 k q c) m l (ix3 0 0 x) = Soft.stepL (m (ix3 0 0 x)) (l (ix3 0 0 x)) (dsc k q c x) := by
  open_payloads
  pointwise
  simp only [dsel]
  rfl

theorem da7 (d : Fin 64) (x : Fin 1024) : k0_pay211 (F := Ideal) (k0_pay205 k0_pay146 k q c) m a v (ix2 d x) = Soft.stepA (m (ix3 0 0 x)) (a (ix2 d x)) (dsc k q c x) (fun s => v (ix2 d s)) := by
  open_payloads
  pointwise
  simp only [dsel]
  rfl

theorem tm0 (x : Fin 1024) : k0_pay12 (F := Ideal) (k0_pay6 k q c m) (ix3 0 0 x) = Soft.stepM (m (ix3 0 0 x)) (fsc k q c x) := by
  open_payloads
  pointwise
  rfl

theorem tl0 (x : Fin 1024) : k0_pay9 (F := Ideal) k q c m l (ix3 0 0 x) = Soft.stepL (m (ix3 0 0 x)) (l (ix3 0 0 x)) (fsc k q c x) := by
  open_payloads
  pointwise
  rfl

theorem ta0 (d : Fin 64) (x : Fin 1024) : k0_pay11 (F := Ideal) (k0_pay10 k q c m a v) (ix2 d x) = Soft.stepA (m (ix3 0 0 x)) (a (ix2 d x)) (fsc k q c x) (fun s => v (ix2 d s)) := by
  open_payloads
  pointwise
  rfl

theorem tm1 (x : Fin 1024) : k0_pay20 (F := Ideal) (k0_pay15 k q c m) (ix3 0 0 x) = Soft.stepM (m (ix3 0 0 x)) (fsc k q c x) := by
  open_payloads
  pointwise
  rfl

theorem tl1 (x : Fin 1024) : k0_pay18 (F := Ideal) k q c m l (ix3 0 0 x) = Soft.stepL (m (ix3 0 0 x)) (l (ix3 0 0 x)) (fsc k q c x) := by
  open_payloads
  pointwise
  rfl

theorem ta1 (d : Fin 64) (x : Fin 1024) : k0_pay19 (F := Ideal) (k0_pay16 k q c m) (k0_pay17 k q c m) a v (ix2 d x) = Soft.stepA (m (ix3 0 0 x)) (a (ix2 d x)) (fsc k q c x) (fun s => v (ix2 d s)) := by
  open_payloads
  pointwise
  rfl

theorem tm2 (x : Fin 1024) : k0_pay29 (F := Ideal) (k0_pay23 k q c m) (ix3 0 0 x) = Soft.stepM (m (ix3 0 0 x)) (fsc k q c x) := by
  open_payloads
  pointwise
  rfl

theorem tl2 (x : Fin 1024) : k0_pay27 (F := Ideal) (k0_pay26 k q c m l) (ix3 0 0 x) = Soft.stepL (m (ix3 0 0 x)) (l (ix3 0 0 x)) (fsc k q c x) := by
  open_payloads
  pointwise
  rfl

theorem ta2 (d : Fin 64) (x : Fin 1024) : k0_pay28 (F := Ideal) (k0_pay24 k q c m) (k0_pay25 k q c m) a v (ix2 d x) = Soft.stepA (m (ix3 0 0 x)) (a (ix2 d x)) (fsc k q c x) (fun s => v (ix2 d s)) := by
  open_payloads
  pointwise
  rfl

theorem tm3 (x : Fin 1024) : k0_pay37 (F := Ideal) (k0_pay32 k q c m) (ix3 0 0 x) = Soft.stepM (m (ix3 0 0 x)) (fsc k q c x) := by
  open_payloads
  pointwise
  rfl

theorem tl3 (x : Fin 1024) : k0_pay35 (F := Ideal) (k0_pay33 k q c m) (k0_pay34 k q c m) l (ix3 0 0 x) = Soft.stepL (m (ix3 0 0 x)) (l (ix3 0 0 x)) (fsc k q c x) := by
  open_payloads
  pointwise
  rfl

theorem ta3 (d : Fin 64) (x : Fin 1024) : k0_pay36 (F := Ideal) (k0_pay33 k q c m) (k0_pay34 k q c m) a v (ix2 d x) = Soft.stepA (m (ix3 0 0 x)) (a (ix2 d x)) (fsc k q c x) (fun s => v (ix2 d s)) := by
  open_payloads
  pointwise
  rfl

theorem tm4 (x : Fin 1024) : k0_pay46 (F := Ideal) (k0_pay39 m) (k0_pay40 k q c) (ix3 0 0 x) = Soft.stepM (m (ix3 0 0 x)) (fsc k q c x) := by
  open_payloads
  pointwise
  rfl

theorem tl4 (x : Fin 1024) : k0_pay44 (F := Ideal) (k0_pay38 k q c) (k0_pay39 m) (k0_pay40 k q c) l (ix3 0 0 x) = Soft.stepL (m (ix3 0 0 x)) (l (ix3 0 0 x)) (fsc k q c x) := by
  open_payloads
  pointwise
  rfl

theorem ta4 (d : Fin 64) (x : Fin 1024) : k0_pay45 (F := Ideal) (k0_pay38 k q c) (k0_pay39 m) (k0_pay40 k q c) a v (ix2 d x) = Soft.stepA (m (ix3 0 0 x)) (a (ix2 d x)) (fsc k q c x) (fun s => v (ix2 d s)) := by
  open_payloads
  pointwise
  rfl

theorem tm5 (x : Fin 1024) : k0_pay55 (F := Ideal) (k0_pay47 k q) c m (ix3 0 0 x) = Soft.stepM (m (ix3 0 0 x)) (fsc k q c x) := by
  open_payloads
  pointwise
  rfl

theorem tl5 (x : Fin 1024) : k0_pay53 (F := Ideal) (k0_pay47 k q) c m l (ix3 0 0 x) = Soft.stepL (m (ix3 0 0 x)) (l (ix3 0 0 x)) (fsc k q c x) := by
  open_payloads
  pointwise
  rfl

theorem ta5 (d : Fin 64) (x : Fin 1024) : k0_pay54 (F := Ideal) (k0_pay47 k q) c m a v (ix2 d x) = Soft.stepA (m (ix3 0 0 x)) (a (ix2 d x)) (fsc k q c x) (fun s => v (ix2 d s)) := by
  open_payloads
  pointwise
  rfl

theorem tm6 (x : Fin 1024) : k0_pay63 (F := Ideal) (k0_pay58 k q c m) (ix3 0 0 x) = Soft.stepM (m (ix3 0 0 x)) (fsc k q c x) := by
  open_payloads
  pointwise
  rfl

theorem tl6 (x : Fin 1024) : k0_pay61 (F := Ideal) k q c m l (ix3 0 0 x) = Soft.stepL (m (ix3 0 0 x)) (l (ix3 0 0 x)) (fsc k q c x) := by
  open_payloads
  pointwise
  rfl

theorem ta6 (d : Fin 64) (x : Fin 1024) : k0_pay62 (F := Ideal) k q c m a v (ix2 d x) = Soft.stepA (m (ix3 0 0 x)) (a (ix2 d x)) (fsc k q c x) (fun s => v (ix2 d s)) := by
  open_payloads
  pointwise
  rfl

theorem tm7 (x : Fin 1024) : k0_pay214 (F := Ideal) (k0_pay66 k q c m) (ix3 0 0 x) = Soft.stepM (m (ix3 0 0 x)) (fsc k q c x) := by
  open_payloads
  pointwise
  rfl

theorem tl7 (x : Fin 1024) : k0_pay69 (F := Ideal) k q c m l (ix3 0 0 x) = Soft.stepL (m (ix3 0 0 x)) (l (ix3 0 0 x)) (fsc k q c x) := by
  open_payloads
  pointwise
  rfl

theorem ta7 (d : Fin 64) (x : Fin 1024) : k0_pay213 (F := Ideal) (k0_pay70 k q c m a) v (k0_pay71 k q c m) (ix2 d x) = Soft.stepA (m (ix3 0 0 x)) (a (ix2 d x)) (fsc k q c x) (fun s => v (ix2 d s)) := by
  open_payloads
  pointwise
  rfl

end Cert.FoxPIdeal.Val

end
-- ==== Proof.FoxPRows.lean ====
/- What the buffers of the forgetting attention hold after its stores of one block for each head, and what its loads
of one block for each head read. -/
module

public import proofs.«01_k».proof.Proof.Gen.FoxPIdeal.Value
public import proofs.«01_k».proof.Proof.FoxPPay
public import Idealize.ShloMosaic.Lib.Pipeline.ValueKit
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem

/-- A store apart from the index read. -/
theorem skip {S : Shape} {e : EltTy} (r : Rect S) (w : r.shape.Idx → Elt Ideal e) (L : List (View.Piece (Elt Ideal) S e)) (B : LoadRect S) (j : B.shape.Idx)
    (h : LoadRect.disj r B = true) : View.canon (⟨r, w⟩ :: L) (B.idx j) = View.canon L (B.idx j) :=
  View.canon_cons_of_not_mem ⟨r, w⟩ L (LoadRect.idx_not_mem_of_disj h j)

/-- The store of the index read. -/
theorem hit {S : Shape} {e : EltTy} (r : Rect S) (w : r.shape.Idx → Elt Ideal e) (L : List (View.Piece (Elt Ideal) S e)) (j : r.shape.Idx) :
    View.canon (⟨r, w⟩ :: L) (r.toLoadRect.idx j) = w j :=
  View.canon_cons_emb r w L j

/-- Eight stores of a row for each head. -/
theorem rows3 (p0 p1 p2 p3 p4 p5 p6 p7 : FVec Ideal S1x1x1024 .f32) (L : List (View.Piece (Elt Ideal) S8x1x1024 .f32)) (G : Fin 8 → Fin 1024 → EReal)
    (g0 : ∀ x, p0 (ix3 0 0 x) = G 0 x)
    (g1 : ∀ x, p1 (ix3 0 0 x) = G 1 x)
    (g2 : ∀ x, p2 (ix3 0 0 x) = G 2 x)
    (g3 : ∀ x, p3 (ix3 0 0 x) = G 3 x)
    (g4 : ∀ x, p4 (ix3 0 0 x) = G 4 x)
    (g5 : ∀ x, p5 (ix3 0 0 x) = G 5 x)
    (g6 : ∀ x, p6 (ix3 0 0 x) = G 6 x)
    (g7 : ∀ x, p7 (ix3 0 0 x) = G 7 x)
    (h : Fin 8) (x : Fin 1024) : View.canon ((⟨Rect.unit ![7, 0, 0] S1x1x1024.size inb_S8x1x1024_S1x1x1024_7_0_0, p7⟩ : View.Piece (Elt Ideal) S8x1x1024 .f32) :: (⟨Rect.unit ![6, 0, 0] S1x1x1024.size inb_S8x1x1024_S1x1x1024_6_0_0, p6⟩ : View.Piece (Elt Ideal) S8x1x1024 .f32) :: (⟨Rect.unit ![5, 0, 0] S1x1x1024.size inb_S8x1x1024_S1x1x1024_5_0_0, p5⟩ : View.Piece (Elt Ideal) S8x1x1024 .f32) :: (⟨Rect.unit ![4, 0, 0] S1x1x1024.size inb_S8x1x1024_S1x1x1024_4_0_0, p4⟩ : View.Piece (Elt Ideal) S8x1x1024 .f32) :: (⟨Rect.unit ![3, 0, 0] S1x1x1024.size inb_S8x1x1024_S1x1x1024_3_0_0, p3⟩ : View.Piece (Elt Ideal) S8x1x1024 .f32) :: (⟨Rect.unit ![2, 0, 0] S1x1x1024.size inb_S8x1x1024_S1x1x1024_2_0_0, p2⟩ : View.Piece (Elt Ideal) S8x1x1024 .f32) :: (⟨Rect.unit ![1, 0, 0] S1x1x1024.size inb_S8x1x1024_S1x1x1024_1_0_0, p1⟩ : View.Piece (Elt Ideal) S8x1x1024 .f32) :: (⟨Rect.unit ![0, 0, 0] S1x1x1024.size inb_S8x1x1024_S1x1x1024_0_0_0, p0⟩ : View.Piece (Elt Ideal) S8x1x1024 .f32) :: L) (ix3 h 0 x) = G h x := by
  match h with
  | ⟨0, _⟩ =>
    have e : (ix3 (n0 := 8) (n1 := 1) (n2 := 1024) 0 0 x) = (Rect.unit (s := S8x1x1024) ![0, 0, 0] S1x1x1024.size inb_S8x1x1024_S1x1x1024_0_0_0).toLoadRect.idx (ix3 (n0 := 1) (n1 := 1) (n2 := 1024) 0 0 x) := by
      funext a; fin_cases a <;> exact Fin.ext (by simp [ix3, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g0 x)
  | ⟨1, _⟩ =>
    have e : (ix3 (n0 := 8) (n1 := 1) (n2 := 1024) 1 0 x) = (Rect.unit (s := S8x1x1024) ![1, 0, 0] S1x1x1024.size inb_S8x1x1024_S1x1x1024_1_0_0).toLoadRect.idx (ix3 (n0 := 1) (n1 := 1) (n2 := 1024) 0 0 x) := by
      funext a; fin_cases a <;> exact Fin.ext (by simp [ix3, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g1 x)
  | ⟨2, _⟩ =>
    have e : (ix3 (n0 := 8) (n1 := 1) (n2 := 1024) 2 0 x) = (Rect.unit (s := S8x1x1024) ![2, 0, 0] S1x1x1024.size inb_S8x1x1024_S1x1x1024_2_0_0).toLoadRect.idx (ix3 (n0 := 1) (n1 := 1) (n2 := 1024) 0 0 x) := by
      funext a; fin_cases a <;> exact Fin.ext (by simp [ix3, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g2 x)
  | ⟨3, _⟩ =>
    have e : (ix3 (n0 := 8) (n1 := 1) (n2 := 1024) 3 0 x) = (Rect.unit (s := S8x1x1024) ![3, 0, 0] S1x1x1024.size inb_S8x1x1024_S1x1x1024_3_0_0).toLoadRect.idx (ix3 (n0 := 1) (n1 := 1) (n2 := 1024) 0 0 x) := by
      funext a; fin_cases a <;> exact Fin.ext (by simp [ix3, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g3 x)
  | ⟨4, _⟩ =>
    have e : (ix3 (n0 := 8) (n1 := 1) (n2 := 1024) 4 0 x) = (Rect.unit (s := S8x1x1024) ![4, 0, 0] S1x1x1024.size inb_S8x1x1024_S1x1x1024_4_0_0).toLoadRect.idx (ix3 (n0 := 1) (n1 := 1) (n2 := 1024) 0 0 x) := by
      funext a; fin_cases a <;> exact Fin.ext (by simp [ix3, Rect.unit])
    refine (congrArg (View.canon _) e).trans ?_
    refine (skip _ _ _ _ _ (by decide)).trans ?_
    refine (skip _ _ _ _ _ (by decide)).trans ?_
    refine (skip _ _ _ _ _ (by decide)).trans ?_
    exact (hit _ _ _ _).trans (g4 x)
  | ⟨5, _⟩ =>
    have e : (ix3 (n0 := 8) (n1 := 1) (n2 := 1024) 5 0 x) = (Rect.unit (s := S8x1x1024) ![5, 0, 0] S1x1x1024.size inb_S8x1x1024_S1x1x1024_5_0_0).toLoadRect.idx (ix3 (n0 := 1) (n1 := 1) (n2 := 1024) 0 0 x) := by
      funext a; fin_cases a <;> exact Fin.ext (by simp [ix3, Rect.unit])
    refine (congrArg (View.canon _) e).trans ?_
    refine (skip _ _ _ _ _ (by decide)).trans ?_
    refine (skip _ _ _ _ _ (by decide)).trans ?_
    exact (hit _ _ _ _).trans (g5 x)
  | ⟨6, _⟩ =>
    have e : (ix3 (n0 := 8) (n1 := 1) (n2 := 1024) 6 0 x) = (Rect.unit (s := S8x1x1024) ![6, 0, 0] S1x1x1024.size inb_S8x1x1024_S1x1x1024_6_0_0).toLoadRect.idx (ix3 (n0 := 1) (n1 := 1) (n2 := 1024) 0 0 x) := by
      funext a; fin_cases a <;> exact Fin.ext (by simp [ix3, Rect.unit])
    refine (congrArg (View.canon _) e).trans ?_
    refine (skip _ _ _ _ _ (by decide)).trans ?_
    exact (hit _ _ _ _).trans (g6 x)
  | ⟨7, _⟩ =>
    have e : (ix3 (n0 := 8) (n1 := 1) (n2 := 1024) 7 0 x) = (Rect.unit (s := S8x1x1024) ![7, 0, 0] S1x1x1024.size inb_S8x1x1024_S1x1x1024_7_0_0).toLoadRect.idx (ix3 (n0 := 1) (n1 := 1) (n2 := 1024) 0 0 x) := by
      funext a; fin_cases a <;> exact Fin.ext (by simp [ix3, Rect.unit])
    refine (congrArg (View.canon _) e).trans ?_
    exact (hit _ _ _ _).trans (g7 x)

/-- Eight stores of sixty-four rows, one for each head. -/
theorem rows2 (p0 p1 p2 p3 p4 p5 p6 p7 : FVec Ideal S64x1024 .f32) (L : List (View.Piece (Elt Ideal) S512x1024 .f32)) (G : Fin 8 → Fin 64 → Fin 1024 → EReal)
    (g0 : ∀ d x, p0 (ix2 d x) = G 0 d x)
    (g1 : ∀ d x, p1 (ix2 d x) = G 1 d x)
    (g2 : ∀ d x, p2 (ix2 d x) = G 2 d x)
    (g3 : ∀ d x, p3 (ix2 d x) = G 3 d x)
    (g4 : ∀ d x, p4 (ix2 d x) = G 4 d x)
    (g5 : ∀ d x, p5 (ix2 d x) = G 5 d x)
    (g6 : ∀ d x, p6 (ix2 d x) = G 6 d x)
    (g7 : ∀ d x, p7 (ix2 d x) = G 7 d x)
    (h : Fin 8) (d : Fin 64) (x : Fin 1024) : View.canon ((⟨Rect.unit ![448, 0] S64x1024.size inb_S512x1024_S64x1024_448_0, p7⟩ : View.Piece (Elt Ideal) S512x1024 .f32) :: (⟨Rect.unit ![384, 0] S64x1024.size inb_S512x1024_S64x1024_384_0, p6⟩ : View.Piece (Elt Ideal) S512x1024 .f32) :: (⟨Rect.unit ![320, 0] S64x1024.size inb_S512x1024_S64x1024_320_0, p5⟩ : View.Piece (Elt Ideal) S512x1024 .f32) :: (⟨Rect.unit ![256, 0] S64x1024.size inb_S512x1024_S64x1024_256_0, p4⟩ : View.Piece (Elt Ideal) S512x1024 .f32) :: (⟨Rect.unit ![192, 0] S64x1024.size inb_S512x1024_S64x1024_192_0, p3⟩ : View.Piece (Elt Ideal) S512x1024 .f32) :: (⟨Rect.unit ![128, 0] S64x1024.size inb_S512x1024_S64x1024_128_0, p2⟩ : View.Piece (Elt Ideal) S512x1024 .f32) :: (⟨Rect.unit ![64, 0] S64x1024.size inb_S512x1024_S64x1024_64_0, p1⟩ : View.Piece (Elt Ideal) S512x1024 .f32) :: (⟨Rect.unit ![0, 0] S64x1024.size inb_S512x1024_S64x1024_0_0, p0⟩ : View.Piece (Elt Ideal) S512x1024 .f32) :: L) (ix2 ⟨h.val * 64 + d.val, by omega⟩ x) = G h d x := by
  match h with
  | ⟨0, _⟩ =>
    have e : (ix2 (n0 := 512) (n1 := 1024) ⟨0 * 64 + d.val, by omega⟩ x) = (Rect.unit (s := S512x1024) ![0, 0] S64x1024.size inb_S512x1024_S64x1024_0_0).toLoadRect.idx (ix2 (n0 := 64) (n1 := 1024) d x) := by
      funext a; fin_cases a <;> exact Fin.ext (by simp [ix2, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g0 d x)
  | ⟨1, _⟩ =>
    have e : (ix2 (n0 := 512) (n1 := 1024) ⟨1 * 64 + d.val, by omega⟩ x) = (Rect.unit (s := S512x1024) ![64, 0] S64x1024.size inb_S512x1024_S64x1024_64_0).toLoadRect.idx (ix2 (n0 := 64) (n1 := 1024) d x) := by
      funext a; fin_cases a <;> exact Fin.ext (by simp [ix2, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g1 d x)
  | ⟨2, _⟩ =>
    have e : (ix2 (n0 := 512) (n1 := 1024) ⟨2 * 64 + d.val, by omega⟩ x) = (Rect.unit (s := S512x1024) ![128, 0] S64x1024.size inb_S512x1024_S64x1024_128_0).toLoadRect.idx (ix2 (n0 := 64) (n1 := 1024) d x) := by
      funext a; fin_cases a <;> exact Fin.ext (by simp [ix2, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g2 d x)
  | ⟨3, _⟩ =>
    have e : (ix2 (n0 := 512) (n1 := 1024) ⟨3 * 64 + d.val, by omega⟩ x) = (Rect.unit (s := S512x1024) ![192, 0] S64x1024.size inb_S512x1024_S64x1024_192_0).toLoadRect.idx (ix2 (n0 := 64) (n1 := 1024) d x) := by
      funext a; fin_cases a <;> exact Fin.ext (by simp [ix2, Rect.unit])
    refine (congrArg (View.canon _) e).trans ?_
    refine (skip _ _ _ _ _ (by decide)).trans ?_
    refine (skip _ _ _ _ _ (by decide)).trans ?_
    refine (skip _ _ _ _ _ (by decide)).trans ?_
    refine (skip _ _ _ _ _ (by decide)).trans ?_
    exact (hit _ _ _ _).trans (g3 d x)
  | ⟨4, _⟩ =>
    have e : (ix2 (n0 := 512) (n1 := 1024) ⟨4 * 64 + d.val, by omega⟩ x) = (Rect.unit (s := S512x1024) ![256, 0] S64x1024.size inb_S512x1024_S64x1024_256_0).toLoadRect.idx (ix2 (n0 := 64) (n1 := 1024) d x) := by
      funext a; fin_cases a <;> exact Fin.ext (by simp [ix2, Rect.unit])
    refine (congrArg (View.canon _) e).trans ?_
    refine (skip _ _ _ _ _ (by decide)).trans ?_
    refine (skip _ _ _ _ _ (by decide)).trans ?_
    refine (skip _ _ _ _ _ (by decide)).trans ?_
    exact (hit _ _ _ _).trans (g4 d x)
  | ⟨5, _⟩ =>
    have e : (ix2 (n0 := 512) (n1 := 1024) ⟨5 * 64 + d.val, by omega⟩ x) = (Rect.unit (s := S512x1024) ![320, 0] S64x1024.size inb_S512x1024_S64x1024_320_0).toLoadRect.idx (ix2 (n0 := 64) (n1 := 1024) d x) := by
      funext a; fin_cases a <;> exact Fin.ext (by simp [ix2, Rect.unit])
    refine (congrArg (View.canon _) e).trans ?_
    refine (skip _ _ _ _ _ (by decide)).trans ?_
    refine (skip _ _ _ _ _ (by decide)).trans ?_
    exact (hit _ _ _ _).trans (g5 d x)
  | ⟨6, _⟩ =>
    have e : (ix2 (n0 := 512) (n1 := 1024) ⟨6 * 64 + d.val, by omega⟩ x) = (Rect.unit (s := S512x1024) ![384, 0] S64x1024.size inb_S512x1024_S64x1024_384_0).toLoadRect.idx (ix2 (n0 := 64) (n1 := 1024) d x) := by
      funext a; fin_cases a <;> exact Fin.ext (by simp [ix2, Rect.unit])
    refine (congrArg (View.canon _) e).trans ?_
    refine (skip _ _ _ _ _ (by decide)).trans ?_
    exact (hit _ _ _ _).trans (g6 d x)
  | ⟨7, _⟩ =>
    have e : (ix2 (n0 := 512) (n1 := 1024) ⟨7 * 64 + d.val, by omega⟩ x) = (Rect.unit (s := S512x1024) ![448, 0] S64x1024.size inb_S512x1024_S64x1024_448_0).toLoadRect.idx (ix2 (n0 := 64) (n1 := 1024) d x) := by
      funext a; fin_cases a <;> exact Fin.ext (by simp [ix2, Rect.unit])
    refine (congrArg (View.canon _) e).trans ?_
    exact (hit _ _ _ _).trans (g7 d x)

/-- The first key of the diagonal block. -/
theorem offD : ∀ j : Fin 2, (Scalar.indexCast (Scalar.muli (Scalar.muli (BitVec.ofNat 32 j.val) 1#32) 1024#32)).toNat = j.val * 1024 := by decide

/-- The first key of the block before it. -/
theorem offT : (Scalar.indexCast (Scalar.muli (Scf.iv 0#32 1#32 0) 1024#32)).toNat = 0 := by decide

/-- The blocks before the diagonal one: none for the first block of queries, one for the second. -/
theorem trips_at : ∀ j : Fin 2, Scf.trips 0#32 (Scalar.addi 0#32 (Scalar.muli (Scalar.divsi (Scalar.subi (Scalar.muli (BitVec.ofNat 32 j.val) 1#32) 0#32) 1#32) 1#32)) 1#32 = j.val := by decide

theorem trips2_at : ∀ j : Fin 2, Scf.trips (Scalar.addi 0#32 (Scalar.muli (Scalar.divsi (Scalar.subi (Scalar.muli (BitVec.ofNat 32 j.val) 1#32) 0#32) 1#32) 1#32)) (Scalar.addi 0#32 (Scalar.subi (Scalar.muli (BitVec.ofNat 32 j.val) 1#32) 0#32)) 1#32 = 0 := by decide

theorem trips1 (i : grid0.Coords) : (k0_t1_loop i).trips = (i 1).val := trips_at (i 1)

theorem trips2 (i : grid0.Coords) : (k0_t2_loop i).trips = 0 := trips2_at (i 1)

theorem off1 (i : grid0.Coords) : k0_off1 i = ![(i 1).val * 1024, 0] := congrArg (![·, 0]) (offD (i 1))
theorem off2 (i : grid0.Coords) : k0_off2 i = ![(i 1).val * 1024, 0] := congrArg (![·, 0]) (offD (i 1))
theorem off3 (i : grid0.Coords) : k0_off3 i = ![0, (i 1).val * 1024] := congrArg (![0, ·]) (offD (i 1))
theorem off4 (i : grid0.Coords) : k0_off4 i = ![(i 1).val * 1024, 64] := congrArg (![·, 64]) (offD (i 1))
theorem off5 (i : grid0.Coords) : k0_off5 i = ![(i 1).val * 1024, 1] := congrArg (![·, 1]) (offD (i 1))
theorem off6 (i : grid0.Coords) : k0_off6 i = ![64, (i 1).val * 1024] := congrArg (![64, ·]) (offD (i 1))
theorem off7 (i : grid0.Coords) : k0_off7 i = ![(i 1).val * 1024, 128] := congrArg (![·, 128]) (offD (i 1))
theorem off8 (i : grid0.Coords) : k0_off8 i = ![(i 1).val * 1024, 2] := congrArg (![·, 2]) (offD (i 1))
theorem off9 (i : grid0.Coords) : k0_off9 i = ![128, (i 1).val * 1024] := congrArg (![128, ·]) (offD (i 1))
theorem off10 (i : grid0.Coords) : k0_off10 i = ![(i 1).val * 1024, 192] := congrArg (![·, 192]) (offD (i 1))
theorem off11 (i : grid0.Coords) : k0_off11 i = ![(i 1).val * 1024, 3] := congrArg (![·, 3]) (offD (i 1))
theorem off12 (i : grid0.Coords) : k0_off12 i = ![192, (i 1).val * 1024] := congrArg (![192, ·]) (offD (i 1))
theorem off13 (i : grid0.Coords) : k0_off13 i = ![(i 1).val * 1024, 256] := congrArg (![·, 256]) (offD (i 1))
theorem off14 (i : grid0.Coords) : k0_off14 i = ![(i 1).val * 1024, 4] := congrArg (![·, 4]) (offD (i 1))
theorem off15 (i : grid0.Coords) : k0_off15 i = ![256, (i 1).val * 1024] := congrArg (![256, ·]) (offD (i 1))
theorem off16 (i : grid0.Coords) : k0_off16 i = ![(i 1).val * 1024, 320] := congrArg (![·, 320]) (offD (i 1))
theorem off17 (i : grid0.Coords) : k0_off17 i = ![(i 1).val * 1024, 5] := congrArg (![·, 5]) (offD (i 1))
theorem off18 (i : grid0.Coords) : k0_off18 i = ![320, (i 1).val * 1024] := congrArg (![320, ·]) (offD (i 1))
theorem off19 (i : grid0.Coords) : k0_off19 i = ![(i 1).val * 1024, 384] := congrArg (![·, 384]) (offD (i 1))
theorem off20 (i : grid0.Coords) : k0_off20 i = ![(i 1).val * 1024, 6] := congrArg (![·, 6]) (offD (i 1))
theorem off21 (i : grid0.Coords) : k0_off21 i = ![384, (i 1).val * 1024] := congrArg (![384, ·]) (offD (i 1))
theorem off22 (i : grid0.Coords) : k0_off22 i = ![(i 1).val * 1024, 448] := congrArg (![·, 448]) (offD (i 1))
theorem off23 (i : grid0.Coords) : k0_off23 i = ![(i 1).val * 1024, 7] := congrArg (![·, 7]) (offD (i 1))
theorem off24 (i : grid0.Coords) : k0_off24 i = ![448, (i 1).val * 1024] := congrArg (![448, ·]) (offD (i 1))

theorem trip_zero (i : grid0.Coords) (k : Fin (k0_t1_loop i).trips) : k.val = 0 := by
  have h1 := k.isLt
  have h2 := trips1 i
  have h3 : (i 1).val < 2 := (i 1).isLt
  omega

theorem off25 (i : grid0.Coords) (k : Fin (k0_t1_loop i).trips) : k0_off25 i k = ![0, 0] := by
  unfold k0_off25; dsimp only; rw [trip_zero i k]; exact congrArg (![·, 0]) offT
theorem off26 (i : grid0.Coords) (k : Fin (k0_t1_loop i).trips) : k0_off26 i k = ![0, 0] := by
  unfold k0_off26; dsimp only; rw [trip_zero i k]; exact congrArg (![·, 0]) offT
theorem off27 (i : grid0.Coords) (k : Fin (k0_t1_loop i).trips) : k0_off27 i k = ![0, 0] := by
  unfold k0_off27; dsimp only; rw [trip_zero i k]; exact congrArg (![0, ·]) offT
theorem off28 (i : grid0.Coords) (k : Fin (k0_t1_loop i).trips) : k0_off28 i k = ![0, 64] := by
  unfold k0_off28; dsimp only; rw [trip_zero i k]; exact congrArg (![·, 64]) offT
theorem off29 (i : grid0.Coords) (k : Fin (k0_t1_loop i).trips) : k0_off29 i k = ![0, 1] := by
  unfold k0_off29; dsimp only; rw [trip_zero i k]; exact congrArg (![·, 1]) offT
theorem off30 (i : grid0.Coords) (k : Fin (k0_t1_loop i).trips) : k0_off30 i k = ![64, 0] := by
  unfold k0_off30; dsimp only; rw [trip_zero i k]; exact congrArg (![64, ·]) offT
theorem off31 (i : grid0.Coords) (k : Fin (k0_t1_loop i).trips) : k0_off31 i k = ![0, 128] := by
  unfold k0_off31; dsimp only; rw [trip_zero i k]; exact congrArg (![·, 128]) offT
theorem off32 (i : grid0.Coords) (k : Fin (k0_t1_loop i).trips) : k0_off32 i k = ![0, 2] := by
  unfold k0_off32; dsimp only; rw [trip_zero i k]; exact congrArg (![·, 2]) offT
theorem off33 (i : grid0.Coords) (k : Fin (k0_t1_loop i).trips) : k0_off33 i k = ![128, 0] := by
  unfold k0_off33; dsimp only; rw [trip_zero i k]; exact congrArg (![128, ·]) offT
theorem off34 (i : grid0.Coords) (k : Fin (k0_t1_loop i).trips) : k0_off34 i k = ![0, 192] := by
  unfold k0_off34; dsimp only; rw [trip_zero i k]; exact congrArg (![·, 192]) offT
theorem off35 (i : grid0.Coords) (k : Fin (k0_t1_loop i).trips) : k0_off35 i k = ![0, 3] := by
  unfold k0_off35; dsimp only; rw [trip_zero i k]; exact congrArg (![·, 3]) offT
theorem off36 (i : grid0.Coords) (k : Fin (k0_t1_loop i).trips) : k0_off36 i k = ![192, 0] := by
  unfold k0_off36; dsimp only; rw [trip_zero i k]; exact congrArg (![192, ·]) offT
theorem off37 (i : grid0.Coords) (k : Fin (k0_t1_loop i).trips) : k0_off37 i k = ![0, 256] := by
  unfold k0_off37; dsimp only; rw [trip_zero i k]; exact congrArg (![·, 256]) offT
theorem off38 (i : grid0.Coords) (k : Fin (k0_t1_loop i).trips) : k0_off38 i k = ![0, 4] := by
  unfold k0_off38; dsimp only; rw [trip_zero i k]; exact congrArg (![·, 4]) offT
theorem off39 (i : grid0.Coords) (k : Fin (k0_t1_loop i).trips) : k0_off39 i k = ![256, 0] := by
  unfold k0_off39; dsimp only; rw [trip_zero i k]; exact congrArg (![256, ·]) offT
theorem off40 (i : grid0.Coords) (k : Fin (k0_t1_loop i).trips) : k0_off40 i k = ![0, 320] := by
  unfold k0_off40; dsimp only; rw [trip_zero i k]; exact congrArg (![·, 320]) offT
theorem off41 (i : grid0.Coords) (k : Fin (k0_t1_loop i).trips) : k0_off41 i k = ![0, 5] := by
  unfold k0_off41; dsimp only; rw [trip_zero i k]; exact congrArg (![·, 5]) offT
theorem off42 (i : grid0.Coords) (k : Fin (k0_t1_loop i).trips) : k0_off42 i k = ![320, 0] := by
  unfold k0_off42; dsimp only; rw [trip_zero i k]; exact congrArg (![320, ·]) offT
theorem off43 (i : grid0.Coords) (k : Fin (k0_t1_loop i).trips) : k0_off43 i k = ![0, 384] := by
  unfold k0_off43; dsimp only; rw [trip_zero i k]; exact congrArg (![·, 384]) offT
theorem off44 (i : grid0.Coords) (k : Fin (k0_t1_loop i).trips) : k0_off44 i k = ![0, 6] := by
  unfold k0_off44; dsimp only; rw [trip_zero i k]; exact congrArg (![·, 6]) offT
theorem off45 (i : grid0.Coords) (k : Fin (k0_t1_loop i).trips) : k0_off45 i k = ![384, 0] := by
  unfold k0_off45; dsimp only; rw [trip_zero i k]; exact congrArg (![384, ·]) offT
theorem off46 (i : grid0.Coords) (k : Fin (k0_t1_loop i).trips) : k0_off46 i k = ![0, 448] := by
  unfold k0_off46; dsimp only; rw [trip_zero i k]; exact congrArg (![·, 448]) offT
theorem off47 (i : grid0.Coords) (k : Fin (k0_t1_loop i).trips) : k0_off47 i k = ![0, 7] := by
  unfold k0_off47; dsimp only; rw [trip_zero i k]; exact congrArg (![·, 7]) offT
theorem off48 (i : grid0.Coords) (k : Fin (k0_t1_loop i).trips) : k0_off48 i k = ![448, 0] := by
  unfold k0_off48; dsimp only; rw [trip_zero i k]; exact congrArg (![448, ·]) offT

/-- A load of a block of two axes, at an index. -/
theorem load2 {N0 N1 n0 n1 : Nat} {e : EltTy} {sp : Space} (v : View sig .tc sp ⟨2, ![N0, N1]⟩ e) (f : v.ty.Contents (Elt Ideal)) (X : (⟨2, ![N0, N1]⟩ : Shape).Idx → Elt Ideal e)
    (hX : v.read (Elt Ideal) f = X) (off : Fin 2 → ℕ) (o0 o1 : ℕ) (ho : off = ![o0, o1]) (inb) (a : Fin n0) (b : Fin n1) (h0 : o0 + n0 ≤ N0) (h1 : o1 + n1 ≤ N1) :
    View.readAt (Elt Ideal) v (Rect.unit (s := ⟨2, ![N0, N1]⟩) off ![n0, n1] inb).toLoadRect f (ix2 a b) = X (ix2 ⟨o0 + a.val, by omega⟩ ⟨o1 + b.val, by omega⟩) := by
  subst ho
  rw [View.readAt_eq_ld, hX]
  refine congrArg X ?_
  funext a; fin_cases a <;> exact Fin.ext (by simp [ix2, Rect.unit])

/-- A load of a block of three axes, at an index. -/
theorem load3 {N0 N1 N2 n0 n1 n2 : Nat} {e : EltTy} {sp : Space} (v : View sig .tc sp ⟨3, ![N0, N1, N2]⟩ e) (f : v.ty.Contents (Elt Ideal)) (X : (⟨3, ![N0, N1, N2]⟩ : Shape).Idx → Elt Ideal e)
    (hX : v.read (Elt Ideal) f = X) (o0 o1 o2 : ℕ) (inb) (a : Fin n0) (b : Fin n1) (c : Fin n2) (h0 : o0 + n0 ≤ N0) (h1 : o1 + n1 ≤ N1) (h2 : o2 + n2 ≤ N2) :
    View.readAt (Elt Ideal) v (Rect.unit (s := ⟨3, ![N0, N1, N2]⟩) ![o0, o1, o2] ![n0, n1, n2] inb).toLoadRect f (ix3 a b c)
      = X (ix3 ⟨o0 + a.val, by omega⟩ ⟨o1 + b.val, by omega⟩ ⟨o2 + c.val, by omega⟩) := by
  rw [View.readAt_eq_ld, hX]
  refine congrArg X ?_
  funext a; fin_cases a <;> exact Fin.ext (by simp [ix3, Rect.unit])

end Cert.FoxPIdeal.Val

end
-- ==== Proof.FoxPTrip.lean ====
/- One block of keys folded into every head, in the loop over the blocks before the diagonal one. -/
module

public import proofs.«01_k».proof.Proof.Gen.FoxPIdeal.Value
public import proofs.«01_k».proof.Proof.FoxPRows
public import Idealize.ShloMosaic.Lib.Pipeline.ValueKit
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem

/-- The score of the key at a row of a block against a query, from the buffers. -/
def sc (K : FVec Ideal S2048x512 .bf16) (Q : FVec Ideal S512x1024 .bf16) (C : FVec Ideal S2048x128 .f32) (o : Fin 2) (h : Fin 8) (x s : Fin 1024) : EReal :=
  (∑ e : Fin 64, K (ix2 ⟨o.val * 1024 + s.val, by omega⟩ ⟨h.val * 64 + e.val, by omega⟩) * Q (ix2 ⟨h.val * 64 + e.val, by omega⟩ x)) - C (ix2 ⟨o.val * 1024 + s.val, by omega⟩ ⟨h.val, by omega⟩)

/-- The same in the block on the diagonal. -/
def scd (K : FVec Ideal S2048x512 .bf16) (Q : FVec Ideal S512x1024 .bf16) (C : FVec Ideal S2048x128 .f32) (o : Fin 2) (h : Fin 8) (x s : Fin 1024) : EReal :=
  if s.val ≤ x.val then sc K Q C o h x s else Ideal.ofBits .f32 4286578688#32

theorem fsc_eq (k : FVec Ideal S1024x64 .bf16) (q : FVec Ideal S64x1024 .bf16) (c : FVec Ideal S1024x1 .f32) (K : FVec Ideal S2048x512 .bf16) (Q : FVec Ideal S512x1024 .bf16)
    (C : FVec Ideal S2048x128 .f32) (o : Fin 2) (h : Fin 8) (x : Fin 1024)
    (hk : ∀ (s : Fin 1024) (e : Fin 64), k (ix2 s e) = K (ix2 ⟨o.val * 1024 + s.val, by omega⟩ ⟨h.val * 64 + e.val, by omega⟩))
    (hq : ∀ e : Fin 64, q (ix2 e x) = Q (ix2 ⟨h.val * 64 + e.val, by omega⟩ x))
    (hc : ∀ s : Fin 1024, c (ix2 s 0) = C (ix2 ⟨o.val * 1024 + s.val, by omega⟩ ⟨h.val, by omega⟩)) : fsc k q c x = sc K Q C o h x := by
  funext s
  unfold fsc sc
  simp only [hk, hq, hc]

theorem dsc_eq (k : FVec Ideal S1024x64 .bf16) (q : FVec Ideal S64x1024 .bf16) (c : FVec Ideal S1024x1 .f32) (K : FVec Ideal S2048x512 .bf16) (Q : FVec Ideal S512x1024 .bf16)
    (C : FVec Ideal S2048x128 .f32) (o : Fin 2) (h : Fin 8) (x : Fin 1024)
    (hk : ∀ (s : Fin 1024) (e : Fin 64), k (ix2 s e) = K (ix2 ⟨o.val * 1024 + s.val, by omega⟩ ⟨h.val * 64 + e.val, by omega⟩))
    (hq : ∀ e : Fin 64, q (ix2 e x) = Q (ix2 ⟨h.val * 64 + e.val, by omega⟩ x))
    (hc : ∀ s : Fin 1024, c (ix2 s 0) = C (ix2 ⟨o.val * 1024 + s.val, by omega⟩ ⟨h.val, by omega⟩)) : dsc k q c x = scd K Q C o h x := by
  funext s
  unfold dsc scd
  rw [fsc_eq k q c K Q C o h x hk hq hc]

theorem stepA_eq {m m' a a' : EReal} {s s' v v' : Fin 1024 → EReal} (h1 : m = m') (h2 : a = a') (h3 : s = s') (h4 : ∀ j, v j = v' j) :
    Soft.stepA m a s v = Soft.stepA m' a' s' v' := by
  obtain rfl : v = v' := funext h4
  subst h1 h2 h3
  rfl

theorem stepL_eq {m m' a a' : EReal} {s s' : Fin 1024 → EReal} (h1 : m = m') (h2 : a = a') (h3 : s = s') : Soft.stepL m a s = Soft.stepL m' a' s' := by
  subst h1 h2 h3
  rfl

theorem stepM_eq {m m' : EReal} {s s' : Fin 1024 → EReal} (h1 : m = m') (h3 : s = s') : Soft.stepM m s = Soft.stepM m' s' := by
  subst h1 h3
  rfl

theorem trip_m (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (v389 c0 : BitVec 32)
    (X5 : BufTy.Contents (Elt Ideal) arg5.view.ty) (X7 : BufTy.Contents (Elt Ideal) arg7.view.ty) (X8 : BufTy.Contents (Elt Ideal) arg8.view.ty) (X9 : BufTy.Contents (Elt Ideal) arg9.view.ty) (k : Fin (k0_t1_loop i).trips)
    (f10 : BufTy.Contents (Elt Ideal) arg10.view.ty) (f11 : BufTy.Contents (Elt Ideal) arg11.view.ty) (f12 : BufTy.Contents (Elt Ideal) arg12.view.ty)
    (K : FVec Ideal S2048x512 .bf16) (Q : FVec Ideal S512x1024 .bf16) (C : FVec Ideal S2048x128 .f32) (V : FVec Ideal S512x2048 .bf16) (M L : FVec Ideal S8x1x1024 .f32) (A : FVec Ideal S512x1024 .f32)
    (h5 : arg5.view.read (Elt Ideal) X5 = C) (h7 : arg7.view.read (Elt Ideal) X7 = K) (h8 : arg8.view.read (Elt Ideal) X8 = V) (h9 : arg9.view.read (Elt Ideal) X9 = Q)
    (h10 : arg10.view.read (Elt Ideal) f10 = M) (h11 : arg11.view.read (Elt Ideal) f11 = L) (h12 : arg12.view.read (Elt Ideal) f12 = A)
    (L0 : List (View.Piece (Elt Ideal) S8x1x1024 .f32)) (h : Fin 8) (x : Fin 1024) :
    View.canon ((tripL_k0_t1 (F := Ideal) Variants.none c none i arg2 harg2 arg3 harg3 arg4 harg4 arg5 harg5 arg6 harg6 arg7 harg7 arg8 harg8 arg9 harg9 arg10 harg10 arg11 harg11 arg12 harg12 v389 c0 X5 X7 X8 X9 k f10 f11 f12).1 ++ L0) (ix3 h 0 x) = Soft.stepM (M (ix3 h 0 x)) (sc K Q C 0 h x) := by
  unfold tripL_k0_t1 trip_k0_t1
  dsimp only
  simp only [List.cons_append, List.nil_append]
  refine rows3 _ _ _ _ _ _ _ _ L0 (fun h x => Soft.stepM (M (ix3 h 0 x)) (sc K Q C 0 h x)) ?_ ?_ ?_ ?_ ?_ ?_ ?_ ?_ h x
  · intro x
    refine (tm0 _ _ _ _ x).trans ?_
    exact stepM_eq ((load3 _ _ M h10 0 0 0 _ 0 0 x (by omega) (by omega) (by omega)).trans (congrArg M (by congr 1; exact Fin.ext (by simp))))
      (fsc_eq _ _ _ K Q C 0 0 x (fun s e => (load2 _ _ K h7 _ _ _ (off25 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off26 i k) _ s 0 (by omega) (by omega)).trans (congrArg C (by congr 1))))
  · intro x
    refine (tm1 _ _ _ _ x).trans ?_
    exact stepM_eq ((load3 _ _ M h10 1 0 0 _ 0 0 x (by omega) (by omega) (by omega)).trans (congrArg M (by congr 1; exact Fin.ext (by simp))))
      (fsc_eq _ _ _ K Q C 0 1 x (fun s e => (load2 _ _ K h7 _ _ _ (off28 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off29 i k) _ s 0 (by omega) (by omega)).trans (congrArg C (by congr 1))))
  · intro x
    refine (tm2 _ _ _ _ x).trans ?_
    exact stepM_eq ((load3 _ _ M h10 2 0 0 _ 0 0 x (by omega) (by omega) (by omega)).trans (congrArg M (by congr 1; exact Fin.ext (by simp))))
      (fsc_eq _ _ _ K Q C 0 2 x (fun s e => (load2 _ _ K h7 _ _ _ (off31 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off32 i k) _ s 0 (by omega) (by omega)).trans (congrArg C (by congr 1))))
  · intro x
    refine (tm3 _ _ _ _ x).trans ?_
    exact stepM_eq ((load3 _ _ M h10 3 0 0 _ 0 0 x (by omega) (by omega) (by omega)).trans (congrArg M (by congr 1; exact Fin.ext (by simp))))
      (fsc_eq _ _ _ K Q C 0 3 x (fun s e => (load2 _ _ K h7 _ _ _ (off34 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off35 i k) _ s 0 (by omega) (by omega)).trans (congrArg C (by congr 1))))
  · intro x
    refine (tm4 _ _ _ _ x).trans ?_
    exact stepM_eq ((load3 _ _ M h10 4 0 0 _ 0 0 x (by omega) (by omega) (by omega)).trans (congrArg M (by congr 1; exact Fin.ext (by simp))))
      (fsc_eq _ _ _ K Q C 0 4 x (fun s e => (load2 _ _ K h7 _ _ _ (off37 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off38 i k) _ s 0 (by omega) (by omega)).trans (congrArg C (by congr 1))))
  · intro x
    refine (tm5 _ _ _ _ x).trans ?_
    exact stepM_eq ((load3 _ _ M h10 5 0 0 _ 0 0 x (by omega) (by omega) (by omega)).trans (congrArg M (by congr 1; exact Fin.ext (by simp))))
      (fsc_eq _ _ _ K Q C 0 5 x (fun s e => (load2 _ _ K h7 _ _ _ (off40 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off41 i k) _ s 0 (by omega) (by omega)).trans (congrArg C (by congr 1))))
  · intro x
    refine (tm6 _ _ _ _ x).trans ?_
    exact stepM_eq ((load3 _ _ M h10 6 0 0 _ 0 0 x (by omega) (by omega) (by omega)).trans (congrArg M (by congr 1; exact Fin.ext (by simp))))
      (fsc_eq _ _ _ K Q C 0 6 x (fun s e => (load2 _ _ K h7 _ _ _ (off43 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off44 i k) _ s 0 (by omega) (by omega)).trans (congrArg C (by congr 1))))
  · intro x
    refine (tm7 _ _ _ _ x).trans ?_
    exact stepM_eq ((load3 _ _ M h10 7 0 0 _ 0 0 x (by omega) (by omega) (by omega)).trans (congrArg M (by congr 1; exact Fin.ext (by simp))))
      (fsc_eq _ _ _ K Q C 0 7 x (fun s e => (load2 _ _ K h7 _ _ _ (off46 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off47 i k) _ s 0 (by omega) (by omega)).trans (congrArg C (by congr 1))))

theorem trip_l (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (v389 c0 : BitVec 32)
    (X5 : BufTy.Contents (Elt Ideal) arg5.view.ty) (X7 : BufTy.Contents (Elt Ideal) arg7.view.ty) (X8 : BufTy.Contents (Elt Ideal) arg8.view.ty) (X9 : BufTy.Contents (Elt Ideal) arg9.view.ty) (k : Fin (k0_t1_loop i).trips)
    (f10 : BufTy.Contents (Elt Ideal) arg10.view.ty) (f11 : BufTy.Contents (Elt Ideal) arg11.view.ty) (f12 : BufTy.Contents (Elt Ideal) arg12.view.ty)
    (K : FVec Ideal S2048x512 .bf16) (Q : FVec Ideal S512x1024 .bf16) (C : FVec Ideal S2048x128 .f32) (V : FVec Ideal S512x2048 .bf16) (M L : FVec Ideal S8x1x1024 .f32) (A : FVec Ideal S512x1024 .f32)
    (h5 : arg5.view.read (Elt Ideal) X5 = C) (h7 : arg7.view.read (Elt Ideal) X7 = K) (h8 : arg8.view.read (Elt Ideal) X8 = V) (h9 : arg9.view.read (Elt Ideal) X9 = Q)
    (h10 : arg10.view.read (Elt Ideal) f10 = M) (h11 : arg11.view.read (Elt Ideal) f11 = L) (h12 : arg12.view.read (Elt Ideal) f12 = A)
    (L0 : List (View.Piece (Elt Ideal) S8x1x1024 .f32)) (h : Fin 8) (x : Fin 1024) :
    View.canon ((tripL_k0_t1 (F := Ideal) Variants.none c none i arg2 harg2 arg3 harg3 arg4 harg4 arg5 harg5 arg6 harg6 arg7 harg7 arg8 harg8 arg9 harg9 arg10 harg10 arg11 harg11 arg12 harg12 v389 c0 X5 X7 X8 X9 k f10 f11 f12).2.1 ++ L0) (ix3 h 0 x) = Soft.stepL (M (ix3 h 0 x)) (L (ix3 h 0 x)) (sc K Q C 0 h x) := by
  unfold tripL_k0_t1 trip_k0_t1
  dsimp only
  simp only [List.cons_append, List.nil_append]
  refine rows3 _ _ _ _ _ _ _ _ L0 (fun h x => Soft.stepL (M (ix3 h 0 x)) (L (ix3 h 0 x)) (sc K Q C 0 h x)) ?_ ?_ ?_ ?_ ?_ ?_ ?_ ?_ h x
  · intro x
    refine (tl0 _ _ _ _ _ x).trans ?_
    exact stepL_eq ((load3 _ _ M h10 0 0 0 _ 0 0 x (by omega) (by omega) (by omega)).trans (congrArg M (by congr 1; exact Fin.ext (by simp))))
      ((load3 _ _ L h11 0 0 0 _ 0 0 x (by omega) (by omega) (by omega)).trans (congrArg L (by congr 1; exact Fin.ext (by simp))))
      (fsc_eq _ _ _ K Q C 0 0 x (fun s e => (load2 _ _ K h7 _ _ _ (off25 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off26 i k) _ s 0 (by omega) (by omega)).trans (congrArg C (by congr 1))))
  · intro x
    refine (tl1 _ _ _ _ _ x).trans ?_
    exact stepL_eq ((load3 _ _ M h10 1 0 0 _ 0 0 x (by omega) (by omega) (by omega)).trans (congrArg M (by congr 1; exact Fin.ext (by simp))))
      ((load3 _ _ L h11 1 0 0 _ 0 0 x (by omega) (by omega) (by omega)).trans (congrArg L (by congr 1; exact Fin.ext (by simp))))
      (fsc_eq _ _ _ K Q C 0 1 x (fun s e => (load2 _ _ K h7 _ _ _ (off28 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off29 i k) _ s 0 (by omega) (by omega)).trans (congrArg C (by congr 1))))
  · intro x
    refine (tl2 _ _ _ _ _ x).trans ?_
    exact stepL_eq ((load3 _ _ M h10 2 0 0 _ 0 0 x (by omega) (by omega) (by omega)).trans (congrArg M (by congr 1; exact Fin.ext (by simp))))
      ((load3 _ _ L h11 2 0 0 _ 0 0 x (by omega) (by omega) (by omega)).trans (congrArg L (by congr 1; exact Fin.ext (by simp))))
      (fsc_eq _ _ _ K Q C 0 2 x (fun s e => (load2 _ _ K h7 _ _ _ (off31 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off32 i k) _ s 0 (by omega) (by omega)).trans (congrArg C (by congr 1))))
  · intro x
    refine (tl3 _ _ _ _ _ x).trans ?_
    exact stepL_eq ((load3 _ _ M h10 3 0 0 _ 0 0 x (by omega) (by omega) (by omega)).trans (congrArg M (by congr 1; exact Fin.ext (by simp))))
      ((load3 _ _ L h11 3 0 0 _ 0 0 x (by omega) (by omega) (by omega)).trans (congrArg L (by congr 1; exact Fin.ext (by simp))))
      (fsc_eq _ _ _ K Q C 0 3 x (fun s e => (load2 _ _ K h7 _ _ _ (off34 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off35 i k) _ s 0 (by omega) (by omega)).trans (congrArg C (by congr 1))))
  · intro x
    refine (tl4 _ _ _ _ _ x).trans ?_
    exact stepL_eq ((load3 _ _ M h10 4 0 0 _ 0 0 x (by omega) (by omega) (by omega)).trans (congrArg M (by congr 1; exact Fin.ext (by simp))))
      ((load3 _ _ L h11 4 0 0 _ 0 0 x (by omega) (by omega) (by omega)).trans (congrArg L (by congr 1; exact Fin.ext (by simp))))
      (fsc_eq _ _ _ K Q C 0 4 x (fun s e => (load2 _ _ K h7 _ _ _ (off37 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off38 i k) _ s 0 (by omega) (by omega)).trans (congrArg C (by congr 1))))
  · intro x
    refine (tl5 _ _ _ _ _ x).trans ?_
    exact stepL_eq ((load3 _ _ M h10 5 0 0 _ 0 0 x (by omega) (by omega) (by omega)).trans (congrArg M (by congr 1; exact Fin.ext (by simp))))
      ((load3 _ _ L h11 5 0 0 _ 0 0 x (by omega) (by omega) (by omega)).trans (congrArg L (by congr 1; exact Fin.ext (by simp))))
      (fsc_eq _ _ _ K Q C 0 5 x (fun s e => (load2 _ _ K h7 _ _ _ (off40 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off41 i k) _ s 0 (by omega) (by omega)).trans (congrArg C (by congr 1))))
  · intro x
    refine (tl6 _ _ _ _ _ x).trans ?_
    exact stepL_eq ((load3 _ _ M h10 6 0 0 _ 0 0 x (by omega) (by omega) (by omega)).trans (congrArg M (by congr 1; exact Fin.ext (by simp))))
      ((load3 _ _ L h11 6 0 0 _ 0 0 x (by omega) (by omega) (by omega)).trans (congrArg L (by congr 1; exact Fin.ext (by simp))))
      (fsc_eq _ _ _ K Q C 0 6 x (fun s e => (load2 _ _ K h7 _ _ _ (off43 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off44 i k) _ s 0 (by omega) (by omega)).trans (congrArg C (by congr 1))))
  · intro x
    refine (tl7 _ _ _ _ _ x).trans ?_
    exact stepL_eq ((load3 _ _ M h10 7 0 0 _ 0 0 x (by omega) (by omega) (by omega)).trans (congrArg M (by congr 1; exact Fin.ext (by simp))))
      ((load3 _ _ L h11 7 0 0 _ 0 0 x (by omega) (by omega) (by omega)).trans (congrArg L (by congr 1; exact Fin.ext (by simp))))
      (fsc_eq _ _ _ K Q C 0 7 x (fun s e => (load2 _ _ K h7 _ _ _ (off46 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off47 i k) _ s 0 (by omega) (by omega)).trans (congrArg C (by congr 1))))

theorem trip_a (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (v389 c0 : BitVec 32)
    (X5 : BufTy.Contents (Elt Ideal) arg5.view.ty) (X7 : BufTy.Contents (Elt Ideal) arg7.view.ty) (X8 : BufTy.Contents (Elt Ideal) arg8.view.ty) (X9 : BufTy.Contents (Elt Ideal) arg9.view.ty) (k : Fin (k0_t1_loop i).trips)
    (f10 : BufTy.Contents (Elt Ideal) arg10.view.ty) (f11 : BufTy.Contents (Elt Ideal) arg11.view.ty) (f12 : BufTy.Contents (Elt Ideal) arg12.view.ty)
    (K : FVec Ideal S2048x512 .bf16) (Q : FVec Ideal S512x1024 .bf16) (C : FVec Ideal S2048x128 .f32) (V : FVec Ideal S512x2048 .bf16) (M L : FVec Ideal S8x1x1024 .f32) (A : FVec Ideal S512x1024 .f32)
    (h5 : arg5.view.read (Elt Ideal) X5 = C) (h7 : arg7.view.read (Elt Ideal) X7 = K) (h8 : arg8.view.read (Elt Ideal) X8 = V) (h9 : arg9.view.read (Elt Ideal) X9 = Q)
    (h10 : arg10.view.read (Elt Ideal) f10 = M) (h11 : arg11.view.read (Elt Ideal) f11 = L) (h12 : arg12.view.read (Elt Ideal) f12 = A)
    (L0 : List (View.Piece (Elt Ideal) S512x1024 .f32)) (h : Fin 8) (d : Fin 64) (x : Fin 1024) :
    View.canon ((tripL_k0_t1 (F := Ideal) Variants.none c none i arg2 harg2 arg3 harg3 arg4 harg4 arg5 harg5 arg6 harg6 arg7 harg7 arg8 harg8 arg9 harg9 arg10 harg10 arg11 harg11 arg12 harg12 v389 c0 X5 X7 X8 X9 k f10 f11 f12).2.2 ++ L0) (ix2 ⟨h.val * 64 + d.val, by omega⟩ x) = Soft.stepA (M (ix3 h 0 x)) (A (ix2 ⟨h.val * 64 + d.val, by omega⟩ x)) (sc K Q C 0 h x) (fun s => V (ix2 ⟨h.val * 64 + d.val, by omega⟩ ⟨s.val, by omega⟩)) := by
  unfold tripL_k0_t1 trip_k0_t1
  dsimp only
  simp only [List.cons_append, List.nil_append]
  refine rows2 _ _ _ _ _ _ _ _ L0 (fun h d x => Soft.stepA (M (ix3 h 0 x)) (A (ix2 ⟨h.val * 64 + d.val, by omega⟩ x)) (sc K Q C 0 h x) (fun s => V (ix2 ⟨h.val * 64 + d.val, by omega⟩ ⟨s.val, by omega⟩))) ?_ ?_ ?_ ?_ ?_ ?_ ?_ ?_ h d x
  · intro d x
    refine (ta0 _ _ _ _ _ _ d x).trans ?_
    exact stepA_eq ((load3 _ _ M h10 0 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 0 x (fun s e => (load2 _ _ K h7 _ _ _ (off25 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off26 i k) _ s 0 (by omega) (by omega)).trans (congrArg C (by congr 1))))
      (fun s => (load2 _ _ V h8 _ _ _ (off27 i k) _ d s (by omega) (by omega)).trans (congrArg V (by congr 1; exact Fin.ext (by simp))))
  · intro d x
    refine (ta1 _ _ _ _ _ _ d x).trans ?_
    exact stepA_eq ((load3 _ _ M h10 1 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 1 x (fun s e => (load2 _ _ K h7 _ _ _ (off28 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off29 i k) _ s 0 (by omega) (by omega)).trans (congrArg C (by congr 1))))
      (fun s => (load2 _ _ V h8 _ _ _ (off30 i k) _ d s (by omega) (by omega)).trans (congrArg V (by congr 1; exact Fin.ext (by simp))))
  · intro d x
    refine (ta2 _ _ _ _ _ _ d x).trans ?_
    exact stepA_eq ((load3 _ _ M h10 2 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 2 x (fun s e => (load2 _ _ K h7 _ _ _ (off31 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off32 i k) _ s 0 (by omega) (by omega)).trans (congrArg C (by congr 1))))
      (fun s => (load2 _ _ V h8 _ _ _ (off33 i k) _ d s (by omega) (by omega)).trans (congrArg V (by congr 1; exact Fin.ext (by simp))))
  · intro d x
    refine (ta3 _ _ _ _ _ _ d x).trans ?_
    exact stepA_eq ((load3 _ _ M h10 3 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 3 x (fun s e => (load2 _ _ K h7 _ _ _ (off34 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off35 i k) _ s 0 (by omega) (by omega)).trans (congrArg C (by congr 1))))
      (fun s => (load2 _ _ V h8 _ _ _ (off36 i k) _ d s (by omega) (by omega)).trans (congrArg V (by congr 1; exact Fin.ext (by simp))))
  · intro d x
    refine (ta4 _ _ _ _ _ _ d x).trans ?_
    exact stepA_eq ((load3 _ _ M h10 4 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 4 x (fun s e => (load2 _ _ K h7 _ _ _ (off37 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off38 i k) _ s 0 (by omega) (by omega)).trans (congrArg C (by congr 1))))
      (fun s => (load2 _ _ V h8 _ _ _ (off39 i k) _ d s (by omega) (by omega)).trans (congrArg V (by congr 1; exact Fin.ext (by simp))))
  · intro d x
    refine (ta5 _ _ _ _ _ _ d x).trans ?_
    exact stepA_eq ((load3 _ _ M h10 5 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 5 x (fun s e => (load2 _ _ K h7 _ _ _ (off40 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off41 i k) _ s 0 (by omega) (by omega)).trans (congrArg C (by congr 1))))
      (fun s => (load2 _ _ V h8 _ _ _ (off42 i k) _ d s (by omega) (by omega)).trans (congrArg V (by congr 1; exact Fin.ext (by simp))))
  · intro d x
    refine (ta6 _ _ _ _ _ _ d x).trans ?_
    exact stepA_eq ((load3 _ _ M h10 6 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 6 x (fun s e => (load2 _ _ K h7 _ _ _ (off43 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off44 i k) _ s 0 (by omega) (by omega)).trans (congrArg C (by congr 1))))
      (fun s => (load2 _ _ V h8 _ _ _ (off45 i k) _ d s (by omega) (by omega)).trans (congrArg V (by congr 1; exact Fin.ext (by simp))))
  · intro d x
    refine (ta7 _ _ _ _ _ _ d x).trans ?_
    exact stepA_eq ((load3 _ _ M h10 7 0 0 _ 0 0 x (by omega) (by omega) (by omega)).trans (congrArg M (by congr 1; exact Fin.ext (by simp))))
      ((load2 _ _ A h12 _ _ _ rfl _ d x (by omega) (by omega)).trans (congrArg A (by congr 1; exact Fin.ext (by simp))))
      (fsc_eq _ _ _ K Q C 0 7 x (fun s e => (load2 _ _ K h7 _ _ _ (off46 i k) _ s e (by omega) (by omega)).trans (congrArg K (by congr 1)))
        (fun e => (load2 _ _ Q h9 _ _ _ rfl _ e x (by omega) (by omega)).trans (congrArg Q (by congr 1; exact Fin.ext (by simp))))
        (fun s => (load2 _ _ C h5 _ _ _ (off47 i k) _ s 0 (by omega) (by omega)).trans (congrArg C (by congr 1))))
      (fun s => (load2 _ _ V h8 _ _ _ (off48 i k) _ d s (by omega) (by omega)).trans (congrArg V (by congr 1; exact Fin.ext (by simp))))

end Cert.FoxPIdeal.Val

end
-- ==== Proof.FoxPDiagA.lean ====
/- The buffers after the diagonal block of keys, for the first block of queries of a sequence. -/
module

public import proofs.«01_k».proof.Proof.Gen.FoxPIdeal.Value
public import proofs.«01_k».proof.Proof.FoxPTrip
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem
namespace CaseA

theorem m0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v41 (F := Ideal) c arg10) (ix3 0 0 x) = ⊥ := by
  unfold kernelRun0_A.sl.v41 kernelRun0_A.sl.HS3_1
  rw [View.readCov_fill _ _ _ _ _ (by decide)]
  show k0_pay143 (F := Ideal) _ = _
  unfold k0_pay143
  exact Soft.bits_bot

theorem l0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v51 (F := Ideal) c arg11) (ix3 0 0 x) = 0 := by
  unfold kernelRun0_A.sl.v51 kernelRun0_A.sl.HS4_1
  rw [View.readCov_fill _ _ _ _ _ (by decide)]
  show k0_pay144 (F := Ideal) _ = _
  unfold k0_pay144
  exact Ideal.ofBits_zero_f32

theorem a0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v60 (F := Ideal) c arg12) (ix2 d x) = 0 := by
  unfold kernelRun0_A.sl.v60 kernelRun0_A.sl.HS5_1
  rw [View.readCov_fill _ _ _ _ _ (by decide)]
  show k0_pay145 (F := Ideal) _ = _
  unfold k0_pay145
  exact Ideal.ofBits_zero_f32

theorem m1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v86 (F := Ideal) c i arg2 harg2 arg3 harg3 arg5 harg5 arg7 arg9 arg10 x0 x1 x3) (ix3 0 0 x) = ⊥ := by
  unfold kernelRun0_A.sl.v86 kernelRun0_A.sl.HS3_2 kernelRun0_A.sl.HS3_1
  rw [View.readCov_skip _ _ _ _ _ (by decide)]
  rw [View.readCov_fill _ _ _ _ _ (by decide)]
  show k0_pay143 (F := Ideal) _ = _
  unfold k0_pay143
  exact Soft.bits_bot

theorem l1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v96 (F := Ideal) c i arg2 harg2 arg3 harg3 arg5 harg5 arg7 arg9 arg10 arg11 x0 x1 x3) (ix3 0 0 x) = 0 := by
  unfold kernelRun0_A.sl.v96 kernelRun0_A.sl.HS4_2 kernelRun0_A.sl.HS4_1
  rw [View.readCov_skip _ _ _ _ _ (by decide)]
  rw [View.readCov_fill _ _ _ _ _ (by decide)]
  show k0_pay144 (F := Ideal) _ = _
  unfold k0_pay144
  exact Ideal.ofBits_zero_f32

theorem a1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v105 (F := Ideal) c i arg2 harg2 arg3 harg3 arg4 harg4 arg5 harg5 arg7 arg8 arg9 arg10 arg12 x0 x1 x2 x3) (ix2 d x) = 0 := by
  unfold kernelRun0_A.sl.v105 kernelRun0_A.sl.HS5_2 kernelRun0_A.sl.HS5_1
  rw [View.readCov_skip _ _ _ _ _ (by decide)]
  rw [View.readCov_fill _ _ _ _ _ (by decide)]
  show k0_pay145 (F := Ideal) _ = _
  unfold k0_pay145
  exact Ideal.ofBits_zero_f32

theorem m2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v131 (F := Ideal) c i arg2 harg2 arg3 harg3 arg5 harg5 arg7 arg9 arg10 x0 x1 x3) (ix3 0 0 x) = ⊥ := by
  unfold kernelRun0_A.sl.v131 kernelRun0_A.sl.HS3_3 kernelRun0_A.sl.HS3_2 kernelRun0_A.sl.HS3_1
  rw [View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v141 (F := Ideal) c i arg2 harg2 arg3 harg3 arg5 harg5 arg7 arg9 arg10 arg11 x0 x1 x3) (ix3 0 0 x) = 0 := by
  unfold kernelRun0_A.sl.v141 kernelRun0_A.sl.HS4_3 kernelRun0_A.sl.HS4_2 kernelRun0_A.sl.HS4_1
  rw [View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v150 (F := Ideal) c i arg2 harg2 arg3 harg3 arg4 harg4 arg5 harg5 arg7 arg8 arg9 arg10 arg12 x0 x1 x2 x3) (ix2 d x) = 0 := by
  unfold kernelRun0_A.sl.v150 kernelRun0_A.sl.HS5_3 kernelRun0_A.sl.HS5_2 kernelRun0_A.sl.HS5_1
  rw [View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m3 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v176 (F := Ideal) c i arg2 harg2 arg3 harg3 arg5 harg5 arg7 arg9 arg10 x0 x1 x3) (ix3 0 0 x) = ⊥ := by
  unfold kernelRun0_A.sl.v176 kernelRun0_A.sl.HS3_4 kernelRun0_A.sl.HS3_3 kernelRun0_A.sl.HS3_2 kernelRun0_A.sl.HS3_1
  rw [View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l3 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v186 (F := Ideal) c i arg2 harg2 arg3 harg3 arg5 harg5 arg7 arg9 arg10 arg11 x0 x1 x3) (ix3 0 0 x) = 0 := by
  unfold kernelRun0_A.sl.v186 kernelRun0_A.sl.HS4_4 kernelRun0_A.sl.HS4_3 kernelRun0_A.sl.HS4_2 kernelRun0_A.sl.HS4_1
  rw [View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a3 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v195 (F := Ideal) c i arg2 harg2 arg3 harg3 arg4 harg4 arg5 harg5 arg7 arg8 arg9 arg10 arg12 x0 x1 x2 x3) (ix2 d x) = 0 := by
  unfold kernelRun0_A.sl.v195 kernelRun0_A.sl.HS5_4 kernelRun0_A.sl.HS5_3 kernelRun0_A.sl.HS5_2 kernelRun0_A.sl.HS5_1
  rw [View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m4 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v221 (F := Ideal) c i arg2 harg2 arg3 harg3 arg5 harg5 arg7 arg9 arg10 x0 x1 x3) (ix3 0 0 x) = ⊥ := by
  unfold kernelRun0_A.sl.v221 kernelRun0_A.sl.HS3_5 kernelRun0_A.sl.HS3_4 kernelRun0_A.sl.HS3_3 kernelRun0_A.sl.HS3_2 kernelRun0_A.sl.HS3_1
  rw [View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l4 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v231 (F := Ideal) c i arg2 harg2 arg3 harg3 arg5 harg5 arg7 arg9 arg10 arg11 x0 x1 x3) (ix3 0 0 x) = 0 := by
  unfold kernelRun0_A.sl.v231 kernelRun0_A.sl.HS4_5 kernelRun0_A.sl.HS4_4 kernelRun0_A.sl.HS4_3 kernelRun0_A.sl.HS4_2 kernelRun0_A.sl.HS4_1
  rw [View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a4 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v240 (F := Ideal) c i arg2 harg2 arg3 harg3 arg4 harg4 arg5 harg5 arg7 arg8 arg9 arg10 arg12 x0 x1 x2 x3) (ix2 d x) = 0 := by
  unfold kernelRun0_A.sl.v240 kernelRun0_A.sl.HS5_5 kernelRun0_A.sl.HS5_4 kernelRun0_A.sl.HS5_3 kernelRun0_A.sl.HS5_2 kernelRun0_A.sl.HS5_1
  rw [View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m5 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v266 (F := Ideal) c i arg2 harg2 arg3 harg3 arg5 harg5 arg7 arg9 arg10 x0 x1 x3) (ix3 0 0 x) = ⊥ := by
  unfold kernelRun0_A.sl.v266 kernelRun0_A.sl.HS3_6 kernelRun0_A.sl.HS3_5 kernelRun0_A.sl.HS3_4 kernelRun0_A.sl.HS3_3 kernelRun0_A.sl.HS3_2 kernelRun0_A.sl.HS3_1
  rw [View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l5 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v276 (F := Ideal) c i arg2 harg2 arg3 harg3 arg5 harg5 arg7 arg9 arg10 arg11 x0 x1 x3) (ix3 0 0 x) = 0 := by
  unfold kernelRun0_A.sl.v276 kernelRun0_A.sl.HS4_6 kernelRun0_A.sl.HS4_5 kernelRun0_A.sl.HS4_4 kernelRun0_A.sl.HS4_3 kernelRun0_A.sl.HS4_2 kernelRun0_A.sl.HS4_1
  rw [View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a5 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v285 (F := Ideal) c i arg2 harg2 arg3 harg3 arg4 harg4 arg5 harg5 arg7 arg8 arg9 arg10 arg12 x0 x1 x2 x3) (ix2 d x) = 0 := by
  unfold kernelRun0_A.sl.v285 kernelRun0_A.sl.HS5_6 kernelRun0_A.sl.HS5_5 kernelRun0_A.sl.HS5_4 kernelRun0_A.sl.HS5_3 kernelRun0_A.sl.HS5_2 kernelRun0_A.sl.HS5_1
  rw [View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m6 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v311 (F := Ideal) c i arg2 harg2 arg3 harg3 arg5 harg5 arg7 arg9 arg10 x0 x1 x3) (ix3 0 0 x) = ⊥ := by
  unfold kernelRun0_A.sl.v311 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l6 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v321 (F := Ideal) c i arg2 harg2 arg3 harg3 arg5 harg5 arg7 arg9 arg10 arg11 x0 x1 x3) (ix3 0 0 x) = 0 := by
  unfold kernelRun0_A.sl.v321 kernelRun0_A.sl.HS4_7 kernelRun0_A.sl.HS4_6 kernelRun0_A.sl.HS4_5 kernelRun0_A.sl.HS4_4 kernelRun0_A.sl.HS4_3 kernelRun0_A.sl.HS4_2 kernelRun0_A.sl.HS4_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a6 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v330 (F := Ideal) c i arg2 harg2 arg3 harg3 arg4 harg4 arg5 harg5 arg7 arg8 arg9 arg10 arg12 x0 x1 x2 x3) (ix2 d x) = 0 := by
  unfold kernelRun0_A.sl.v330 kernelRun0_A.sl.HS5_7 kernelRun0_A.sl.HS5_6 kernelRun0_A.sl.HS5_5 kernelRun0_A.sl.HS5_4 kernelRun0_A.sl.HS5_3 kernelRun0_A.sl.HS5_2 kernelRun0_A.sl.HS5_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m7 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v356 (F := Ideal) c i arg2 harg2 arg3 harg3 arg5 harg5 arg7 arg9 arg10 x0 x1 x3) (ix3 0 0 x) = ⊥ := by
  unfold kernelRun0_A.sl.v356 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l7 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (x : Fin 1024) : (kernelRun0_A.sl.v366 (F := Ideal) c i arg2 harg2 arg3 harg3 arg5 harg5 arg7 arg9 arg10 arg11 x0 x1 x3) (ix3 0 0 x) = 0 := by
  unfold kernelRun0_A.sl.v366 kernelRun0_A.sl.HS4_8 kernelRun0_A.sl.HS4_7 kernelRun0_A.sl.HS4_6 kernelRun0_A.sl.HS4_5 kernelRun0_A.sl.HS4_4 kernelRun0_A.sl.HS4_3 kernelRun0_A.sl.HS4_2 kernelRun0_A.sl.HS4_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a7 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (d : Fin 64) (x : Fin 1024) : (kernelRun0_A.sl.v375 (F := Ideal) c i arg2 harg2 arg3 harg3 arg4 harg4 arg5 harg5 arg7 arg8 arg9 arg10 arg12 x0 x1 x2 x3) (ix2 d x) = 0 := by
  unfold kernelRun0_A.sl.v375 kernelRun0_A.sl.HS5_8 kernelRun0_A.sl.HS5_7 kernelRun0_A.sl.HS5_6 kernelRun0_A.sl.HS5_5 kernelRun0_A.sl.HS5_4 kernelRun0_A.sl.HS5_3 kernelRun0_A.sl.HS5_2 kernelRun0_A.sl.HS5_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem diag_m (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32)
    (K : FVec Ideal S2048x512 .bf16) (Q : FVec Ideal S512x1024 .bf16) (V : FVec Ideal S512x2048 .bf16)
    (hK : View.canon (kernelRun0_A.sl.HS0_1 (F := Ideal) c arg3 harg3 x1) = K) (hV : View.canon (kernelRun0_A.sl.HS1_1 (F := Ideal) c arg4 harg4 x2) = V) (hQ : View.canon (kernelRun0_A.sl.HS2_1 (F := Ideal) c arg2 harg2 x0) = Q) (h : Fin 8) (x : Fin 1024) :
    View.canon (kernelRun0_A.sl.HS3_9 (F := Ideal) c i arg2 harg2 arg3 harg3 arg5 harg5 arg7 arg9 arg10 x0 x1 x3) (ix3 h 0 x) = Soft.stepM ⊥ (scd K Q x3 (i 1) h x) := by
  have hi : (i 1).val < 2 := (i 1).isLt
  unfold kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2
  refine rows3 _ _ _ _ _ _ _ _ _ (fun h x => Soft.stepM ⊥ (scd K Q x3 (i 1) h x)) ?_ ?_ ?_ ?_ ?_ ?_ ?_ ?_ h x
  · intro x
    refine (dm0 _ _ _ _ x).trans ?_
    exact stepM_eq (m0 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 0 x (fun s e => (load2 _ _ K ((View.read_writes_junk_eq_canon _ _).trans hK) _ _ _ (off1 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off2 i) _ s 0 (by omega) (by omega)).trans (congrArg x3 (by congr 1))))
  · intro x
    refine (dm1 _ _ _ _ x).trans ?_
    exact stepM_eq (m1 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 1 x (fun s e => (load2 _ _ K ((View.read_writes_junk_eq_canon _ _).trans hK) _ _ _ (off4 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off5 i) _ s 0 (by omega) (by omega)).trans (congrArg x3 (by congr 1))))
  · intro x
    refine (dm2 _ _ _ _ x).trans ?_
    exact stepM_eq (m2 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 2 x (fun s e => (load2 _ _ K ((View.read_writes_junk_eq_canon _ _).trans hK) _ _ _ (off7 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off8 i) _ s 0 (by omega) (by omega)).trans (congrArg x3 (by congr 1))))
  · intro x
    refine (dm3 _ _ _ _ x).trans ?_
    exact stepM_eq (m3 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 3 x (fun s e => (load2 _ _ K ((View.read_writes_junk_eq_canon _ _).trans hK) _ _ _ (off10 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off11 i) _ s 0 (by omega) (by omega)).trans (congrArg x3 (by congr 1))))
  · intro x
    refine (dm4 _ _ _ _ x).trans ?_
    exact stepM_eq (m4 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 4 x (fun s e => (load2 _ _ K ((View.read_writes_junk_eq_canon _ _).trans hK) _ _ _ (off13 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off14 i) _ s 0 (by omega) (by omega)).trans (congrArg x3 (by congr 1))))
  · intro x
    refine (dm5 _ _ _ _ x).trans ?_
    exact stepM_eq (m5 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 5 x (fun s e => (load2 _ _ K ((View.read_writes_junk_eq_canon _ _).trans hK) _ _ _ (off16 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off17 i) _ s 0 (by omega) (by omega)).trans (congrArg x3 (by congr 1))))
  · intro x
    refine (dm6 _ _ _ _ x).trans ?_
    exact stepM_eq (m6 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 6 x (fun s e => (load2 _ _ K ((View.read_writes_junk_eq_canon _ _).trans hK) _ _ _ (off19 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off20 i) _ s 0 (by omega) (by omega)).trans (congrArg x3 (by congr 1))))
  · intro x
    refine (dm7 _ _ _ _ x).trans ?_
    exact stepM_eq (m7 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 7 x (fun s e => (load2 _ _ K ((View.read_writes_junk_eq_canon _ _).trans hK) _ _ _ (off22 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off23 i) _ s 0 (by omega) (by omega)).trans (congrArg x3 (by congr 1))))

theorem diag_l (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32)
    (K : FVec Ideal S2048x512 .bf16) (Q : FVec Ideal S512x1024 .bf16) (V : FVec Ideal S512x2048 .bf16)
    (hK : View.canon (kernelRun0_A.sl.HS0_1 (F := Ideal) c arg3 harg3 x1) = K) (hV : View.canon (kernelRun0_A.sl.HS1_1 (F := Ideal) c arg4 harg4 x2) = V) (hQ : View.canon (kernelRun0_A.sl.HS2_1 (F := Ideal) c arg2 harg2 x0) = Q) (h : Fin 8) (x : Fin 1024) :
    View.canon (kernelRun0_A.sl.HS4_9 (F := Ideal) c i arg2 harg2 arg3 harg3 arg5 harg5 arg7 arg9 arg10 arg11 x0 x1 x3) (ix3 h 0 x) = Soft.stepL ⊥ 0 (scd K Q x3 (i 1) h x) := by
  have hi : (i 1).val < 2 := (i 1).isLt
  unfold kernelRun0_A.sl.HS4_9 kernelRun0_A.sl.HS4_8 kernelRun0_A.sl.HS4_7 kernelRun0_A.sl.HS4_6 kernelRun0_A.sl.HS4_5 kernelRun0_A.sl.HS4_4 kernelRun0_A.sl.HS4_3 kernelRun0_A.sl.HS4_2
  refine rows3 _ _ _ _ _ _ _ _ _ (fun h x => Soft.stepL ⊥ 0 (scd K Q x3 (i 1) h x)) ?_ ?_ ?_ ?_ ?_ ?_ ?_ ?_ h x
  · intro x
    refine (dl0 _ _ _ _ _ x).trans ?_
    exact stepL_eq (m0 c i arg2 harg2 arg3 harg3 arg4 harg4 arg5 harg5 arg6 harg6 arg7 harg7 arg8 harg8 arg9 harg9 arg10 harg10 arg11 harg11 arg12 harg12 x0 x1 x2 x3 x)
      (l0 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 0 x (fun s e => (load2 _ _ K ((View.read_writes_junk_eq_canon _ _).trans hK) _ _ _ (off1 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off2 i) _ s 0 (by omega) (by omega)).trans (congrArg x3 (by congr 1))))
  · intro x
    refine (dl1 _ _ _ _ _ x).trans ?_
    exact stepL_eq (m1 c i arg2 harg2 arg3 harg3 arg4 harg4 arg5 harg5 arg6 harg6 arg7 harg7 arg8 harg8 arg9 harg9 arg10 harg10 arg11 harg11 arg12 harg12 x0 x1 x2 x3 x)
      (l1 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 1 x (fun s e => (load2 _ _ K ((View.read_writes_junk_eq_canon _ _).trans hK) _ _ _ (off4 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off5 i) _ s 0 (by omega) (by omega)).trans (congrArg x3 (by congr 1))))
  · intro x
    refine (dl2 _ _ _ _ _ x).trans ?_
    exact stepL_eq (m2 c i arg2 harg2 arg3 harg3 arg4 harg4 arg5 harg5 arg6 harg6 arg7 harg7 arg8 harg8 arg9 harg9 arg10 harg10 arg11 harg11 arg12 harg12 x0 x1 x2 x3 x)
      (l2 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 2 x (fun s e => (load2 _ _ K ((View.read_writes_junk_eq_canon _ _).trans hK) _ _ _ (off7 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off8 i) _ s 0 (by omega) (by omega)).trans (congrArg x3 (by congr 1))))
  · intro x
    refine (dl3 _ _ _ _ _ x).trans ?_
    exact stepL_eq (m3 c i arg2 harg2 arg3 harg3 arg4 harg4 arg5 harg5 arg6 harg6 arg7 harg7 arg8 harg8 arg9 harg9 arg10 harg10 arg11 harg11 arg12 harg12 x0 x1 x2 x3 x)
      (l3 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 3 x (fun s e => (load2 _ _ K ((View.read_writes_junk_eq_canon _ _).trans hK) _ _ _ (off10 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off11 i) _ s 0 (by omega) (by omega)).trans (congrArg x3 (by congr 1))))
  · intro x
    refine (dl4 _ _ _ _ _ x).trans ?_
    exact stepL_eq (m4 c i arg2 harg2 arg3 harg3 arg4 harg4 arg5 harg5 arg6 harg6 arg7 harg7 arg8 harg8 arg9 harg9 arg10 harg10 arg11 harg11 arg12 harg12 x0 x1 x2 x3 x)
      (l4 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 4 x (fun s e => (load2 _ _ K ((View.read_writes_junk_eq_canon _ _).trans hK) _ _ _ (off13 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off14 i) _ s 0 (by omega) (by omega)).trans (congrArg x3 (by congr 1))))
  · intro x
    refine (dl5 _ _ _ _ _ x).trans ?_
    exact stepL_eq (m5 c i arg2 harg2 arg3 harg3 arg4 harg4 arg5 harg5 arg6 harg6 arg7 harg7 arg8 harg8 arg9 harg9 arg10 harg10 arg11 harg11 arg12 harg12 x0 x1 x2 x3 x)
      (l5 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 5 x (fun s e => (load2 _ _ K ((View.read_writes_junk_eq_canon _ _).trans hK) _ _ _ (off16 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off17 i) _ s 0 (by omega) (by omega)).trans (congrArg x3 (by congr 1))))
  · intro x
    refine (dl6 _ _ _ _ _ x).trans ?_
    exact stepL_eq (m6 c i arg2 harg2 arg3 harg3 arg4 harg4 arg5 harg5 arg6 harg6 arg7 harg7 arg8 harg8 arg9 harg9 arg10 harg10 arg11 harg11 arg12 harg12 x0 x1 x2 x3 x)
      (l6 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 6 x (fun s e => (load2 _ _ K ((View.read_writes_junk_eq_canon _ _).trans hK) _ _ _ (off19 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off20 i) _ s 0 (by omega) (by omega)).trans (congrArg x3 (by congr 1))))
  · intro x
    refine (dl7 _ _ _ _ _ x).trans ?_
    exact stepL_eq (m7 c i arg2 harg2 arg3 harg3 arg4 harg4 arg5 harg5 arg6 harg6 arg7 harg7 arg8 harg8 arg9 harg9 arg10 harg10 arg11 harg11 arg12 harg12 x0 x1 x2 x3 x)
      (l7 c i arg2 harg2 arg3 harg3 arg4 harg4 arg5 harg5 arg6 harg6 arg7 harg7 arg8 harg8 arg9 harg9 arg10 harg10 arg11 harg11 arg12 harg12 x0 x1 x2 x3 x)
      (dsc_eq _ _ _ K Q x3 (i 1) 7 x (fun s e => (load2 _ _ K ((View.read_writes_junk_eq_canon _ _).trans hK) _ _ _ (off22 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off23 i) _ s 0 (by omega) (by omega)).trans (congrArg x3 (by congr 1))))

theorem diag_a (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32)
    (K : FVec Ideal S2048x512 .bf16) (Q : FVec Ideal S512x1024 .bf16) (V : FVec Ideal S512x2048 .bf16)
    (hK : View.canon (kernelRun0_A.sl.HS0_1 (F := Ideal) c arg3 harg3 x1) = K) (hV : View.canon (kernelRun0_A.sl.HS1_1 (F := Ideal) c arg4 harg4 x2) = V) (hQ : View.canon (kernelRun0_A.sl.HS2_1 (F := Ideal) c arg2 harg2 x0) = Q) (h : Fin 8) (d : Fin 64) (x : Fin 1024) :
    View.canon (kernelRun0_A.sl.HS5_9 (F := Ideal) c i arg2 harg2 arg3 harg3 arg4 harg4 arg5 harg5 arg7 arg8 arg9 arg10 arg12 x0 x1 x2 x3) (ix2 ⟨h.val * 64 + d.val, by omega⟩ x) = Soft.stepA ⊥ 0 (scd K Q x3 (i 1) h x) (fun s => V (ix2 ⟨h.val * 64 + d.val, by omega⟩ ⟨(i 1).val * 1024 + s.val, by have := s.isLt; have : (i 1).val < 2 := (i 1).isLt; omega⟩)) := by
  have hi : (i 1).val < 2 := (i 1).isLt
  unfold kernelRun0_A.sl.HS5_9 kernelRun0_A.sl.HS5_8 kernelRun0_A.sl.HS5_7 kernelRun0_A.sl.HS5_6 kernelRun0_A.sl.HS5_5 kernelRun0_A.sl.HS5_4 kernelRun0_A.sl.HS5_3 kernelRun0_A.sl.HS5_2
  refine rows2 _ _ _ _ _ _ _ _ _ (fun h d x => Soft.stepA ⊥ 0 (scd K Q x3 (i 1) h x) (fun s => V (ix2 ⟨h.val * 64 + d.val, by omega⟩ ⟨(i 1).val * 1024 + s.val, by have := s.isLt; have : (i 1).val < 2 := (i 1).isLt; omega⟩))) ?_ ?_ ?_ ?_ ?_ ?_ ?_ ?_ h d x
  · intro d x
    refine (da0 _ _ _ _ _ _ d x).trans ?_
    exact stepA_eq (m0 c i arg2 harg2 arg3 harg3 arg4 harg4 arg5 harg5 arg6 harg6 arg7 harg7 arg8 harg8 arg9 harg9 arg10 harg10 arg11 harg11 arg12 harg12 x0 x1 x2 x3 x)
      (a0 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 0 x (fun s e => (load2 _ _ K ((View.read_writes_junk_eq_canon _ _).trans hK) _ _ _ (off1 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off2 i) _ s 0 (by omega) (by omega)).trans (congrArg x3 (by congr 1))))
      (fun s => (load2 _ _ V ((View.read_writes_junk_eq_canon _ _).trans hV) _ _ _ (off3 i) _ d s (by omega) (by omega)).trans (congrArg V (by congr 1)))
  · intro d x
    refine (da1 _ _ _ _ _ _ d x).trans ?_
    exact stepA_eq (m1 c i arg2 harg2 arg3 harg3 arg4 harg4 arg5 harg5 arg6 harg6 arg7 harg7 arg8 harg8 arg9 harg9 arg10 harg10 arg11 harg11 arg12 harg12 x0 x1 x2 x3 x)
      (a1 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 1 x (fun s e => (load2 _ _ K ((View.read_writes_junk_eq_canon _ _).trans hK) _ _ _ (off4 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off5 i) _ s 0 (by omega) (by omega)).trans (congrArg x3 (by congr 1))))
      (fun s => (load2 _ _ V ((View.read_writes_junk_eq_canon _ _).trans hV) _ _ _ (off6 i) _ d s (by omega) (by omega)).trans (congrArg V (by congr 1)))
  · intro d x
    refine (da2 _ _ _ _ _ _ d x).trans ?_
    exact stepA_eq (m2 c i arg2 harg2 arg3 harg3 arg4 harg4 arg5 harg5 arg6 harg6 arg7 harg7 arg8 harg8 arg9 harg9 arg10 harg10 arg11 harg11 arg12 harg12 x0 x1 x2 x3 x)
      (a2 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 2 x (fun s e => (load2 _ _ K ((View.read_writes_junk_eq_canon _ _).trans hK) _ _ _ (off7 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off8 i) _ s 0 (by omega) (by omega)).trans (congrArg x3 (by congr 1))))
      (fun s => (load2 _ _ V ((View.read_writes_junk_eq_canon _ _).trans hV) _ _ _ (off9 i) _ d s (by omega) (by omega)).trans (congrArg V (by congr 1)))
  · intro d x
    refine (da3 _ _ _ _ _ _ d x).trans ?_
    exact stepA_eq (m3 c i arg2 harg2 arg3 harg3 arg4 harg4 arg5 harg5 arg6 harg6 arg7 harg7 arg8 harg8 arg9 harg9 arg10 harg10 arg11 harg11 arg12 harg12 x0 x1 x2 x3 x)
      (a3 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 3 x (fun s e => (load2 _ _ K ((View.read_writes_junk_eq_canon _ _).trans hK) _ _ _ (off10 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off11 i) _ s 0 (by omega) (by omega)).trans (congrArg x3 (by congr 1))))
      (fun s => (load2 _ _ V ((View.read_writes_junk_eq_canon _ _).trans hV) _ _ _ (off12 i) _ d s (by omega) (by omega)).trans (congrArg V (by congr 1)))
  · intro d x
    refine (da4 _ _ _ _ _ _ d x).trans ?_
    exact stepA_eq (m4 c i arg2 harg2 arg3 harg3 arg4 harg4 arg5 harg5 arg6 harg6 arg7 harg7 arg8 harg8 arg9 harg9 arg10 harg10 arg11 harg11 arg12 harg12 x0 x1 x2 x3 x)
      (a4 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 4 x (fun s e => (load2 _ _ K ((View.read_writes_junk_eq_canon _ _).trans hK) _ _ _ (off13 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off14 i) _ s 0 (by omega) (by omega)).trans (congrArg x3 (by congr 1))))
      (fun s => (load2 _ _ V ((View.read_writes_junk_eq_canon _ _).trans hV) _ _ _ (off15 i) _ d s (by omega) (by omega)).trans (congrArg V (by congr 1)))
  · intro d x
    refine (da5 _ _ _ _ _ _ d x).trans ?_
    exact stepA_eq (m5 c i arg2 harg2 arg3 harg3 arg4 harg4 arg5 harg5 arg6 harg6 arg7 harg7 arg8 harg8 arg9 harg9 arg10 harg10 arg11 harg11 arg12 harg12 x0 x1 x2 x3 x)
      (a5 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 5 x (fun s e => (load2 _ _ K ((View.read_writes_junk_eq_canon _ _).trans hK) _ _ _ (off16 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off17 i) _ s 0 (by omega) (by omega)).trans (congrArg x3 (by congr 1))))
      (fun s => (load2 _ _ V ((View.read_writes_junk_eq_canon _ _).trans hV) _ _ _ (off18 i) _ d s (by omega) (by omega)).trans (congrArg V (by congr 1)))
  · intro d x
    refine (da6 _ _ _ _ _ _ d x).trans ?_
    exact stepA_eq (m6 c i arg2 harg2 arg3 harg3 arg4 harg4 arg5 harg5 arg6 harg6 arg7 harg7 arg8 harg8 arg9 harg9 arg10 harg10 arg11 harg11 arg12 harg12 x0 x1 x2 x3 x)
      (a6 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 6 x (fun s e => (load2 _ _ K ((View.read_writes_junk_eq_canon _ _).trans hK) _ _ _ (off19 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off20 i) _ s 0 (by omega) (by omega)).trans (congrArg x3 (by congr 1))))
      (fun s => (load2 _ _ V ((View.read_writes_junk_eq_canon _ _).trans hV) _ _ _ (off21 i) _ d s (by omega) (by omega)).trans (congrArg V (by congr 1)))
  · intro d x
    refine (da7 _ _ _ _ _ _ d x).trans ?_
    exact stepA_eq (m7 c i arg2 harg2 arg3 harg3 arg4 harg4 arg5 harg5 arg6 harg6 arg7 harg7 arg8 harg8 arg9 harg9 arg10 harg10 arg11 harg11 arg12 harg12 x0 x1 x2 x3 x)
      (a7 c i arg2 harg2 arg3 harg3 arg4 harg4 arg5 harg5 arg6 harg6 arg7 harg7 arg8 harg8 arg9 harg9 arg10 harg10 arg11 harg11 arg12 harg12 x0 x1 x2 x3 d x)
      (dsc_eq _ _ _ K Q x3 (i 1) 7 x (fun s e => (load2 _ _ K ((View.read_writes_junk_eq_canon _ _).trans hK) _ _ _ (off22 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off23 i) _ s 0 (by omega) (by omega)).trans (congrArg x3 (by congr 1))))
      (fun s => (load2 _ _ V ((View.read_writes_junk_eq_canon _ _).trans hV) _ _ _ (off24 i) _ d s (by omega) (by omega)).trans (congrArg V (by congr 1)))

end CaseA

end Cert.FoxPIdeal.Val

end
-- ==== Proof.FoxPLoop.lean ====
/- The two loops over the blocks of keys before the diagonal one: the first makes a trip for each of them, the second none. -/
module

public import proofs.«01_k».proof.Proof.Gen.FoxPIdeal.Value
public import proofs.«01_k».proof.Proof.FoxPTrip
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem

theorem pb1_zero (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole)
    (v389 c0 : BitVec 32) (X5 : BufTy.Contents (Elt Ideal) arg5.view.ty) (X7 : BufTy.Contents (Elt Ideal) arg7.view.ty) (X8 : BufTy.Contents (Elt Ideal) arg8.view.ty) (X9 : BufTy.Contents (Elt Ideal) arg9.view.ty)
    (G10 : BufTy.Contents (Elt Ideal) arg10.view.ty) (G11 : BufTy.Contents (Elt Ideal) arg11.view.ty) (G12 : BufTy.Contents (Elt Ideal) arg12.view.ty) (n : ℕ) (hn : n = 0) :
    pb_k0_t1 (F := Ideal) Variants.none c none i arg2 harg2 arg3 harg3 arg4 harg4 arg5 harg5 arg6 harg6 arg7 harg7 arg8 harg8 arg9 harg9 arg10 harg10 arg11 harg11 arg12 harg12 v389 c0 X5 X7 X8 X9 G10 G11 G12 n = ([], [], []) := by
  subst hn; rfl

theorem pb2_zero (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole)
    (v389 c0 : BitVec 32) (v394 : BitVec 32) (X5 : BufTy.Contents (Elt Ideal) arg5.view.ty) (X7 : BufTy.Contents (Elt Ideal) arg7.view.ty) (X8 : BufTy.Contents (Elt Ideal) arg8.view.ty) (X9 : BufTy.Contents (Elt Ideal) arg9.view.ty)
    (G10 : BufTy.Contents (Elt Ideal) arg10.view.ty) (G11 : BufTy.Contents (Elt Ideal) arg11.view.ty) (G12 : BufTy.Contents (Elt Ideal) arg12.view.ty) (n : ℕ) (hn : n = 0) :
    pb_k0_t2 (F := Ideal) Variants.none c none i arg2 harg2 arg3 harg3 arg4 harg4 arg5 harg5 arg6 harg6 arg7 harg7 arg8 harg8 arg9 harg9 arg10 harg10 arg11 harg11 arg12 harg12 v389 c0 v394 X5 X7 X8 X9 G10 G11 G12 n = ([], [], []) := by
  subst hn; rfl

theorem pb1_one (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole)
    (v389 c0 : BitVec 32) (X5 : BufTy.Contents (Elt Ideal) arg5.view.ty) (X7 : BufTy.Contents (Elt Ideal) arg7.view.ty) (X8 : BufTy.Contents (Elt Ideal) arg8.view.ty) (X9 : BufTy.Contents (Elt Ideal) arg9.view.ty)
    (G10 : BufTy.Contents (Elt Ideal) arg10.view.ty) (G11 : BufTy.Contents (Elt Ideal) arg11.view.ty) (G12 : BufTy.Contents (Elt Ideal) arg12.view.ty) (n : ℕ) (k : Fin (k0_t1_loop i).trips) (hn : n = 1) :
    pb_k0_t1 (F := Ideal) Variants.none c none i arg2 harg2 arg3 harg3 arg4 harg4 arg5 harg5 arg6 harg6 arg7 harg7 arg8 harg8 arg9 harg9 arg10 harg10 arg11 harg11 arg12 harg12 v389 c0 X5 X7 X8 X9 G10 G11 G12 n
      = tripL_k0_t1 (F := Ideal) Variants.none c none i arg2 harg2 arg3 harg3 arg4 harg4 arg5 harg5 arg6 harg6 arg7 harg7 arg8 harg8 arg9 harg9 arg10 harg10 arg11 harg11 arg12 harg12 v389 c0 X5 X7 X8 X9 k G10 G11 G12 := by
  subst hn
  have e := pb_k0_t1_succ (F := Ideal) Variants.none c none i arg2 harg2 arg3 harg3 arg4 harg4 arg5 harg5 arg6 harg6 arg7 harg7 arg8 harg8 arg9 harg9 arg10 harg10 arg11 harg11 arg12 harg12 v389 c0 X5 X7 X8 X9 G10 G11 G12 k
  rw [trip_zero i k] at e
  refine e.trans ?_
  rw [pb1_zero c i arg2 harg2 arg3 harg3 arg4 harg4 arg5 harg5 arg6 harg6 arg7 harg7 arg8 harg8 arg9 harg9 arg10 harg10 arg11 harg11 arg12 harg12 v389 c0 X5 X7 X8 X9 G10 G11 G12 0 rfl]
  simp only [List.append_nil]
  rfl

/-- A load of sixty-four rows, at an index. -/
theorem idx2 (o : ℕ) (inb) (h : ℕ) (hh : h < 8) (ho : o = h * 64) (d : Fin 64) (x : Fin 1024) :
    (Rect.unit (s := S512x1024) ![o, 0] ![64, 1024] inb).toLoadRect.idx (ix2 (n0 := 64) (n1 := 1024) d x) = ix2 (n0 := 512) (n1 := 1024) ⟨h * 64 + d.val, by omega⟩ x := by
  subst ho
  funext a; fin_cases a <;> exact Fin.ext (by simp [ix2, Rect.unit])

/-- A load of a row, at an index. -/
theorem idx3 (h : ℕ) (hh : h < 8) (inb) (x : Fin 1024) :
    (Rect.unit (s := S8x1x1024) ![h, 0, 0] ![1, 1, 1024] inb).toLoadRect.idx (ix3 (n0 := 1) (n1 := 1) (n2 := 1024) 0 0 x) = ix3 (n0 := 8) (n1 := 1) (n2 := 1024) ⟨h, hh⟩ 0 x := by
  funext a; fin_cases a <;> exact Fin.ext (by simp [ix3, Rect.unit])

/-- A load of the whole. -/
theorem idxw (inb) (j : Fin 512) (x : Fin 1024) :
    (Rect.unit (s := S512x1024) ![0, 0] ![512, 1024] inb).toLoadRect.idx (ix2 (n0 := 512) (n1 := 1024) j x) = ix2 (n0 := 512) (n1 := 1024) j x := by
  funext a; fin_cases a <;> exact Fin.ext (by simp [ix2, Rect.unit])

theorem quot217 (a : FVec Ideal S64x1024 .f32) (l : FVec Ideal S1x1x1024 .f32) (d : Fin 64) (x : Fin 1024) :
    k0_pay217 (F := Ideal) a l (ix2 d x) = Ideal.div (a (ix2 d x)) (l (ix3 0 0 x)) := by
  open_payloads
  pointwise

theorem quot218 (a : FVec Ideal S64x1024 .f32) (l : FVec Ideal S1x1x1024 .f32) (d : Fin 64) (x : Fin 1024) :
    k0_pay218 (F := Ideal) a l (ix2 d x) = Ideal.div (a (ix2 d x)) (l (ix3 0 0 x)) := by
  open_payloads
  pointwise

theorem quot219 (a : FVec Ideal S64x1024 .f32) (l : FVec Ideal S1x1x1024 .f32) (d : Fin 64) (x : Fin 1024) :
    k0_pay219 (F := Ideal) a l (ix2 d x) = Ideal.div (a (ix2 d x)) (l (ix3 0 0 x)) := by
  open_payloads
  pointwise

theorem quot220 (a : FVec Ideal S64x1024 .f32) (l : FVec Ideal S1x1x1024 .f32) (d : Fin 64) (x : Fin 1024) :
    k0_pay220 (F := Ideal) a l (ix2 d x) = Ideal.div (a (ix2 d x)) (l (ix3 0 0 x)) := by
  open_payloads
  pointwise

theorem quot221 (a : FVec Ideal S64x1024 .f32) (l : FVec Ideal S1x1x1024 .f32) (d : Fin 64) (x : Fin 1024) :
    k0_pay221 (F := Ideal) a l (ix2 d x) = Ideal.div (a (ix2 d x)) (l (ix3 0 0 x)) := by
  open_payloads
  pointwise

theorem quot222 (a : FVec Ideal S64x1024 .f32) (l : FVec Ideal S1x1x1024 .f32) (d : Fin 64) (x : Fin 1024) :
    k0_pay222 (F := Ideal) a l (ix2 d x) = Ideal.div (a (ix2 d x)) (l (ix3 0 0 x)) := by
  open_payloads
  pointwise

theorem quot2 (a : FVec Ideal S64x1024 .f32) (l : FVec Ideal S1x1x1024 .f32) (d : Fin 64) (x : Fin 1024) :
    k0_pay2 (F := Ideal) a l (ix2 d x) = Ideal.div (a (ix2 d x)) (l (ix3 0 0 x)) := by
  open_payloads
  pointwise

theorem quot1 (a : FVec Ideal S64x1024 .f32) (l : FVec Ideal S1x1x1024 .f32) (d : Fin 64) (x : Fin 1024) :
    k0_pay1 (F := Ideal) (k0_pay223 (F := Ideal) a l) (ix2 d x) = Ideal.div (a (ix2 d x)) (l (ix3 0 0 x)) := by
  open_payloads
  pointwise

/-- The transposed rounding. -/
theorem turned (v : FVec Ideal S512x1024 .f32) (x : Fin 1024) (j : Fin 512) :
    k0_pay3 (F := Ideal) v (ix2 x j) = v (ix2 j x) := by
  open_payloads
  pointwise

/-- The keys, rounded. -/
theorem keys (v : FVec Ideal S2048x512 .f32) (s : Fin 2048) (j : Fin 512) : k0_pay140 (F := Ideal) v (ix2 s j) = v (ix2 s j) := by
  open_payloads
  pointwise

/-- The values, rounded and turned. -/
theorem values (v : FVec Ideal S2048x512 .f32) (s : Fin 2048) (j : Fin 512) : k0_pay141 (F := Ideal) v (ix2 j s) = v (ix2 s j) := by
  open_payloads
  pointwise

/-- The queries, scaled, rounded and turned. -/
theorem queries (v : FVec Ideal S1024x512 .f32) (x : Fin 1024) (j : Fin 512) :
    k0_pay142 (F := Ideal) v (ix2 j x) = v (ix2 x j) * Ideal.ofBits .f32 1040187392#32 := by
  open_payloads
  pointwise

end Cert.FoxPIdeal.Val

end
-- ==== Proof.FoxPOutA.lean ====
/- What the first block of queries of a sequence leaves in the output. -/
module

public import proofs.«01_k».proof.Proof.Gen.FoxPIdeal.Value
public import proofs.«01_k».proof.Proof.FoxPDiagA
public import proofs.«01_k».proof.Proof.FoxPLoop
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem
namespace CaseA

theorem sum (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32)
    (K : FVec Ideal S2048x512 .bf16) (Q : FVec Ideal S512x1024 .bf16) (V : FVec Ideal S512x2048 .bf16)
    (hK : View.canon (kernelRun0_A.sl.HS0_1 (F := Ideal) c arg3 harg3 x1) = K) (hV : View.canon (kernelRun0_A.sl.HS1_1 (F := Ideal) c arg4 harg4 x2) = V) (hQ : View.canon (kernelRun0_A.sl.HS2_1 (F := Ideal) c arg2 harg2 x0) = Q) (hi : (i 1).val = 0) (h : Fin 8) (x : Fin 1024) :
    View.canon ((pb_k0_t2 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (kernelRun0_A.sl.v394 i) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).1 ++ kernelRun0_A.sl.HS3_9 (F := Ideal) c i arg2 harg2 arg3 harg3 arg5 harg5 arg7 arg9 arg10 x0 x1 x3)) (arg11.view.writes (Elt Ideal) arg11.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).2.1 ++ kernelRun0_A.sl.HS4_9 (F := Ideal) c i arg2 harg2 arg3 harg3 arg5 harg5 arg7 arg9 arg10 arg11 x0 x1 x3)) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).2.2 ++ kernelRun0_A.sl.HS5_9 (F := Ideal) c i arg2 harg2 arg3 harg3 arg4 harg4 arg5 harg5 arg7 arg8 arg9 arg10 arg12 x0 x1 x2 x3)) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).2.1 ++ kernelRun0_A.sl.HS4_9 (F := Ideal) c i arg2 harg2 arg3 harg3 arg5 harg5 arg7 arg9 arg10 arg11 x0 x1 x3)) (ix3 h 0 x) = Soft.stepL ⊥ 0 (scd K Q x3 (i 1) h x) := by
  rw [pb2_zero (hn := trips2 i)]
  rw [pb1_zero (hn := (trips1 i).trans hi)]
  exact diag_l c i arg2 harg2 arg3 harg3 arg4 harg4 arg5 harg5 arg6 harg6 arg7 harg7 arg8 harg8 arg9 harg9 arg10 harg10 arg11 harg11 arg12 harg12 x0 x1 x2 x3 K Q V hK hV hQ h x

theorem acc (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32)
    (K : FVec Ideal S2048x512 .bf16) (Q : FVec Ideal S512x1024 .bf16) (V : FVec Ideal S512x2048 .bf16)
    (hK : View.canon (kernelRun0_A.sl.HS0_1 (F := Ideal) c arg3 harg3 x1) = K) (hV : View.canon (kernelRun0_A.sl.HS1_1 (F := Ideal) c arg4 harg4 x2) = V) (hQ : View.canon (kernelRun0_A.sl.HS2_1 (F := Ideal) c arg2 harg2 x0) = Q) (hi : (i 1).val = 0) (h : Fin 8) (d : Fin 64) (x : Fin 1024) :
    View.canon ((pb_k0_t2 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (kernelRun0_A.sl.v394 i) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).1 ++ kernelRun0_A.sl.HS3_9 (F := Ideal) c i arg2 harg2 arg3 harg3 arg5 harg5 arg7 arg9 arg10 x0 x1 x3)) (arg11.view.writes (Elt Ideal) arg11.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).2.1 ++ kernelRun0_A.sl.HS4_9 (F := Ideal) c i arg2 harg2 arg3 harg3 arg5 harg5 arg7 arg9 arg10 arg11 x0 x1 x3)) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).2.2 ++ kernelRun0_A.sl.HS5_9 (F := Ideal) c i arg2 harg2 arg3 harg3 arg4 harg4 arg5 harg5 arg7 arg8 arg9 arg10 arg12 x0 x1 x2 x3)) (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v26 i) (0#32) (harg5.unread x3) (arg7.view.writes (Elt Ideal) arg7.view.junk (kernelRun0_A.sl.HS0_1 (F := Ideal) c arg3 harg3 x1)) (arg8.view.writes (Elt Ideal) arg8.view.junk (kernelRun0_A.sl.HS1_1 (F := Ideal) c arg4 harg4 x2)) (arg9.view.writes (Elt Ideal) arg9.view.junk (kernelRun0_A.sl.HS2_1 (F := Ideal) c arg2 harg2 x0)) (arg10.view.writes (Elt Ideal) arg10.view.junk (kernelRun0_A.sl.HS3_9 (F := Ideal) c i arg2 harg2 arg3 harg3 arg5 harg5 arg7 arg9 arg10 x0 x1 x3)) (arg11.view.writes (Elt Ideal) arg11.view.junk (kernelRun0_A.sl.HS4_9 (F := Ideal) c i arg2 harg2 arg3 harg3 arg5 harg5 arg7 arg9 arg10 arg11 x0 x1 x3)) (arg12.view.writes (Elt Ideal) arg12.view.junk (kernelRun0_A.sl.HS5_9 (F := Ideal) c i arg2 harg2 arg3 harg3 arg4 harg4 arg5 harg5 arg7 arg8 arg9 arg10 arg12 x0 x1 x2 x3)) (Scf.trips (k0_t1_loop i).lb (k0_t1_loop i).ub (k0_t1_loop i).st)).2.2 ++ kernelRun0_A.sl.HS5_9 (F := Ideal) c i arg2 harg2 arg3 harg3 arg4 harg4 arg5 harg5 arg7 arg8 arg9 arg10 arg12 x0 x1 x2 x3)) (ix2 ⟨h.val * 64 + d.val, by omega⟩ x) = Soft.stepA ⊥ 0 (scd K Q x3 (i 1) h x) (fun s => V (ix2 ⟨h.val * 64 + d.val, by omega⟩ ⟨(i 1).val * 1024 + s.val, by have := s.isLt; have : (i 1).val < 2 := (i 1).isLt; omega⟩)) := by
  rw [pb2_zero (hn := trips2 i)]
  rw [pb1_zero (hn := (trips1 i).trans hi)]
  exact diag_a c i arg2 harg2 arg3 harg3 arg4 harg4 arg5 harg5 arg6 harg6 arg7 harg7 arg8 harg8 arg9 harg9 arg10 harg10 arg11 harg11 arg12 harg12 x0 x1 x2 x3 K Q V hK hV hQ h d x

theorem quot (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32)
    (K : FVec Ideal S2048x512 .bf16) (Q : FVec Ideal S512x1024 .bf16) (V : FVec Ideal S512x2048 .bf16)
    (hK : View.canon (kernelRun0_A.sl.HS0_1 (F := Ideal) c arg3 harg3 x1) = K) (hV : View.canon (kernelRun0_A.sl.HS1_1 (F := Ideal) c arg4 harg4 x2) = V) (hQ : View.canon (kernelRun0_A.sl.HS2_1 (F := Ideal) c arg2 harg2 x0) = Q) (hi : (i 1).val = 0) (h : Fin 8) (d : Fin 64) (x : Fin 1024) :
    View.canon (kernelRun0_A.sl.HS5_8_1 (F := Ideal) c i arg2 harg2 arg3 harg3 arg4 harg4 arg5 harg5 arg6 harg6 arg7 harg7 arg8 harg8 arg9 harg9 arg10 harg10 arg11 harg11 arg12 harg12 x0 x1 x2 x3) (ix2 ⟨h.val * 64 + d.val, by omega⟩ x) = Ideal.div (Soft.stepA ⊥ 0 (scd K Q x3 (i 1) h x) (fun s => V (ix2 ⟨h.val * 64 + d.val, by omega⟩ ⟨(i 1).val * 1024 + s.val, by have := s.isLt; have : (i 1).val < 2 := (i 1).isLt; omega⟩))) (Soft.stepL ⊥ 0 (scd K Q x3 (i 1) h x)) := by
  unfold kernelRun0_A.sl.HS5_8_1 kernelRun0_A.sl.HS5_7_1 kernelRun0_A.sl.HS5_6_1 kernelRun0_A.sl.HS5_5_1 kernelRun0_A.sl.HS5_4_1 kernelRun0_A.sl.HS5_3_1 kernelRun0_A.sl.HS5_2_1 kernelRun0_A.sl.HS5_1_1
  refine rows2 _ _ _ _ _ _ _ _ _ (fun h d x => Ideal.div (Soft.stepA ⊥ 0 (scd K Q x3 (i 1) h x) (fun s => V (ix2 ⟨h.val * 64 + d.val, by omega⟩ ⟨(i 1).val * 1024 + s.val, by have := s.isLt; have : (i 1).val < 2 := (i 1).isLt; omega⟩))) (Soft.stepL ⊥ 0 (scd K Q x3 (i 1) h x))) ?_ ?_ ?_ ?_ ?_ ?_ ?_ ?_ h d x
  · intro d x
    refine (quot217 _ _ d x).trans ?_
    refine congrArg₂ Ideal.div ?_ ?_
    · unfold kernelRun0_A.sl.v395
      rw [View.readCov_eq_canon']
      exact (congrArg (View.canon _) (idx2 0 _ 0 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 0 d x)
    · unfold kernelRun0_A.sl.v396
      rw [View.readCov_eq_canon']
      exact (congrArg (View.canon _) (idx3 0 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 0 x)
  · intro d x
    refine (quot218 _ _ d x).trans ?_
    refine congrArg₂ Ideal.div ?_ ?_
    · unfold kernelRun0_A.sl.v403 kernelRun0_A.sl.HS5_1_1
      rw [View.readCov_skip _ _ _ _ _ (by decide)]
      rw [View.readCov_eq_canon']
      exact (congrArg (View.canon _) (idx2 64 _ 1 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 1 d x)
    · unfold kernelRun0_A.sl.v404
      rw [View.readCov_eq_canon']
      exact (congrArg (View.canon _) (idx3 1 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 1 x)
  · intro d x
    refine (quot219 _ _ d x).trans ?_
    refine congrArg₂ Ideal.div ?_ ?_
    · unfold kernelRun0_A.sl.v411 kernelRun0_A.sl.HS5_2_1 kernelRun0_A.sl.HS5_1_1
      rw [View.readCov_skip _ _ _ _ _ (by decide), View.readCov_skip _ _ _ _ _ (by decide)]
      rw [View.readCov_eq_canon']
      exact (congrArg (View.canon _) (idx2 128 _ 2 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 2 d x)
    · unfold kernelRun0_A.sl.v412
      rw [View.readCov_eq_canon']
      exact (congrArg (View.canon _) (idx3 2 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 2 x)
  · intro d x
    refine (quot220 _ _ d x).trans ?_
    refine congrArg₂ Ideal.div ?_ ?_
    · unfold kernelRun0_A.sl.v419 kernelRun0_A.sl.HS5_3_1 kernelRun0_A.sl.HS5_2_1 kernelRun0_A.sl.HS5_1_1
      rw [View.readCov_skip _ _ _ _ _ (by decide), View.readCov_skip _ _ _ _ _ (by decide), View.readCov_skip _ _ _ _ _ (by decide)]
      rw [View.readCov_eq_canon']
      exact (congrArg (View.canon _) (idx2 192 _ 3 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 3 d x)
    · unfold kernelRun0_A.sl.v420
      rw [View.readCov_eq_canon']
      exact (congrArg (View.canon _) (idx3 3 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 3 x)
  · intro d x
    refine (quot221 _ _ d x).trans ?_
    refine congrArg₂ Ideal.div ?_ ?_
    · unfold kernelRun0_A.sl.v427 kernelRun0_A.sl.HS5_4_1 kernelRun0_A.sl.HS5_3_1 kernelRun0_A.sl.HS5_2_1 kernelRun0_A.sl.HS5_1_1
      rw [View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 256 _ 4 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 4 d x)
    · unfold kernelRun0_A.sl.v428
      rw [View.readCov_eq_canon']
      exact (congrArg (View.canon _) (idx3 4 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 4 x)
  · intro d x
    refine (quot222 _ _ d x).trans ?_
    refine congrArg₂ Ideal.div ?_ ?_
    · unfold kernelRun0_A.sl.v435 kernelRun0_A.sl.HS5_5_1 kernelRun0_A.sl.HS5_4_1 kernelRun0_A.sl.HS5_3_1 kernelRun0_A.sl.HS5_2_1 kernelRun0_A.sl.HS5_1_1
      rw [View.readCov_skip _ _ _ _ _ (by decide), View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 320 _ 5 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 5 d x)
    · unfold kernelRun0_A.sl.v436
      rw [View.readCov_eq_canon']
      exact (congrArg (View.canon _) (idx3 5 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 5 x)
  · intro d x
    unfold kernelRun0_A.sl.r_22
    refine (quot1 _ _ d x).trans ?_
    refine congrArg₂ Ideal.div ?_ ?_
    · unfold kernelRun0_A.sl.v443 kernelRun0_A.sl.HS5_6_1 kernelRun0_A.sl.HS5_5_1 kernelRun0_A.sl.HS5_4_1 kernelRun0_A.sl.HS5_3_1 kernelRun0_A.sl.HS5_2_1 kernelRun0_A.sl.HS5_1_1
      rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 384 _ 6 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 6 d x)
    · unfold kernelRun0_A.sl.v444
      rw [View.readCov_eq_canon']
      exact (congrArg (View.canon _) (idx3 6 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 6 x)
  · intro d x
    refine (quot2 _ _ d x).trans ?_
    refine congrArg₂ Ideal.div ?_ ?_
    · unfold kernelRun0_A.sl.v451 kernelRun0_A.sl.HS5_7_1 kernelRun0_A.sl.HS5_6_1 kernelRun0_A.sl.HS5_5_1 kernelRun0_A.sl.HS5_4_1 kernelRun0_A.sl.HS5_3_1 kernelRun0_A.sl.HS5_2_1 kernelRun0_A.sl.HS5_1_1
      rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 448 _ 7 (by decide) rfl d x)).trans (acc c i arg2 harg2 arg3 harg3 arg4 harg4 arg5 harg5 arg6 harg6 arg7 harg7 arg8 harg8 arg9 harg9 arg10 harg10 arg11 harg11 arg12 harg12 x0 x1 x2 x3 K Q V hK hV hQ hi 7 d x)
    · unfold kernelRun0_A.sl.v452
      rw [View.readCov_eq_canon']
      exact (congrArg (View.canon _) (idx3 7 (by decide) _ x)).trans (sum c i arg2 harg2 arg3 harg3 arg4 harg4 arg5 harg5 arg6 harg6 arg7 harg7 arg8 harg8 arg9 harg9 arg10 harg10 arg11 harg11 arg12 harg12 x0 x1 x2 x3 K Q V hK hV hQ hi 7 x)

theorem out (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32)
    (hc0 : cond0_0 i) (K : FVec Ideal S2048x512 .bf16) (Q : FVec Ideal S512x1024 .bf16) (V : FVec Ideal S512x2048 .bf16)
    (hK : View.canon (kernelRun0_A.sl.HS0_1 (F := Ideal) c arg3 harg3 x1) = K) (hV : View.canon (kernelRun0_A.sl.HS1_1 (F := Ideal) c arg4 harg4 x2) = V) (hQ : View.canon (kernelRun0_A.sl.HS2_1 (F := Ideal) c arg2 harg2 x0) = Q) (hi : (i 1).val = 0) (h : Fin 8) (d : Fin 64) (x : Fin 1024) :
    out0_A_4 (F := Ideal) c i arg2 harg2 arg3 harg3 arg4 harg4 arg5 harg5 arg6 harg6 arg7 harg7 arg8 harg8 arg9 harg9 arg10 harg10 arg11 harg11 arg12 harg12 hc0 x0 x1 x2 x3 (ix2 x ⟨h.val * 64 + d.val, by omega⟩) = Ideal.div (Soft.stepA ⊥ 0 (scd K Q x3 (i 1) h x) (fun s => V (ix2 ⟨h.val * 64 + d.val, by omega⟩ ⟨(i 1).val * 1024 + s.val, by have := s.isLt; have : (i 1).val < 2 := (i 1).isLt; omega⟩))) (Soft.stepL ⊥ 0 (scd K Q x3 (i 1) h x)) := by
  unfold out0_A_4
  rw [View.read_writes_junk_eq_canon]
  unfold kernelRun0_A
  dsimp only
  rw [View.canon_cons_unit_lit _ _ _ (by decide)]
  refine (turned _ x _).trans ?_
  unfold kernelRun0_A.sl.v459
  rw [View.readCov_eq_canon']
  exact (congrArg (View.canon _) (idxw _ _ x)).trans (quot c i arg2 harg2 arg3 harg3 arg4 harg4 arg5 harg5 arg6 harg6 arg7 harg7 arg8 harg8 arg9 harg9 arg10 harg10 arg11 harg11 arg12 harg12 x0 x1 x2 x3 K Q V hK hV hQ hi h d x)

theorem turnedQ (c : Dev nD) (arg2 : Memref sig .tc .vmem S1024x512 .f32) (harg2 : arg2.IsWhole) (x0 : Vec Ideal S1024x512 .f32) (j : Fin 512) (x : Fin 1024) :
    View.canon (kernelRun0_A.sl.HS2_1 (F := Ideal) c arg2 harg2 x0) (ix2 j x) = x0 (ix2 x j) * Ideal.ofBits .f32 1040187392#32 := by
  unfold kernelRun0_A.sl.HS2_1
  rw [View.canon_cons_unit_lit _ _ _ (by decide)]
  refine (queries _ x j).trans ?_
  refine congrArg (· * Ideal.ofBits .f32 1040187392#32) ?_
  exact (load2 _ _ x0 (harg2.read_unread _) _ 0 0 rfl _ x j (by omega) (by omega)).trans (congrArg x0 (by congr 1 <;> exact Fin.ext (by simp)))

theorem keysA (c : Dev nD) (arg3 : Memref sig .tc .vmem S2048x512 .f32) (harg3 : arg3.IsWhole) (x1 : Vec Ideal S2048x512 .f32) (s : Fin 2048) (j : Fin 512) :
    View.canon (kernelRun0_A.sl.HS0_1 (F := Ideal) c arg3 harg3 x1) (ix2 s j) = x1 (ix2 s j) := by
  unfold kernelRun0_A.sl.HS0_1
  rw [View.canon_cons_unit_lit _ _ _ (by decide)]
  refine (keys _ s j).trans ?_
  exact (load2 _ _ x1 (harg3.read_unread _) _ 0 0 rfl _ s j (by omega) (by omega)).trans (congrArg x1 (by congr 1 <;> exact Fin.ext (by simp)))

theorem valuesA (c : Dev nD) (arg4 : Memref sig .tc .vmem S2048x512 .f32) (harg4 : arg4.IsWhole) (x2 : Vec Ideal S2048x512 .f32) (s : Fin 2048) (j : Fin 512) :
    View.canon (kernelRun0_A.sl.HS1_1 (F := Ideal) c arg4 harg4 x2) (ix2 j s) = x2 (ix2 s j) := by
  unfold kernelRun0_A.sl.HS1_1
  rw [View.canon_cons_unit_lit _ _ _ (by decide)]
  refine (values _ s j).trans ?_
  exact (load2 _ _ x2 (harg4.read_unread _) _ 0 0 rfl _ s j (by omega) (by omega)).trans (congrArg x2 (by congr 1 <;> exact Fin.ext (by simp)))

theorem sout0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (hc0 : cond0_0 i) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 = View.canon (kernelRun0_A.sl.HS0_1 (F := Ideal) c arg3 harg3 x1) := by
  unfold sout0_A_0
  rw [View.read_writes_junk_eq_canon]
  unfold kernelRun0_A
  rfl

theorem sout1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x1 : Vec Ideal S2048x512 .f32) (x2 : Vec Ideal S2048x512 .f32) (x3 : Vec Ideal S2048x128 .f32) (hc0 : cond0_0 i) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 = View.canon (kernelRun0_A.sl.HS1_1 (F := Ideal) c arg4 harg4 x2) := by
  unfold sout0_A_1
  rw [View.read_writes_junk_eq_canon]
  unfold kernelRun0_A
  rfl

end CaseA

end Cert.FoxPIdeal.Val

end
-- ==== Proof.FoxPDiagB.lean ====
/- The buffers after the diagonal block of keys, for the second block of queries of a sequence. -/
module

public import proofs.«01_k».proof.Proof.Gen.FoxPIdeal.Value
public import proofs.«01_k».proof.Proof.FoxPTrip
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem
namespace CaseB

theorem m0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v41 (F := Ideal) c arg10) (ix3 0 0 x) = ⊥ := by
  unfold kernelRun0_B.sl.v41 kernelRun0_B.sl.HS3_1
  rw [View.readCov_fill _ _ _ _ _ (by decide)]
  show k0_pay143 (F := Ideal) _ = _
  unfold k0_pay143
  exact Soft.bits_bot

theorem l0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v51 (F := Ideal) c arg11) (ix3 0 0 x) = 0 := by
  unfold kernelRun0_B.sl.v51 kernelRun0_B.sl.HS4_1
  rw [View.readCov_fill _ _ _ _ _ (by decide)]
  show k0_pay144 (F := Ideal) _ = _
  unfold k0_pay144
  exact Ideal.ofBits_zero_f32

theorem a0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v60 (F := Ideal) c arg12) (ix2 d x) = 0 := by
  unfold kernelRun0_B.sl.v60 kernelRun0_B.sl.HS5_1
  rw [View.readCov_fill _ _ _ _ _ (by decide)]
  show k0_pay145 (F := Ideal) _ = _
  unfold k0_pay145
  exact Ideal.ofBits_zero_f32

theorem m1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v86 (F := Ideal) c i arg2 harg2 arg5 harg5 arg7 harg7 arg9 arg10 x0 x3 xs0) (ix3 0 0 x) = ⊥ := by
  unfold kernelRun0_B.sl.v86 kernelRun0_B.sl.HS3_2 kernelRun0_B.sl.HS3_1
  rw [View.readCov_skip _ _ _ _ _ (by decide)]
  rw [View.readCov_fill _ _ _ _ _ (by decide)]
  show k0_pay143 (F := Ideal) _ = _
  unfold k0_pay143
  exact Soft.bits_bot

theorem l1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v96 (F := Ideal) c i arg2 harg2 arg5 harg5 arg7 harg7 arg9 arg10 arg11 x0 x3 xs0) (ix3 0 0 x) = 0 := by
  unfold kernelRun0_B.sl.v96 kernelRun0_B.sl.HS4_2 kernelRun0_B.sl.HS4_1
  rw [View.readCov_skip _ _ _ _ _ (by decide)]
  rw [View.readCov_fill _ _ _ _ _ (by decide)]
  show k0_pay144 (F := Ideal) _ = _
  unfold k0_pay144
  exact Ideal.ofBits_zero_f32

theorem a1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v105 (F := Ideal) c i arg2 harg2 arg5 harg5 arg7 harg7 arg8 harg8 arg9 arg10 arg12 x0 x3 xs0 xs1) (ix2 d x) = 0 := by
  unfold kernelRun0_B.sl.v105 kernelRun0_B.sl.HS5_2 kernelRun0_B.sl.HS5_1
  rw [View.readCov_skip _ _ _ _ _ (by decide)]
  rw [View.readCov_fill _ _ _ _ _ (by decide)]
  show k0_pay145 (F := Ideal) _ = _
  unfold k0_pay145
  exact Ideal.ofBits_zero_f32

theorem m2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v131 (F := Ideal) c i arg2 harg2 arg5 harg5 arg7 harg7 arg9 arg10 x0 x3 xs0) (ix3 0 0 x) = ⊥ := by
  unfold kernelRun0_B.sl.v131 kernelRun0_B.sl.HS3_3 kernelRun0_B.sl.HS3_2 kernelRun0_B.sl.HS3_1
  rw [View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v141 (F := Ideal) c i arg2 harg2 arg5 harg5 arg7 harg7 arg9 arg10 arg11 x0 x3 xs0) (ix3 0 0 x) = 0 := by
  unfold kernelRun0_B.sl.v141 kernelRun0_B.sl.HS4_3 kernelRun0_B.sl.HS4_2 kernelRun0_B.sl.HS4_1
  rw [View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v150 (F := Ideal) c i arg2 harg2 arg5 harg5 arg7 harg7 arg8 harg8 arg9 arg10 arg12 x0 x3 xs0 xs1) (ix2 d x) = 0 := by
  unfold kernelRun0_B.sl.v150 kernelRun0_B.sl.HS5_3 kernelRun0_B.sl.HS5_2 kernelRun0_B.sl.HS5_1
  rw [View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m3 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v176 (F := Ideal) c i arg2 harg2 arg5 harg5 arg7 harg7 arg9 arg10 x0 x3 xs0) (ix3 0 0 x) = ⊥ := by
  unfold kernelRun0_B.sl.v176 kernelRun0_B.sl.HS3_4 kernelRun0_B.sl.HS3_3 kernelRun0_B.sl.HS3_2 kernelRun0_B.sl.HS3_1
  rw [View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l3 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v186 (F := Ideal) c i arg2 harg2 arg5 harg5 arg7 harg7 arg9 arg10 arg11 x0 x3 xs0) (ix3 0 0 x) = 0 := by
  unfold kernelRun0_B.sl.v186 kernelRun0_B.sl.HS4_4 kernelRun0_B.sl.HS4_3 kernelRun0_B.sl.HS4_2 kernelRun0_B.sl.HS4_1
  rw [View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a3 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v195 (F := Ideal) c i arg2 harg2 arg5 harg5 arg7 harg7 arg8 harg8 arg9 arg10 arg12 x0 x3 xs0 xs1) (ix2 d x) = 0 := by
  unfold kernelRun0_B.sl.v195 kernelRun0_B.sl.HS5_4 kernelRun0_B.sl.HS5_3 kernelRun0_B.sl.HS5_2 kernelRun0_B.sl.HS5_1
  rw [View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m4 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v221 (F := Ideal) c i arg2 harg2 arg5 harg5 arg7 harg7 arg9 arg10 x0 x3 xs0) (ix3 0 0 x) = ⊥ := by
  unfold kernelRun0_B.sl.v221 kernelRun0_B.sl.HS3_5 kernelRun0_B.sl.HS3_4 kernelRun0_B.sl.HS3_3 kernelRun0_B.sl.HS3_2 kernelRun0_B.sl.HS3_1
  rw [View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l4 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v231 (F := Ideal) c i arg2 harg2 arg5 harg5 arg7 harg7 arg9 arg10 arg11 x0 x3 xs0) (ix3 0 0 x) = 0 := by
  unfold kernelRun0_B.sl.v231 kernelRun0_B.sl.HS4_5 kernelRun0_B.sl.HS4_4 kernelRun0_B.sl.HS4_3 kernelRun0_B.sl.HS4_2 kernelRun0_B.sl.HS4_1
  rw [View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a4 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v240 (F := Ideal) c i arg2 harg2 arg5 harg5 arg7 harg7 arg8 harg8 arg9 arg10 arg12 x0 x3 xs0 xs1) (ix2 d x) = 0 := by
  unfold kernelRun0_B.sl.v240 kernelRun0_B.sl.HS5_5 kernelRun0_B.sl.HS5_4 kernelRun0_B.sl.HS5_3 kernelRun0_B.sl.HS5_2 kernelRun0_B.sl.HS5_1
  rw [View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m5 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v266 (F := Ideal) c i arg2 harg2 arg5 harg5 arg7 harg7 arg9 arg10 x0 x3 xs0) (ix3 0 0 x) = ⊥ := by
  unfold kernelRun0_B.sl.v266 kernelRun0_B.sl.HS3_6 kernelRun0_B.sl.HS3_5 kernelRun0_B.sl.HS3_4 kernelRun0_B.sl.HS3_3 kernelRun0_B.sl.HS3_2 kernelRun0_B.sl.HS3_1
  rw [View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l5 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v276 (F := Ideal) c i arg2 harg2 arg5 harg5 arg7 harg7 arg9 arg10 arg11 x0 x3 xs0) (ix3 0 0 x) = 0 := by
  unfold kernelRun0_B.sl.v276 kernelRun0_B.sl.HS4_6 kernelRun0_B.sl.HS4_5 kernelRun0_B.sl.HS4_4 kernelRun0_B.sl.HS4_3 kernelRun0_B.sl.HS4_2 kernelRun0_B.sl.HS4_1
  rw [View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a5 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v285 (F := Ideal) c i arg2 harg2 arg5 harg5 arg7 harg7 arg8 harg8 arg9 arg10 arg12 x0 x3 xs0 xs1) (ix2 d x) = 0 := by
  unfold kernelRun0_B.sl.v285 kernelRun0_B.sl.HS5_6 kernelRun0_B.sl.HS5_5 kernelRun0_B.sl.HS5_4 kernelRun0_B.sl.HS5_3 kernelRun0_B.sl.HS5_2 kernelRun0_B.sl.HS5_1
  rw [View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m6 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v311 (F := Ideal) c i arg2 harg2 arg5 harg5 arg7 harg7 arg9 arg10 x0 x3 xs0) (ix3 0 0 x) = ⊥ := by
  unfold kernelRun0_B.sl.v311 kernelRun0_B.sl.HS3_7 kernelRun0_B.sl.HS3_6 kernelRun0_B.sl.HS3_5 kernelRun0_B.sl.HS3_4 kernelRun0_B.sl.HS3_3 kernelRun0_B.sl.HS3_2 kernelRun0_B.sl.HS3_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l6 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v321 (F := Ideal) c i arg2 harg2 arg5 harg5 arg7 harg7 arg9 arg10 arg11 x0 x3 xs0) (ix3 0 0 x) = 0 := by
  unfold kernelRun0_B.sl.v321 kernelRun0_B.sl.HS4_7 kernelRun0_B.sl.HS4_6 kernelRun0_B.sl.HS4_5 kernelRun0_B.sl.HS4_4 kernelRun0_B.sl.HS4_3 kernelRun0_B.sl.HS4_2 kernelRun0_B.sl.HS4_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a6 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v330 (F := Ideal) c i arg2 harg2 arg5 harg5 arg7 harg7 arg8 harg8 arg9 arg10 arg12 x0 x3 xs0 xs1) (ix2 d x) = 0 := by
  unfold kernelRun0_B.sl.v330 kernelRun0_B.sl.HS5_7 kernelRun0_B.sl.HS5_6 kernelRun0_B.sl.HS5_5 kernelRun0_B.sl.HS5_4 kernelRun0_B.sl.HS5_3 kernelRun0_B.sl.HS5_2 kernelRun0_B.sl.HS5_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem m7 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v356 (F := Ideal) c i arg2 harg2 arg5 harg5 arg7 harg7 arg9 arg10 x0 x3 xs0) (ix3 0 0 x) = ⊥ := by
  unfold kernelRun0_B.sl.v356 kernelRun0_B.sl.HS3_8 kernelRun0_B.sl.HS3_7 kernelRun0_B.sl.HS3_6 kernelRun0_B.sl.HS3_5 kernelRun0_B.sl.HS3_4 kernelRun0_B.sl.HS3_3 kernelRun0_B.sl.HS3_2 kernelRun0_B.sl.HS3_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay143 (F := Ideal) _ = _
  unfold k0_pay143
  exact Soft.bits_bot

theorem l7 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (x : Fin 1024) : (kernelRun0_B.sl.v366 (F := Ideal) c i arg2 harg2 arg5 harg5 arg7 harg7 arg9 arg10 arg11 x0 x3 xs0) (ix3 0 0 x) = 0 := by
  unfold kernelRun0_B.sl.v366 kernelRun0_B.sl.HS4_8 kernelRun0_B.sl.HS4_7 kernelRun0_B.sl.HS4_6 kernelRun0_B.sl.HS4_5 kernelRun0_B.sl.HS4_4 kernelRun0_B.sl.HS4_3 kernelRun0_B.sl.HS4_2 kernelRun0_B.sl.HS4_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay144 (F := Ideal) _ = _
  unfold k0_pay144
  exact Ideal.ofBits_zero_f32

theorem a7 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16) (d : Fin 64) (x : Fin 1024) : (kernelRun0_B.sl.v375 (F := Ideal) c i arg2 harg2 arg5 harg5 arg7 harg7 arg8 harg8 arg9 arg10 arg12 x0 x3 xs0 xs1) (ix2 d x) = 0 := by
  unfold kernelRun0_B.sl.v375 kernelRun0_B.sl.HS5_8 kernelRun0_B.sl.HS5_7 kernelRun0_B.sl.HS5_6 kernelRun0_B.sl.HS5_5 kernelRun0_B.sl.HS5_4 kernelRun0_B.sl.HS5_3 kernelRun0_B.sl.HS5_2 kernelRun0_B.sl.HS5_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
  rw [View.readCov_fill _ _ _ _ _ (by decide)]
  show k0_pay145 (F := Ideal) _ = _
  unfold k0_pay145
  exact Ideal.ofBits_zero_f32

theorem diag_m (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16)
    (K : FVec Ideal S2048x512 .bf16) (Q : FVec Ideal S512x1024 .bf16) (V : FVec Ideal S512x2048 .bf16)
    (hK : xs0 = K) (hV : xs1 = V) (hQ : View.canon (kernelRun0_B.sl.HS2_1 (F := Ideal) c arg2 harg2 x0) = Q) (h : Fin 8) (x : Fin 1024) :
    View.canon (kernelRun0_B.sl.HS3_9 (F := Ideal) c i arg2 harg2 arg5 harg5 arg7 harg7 arg9 arg10 x0 x3 xs0) (ix3 h 0 x) = Soft.stepM ⊥ (scd K Q x3 (i 1) h x) := by
  have hi : (i 1).val < 2 := (i 1).isLt
  unfold kernelRun0_B.sl.HS3_9 kernelRun0_B.sl.HS3_8 kernelRun0_B.sl.HS3_7 kernelRun0_B.sl.HS3_6 kernelRun0_B.sl.HS3_5 kernelRun0_B.sl.HS3_4 kernelRun0_B.sl.HS3_3 kernelRun0_B.sl.HS3_2
  refine rows3 _ _ _ _ _ _ _ _ _ (fun h x => Soft.stepM ⊥ (scd K Q x3 (i 1) h x)) ?_ ?_ ?_ ?_ ?_ ?_ ?_ ?_ h x
  · intro x
    refine (dm0 _ _ _ _ x).trans ?_
    exact stepM_eq (m0 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 0 x (fun s e => (load2 _ _ K ((harg7.read_unread _).trans hK) _ _ _ (off1 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off2 i) _ s 0 (by omega) (by omega)).trans (congrArg x3 (by congr 1))))
  · intro x
    refine (dm1 _ _ _ _ x).trans ?_
    exact stepM_eq (m1 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 1 x (fun s e => (load2 _ _ K ((harg7.read_unread _).trans hK) _ _ _ (off4 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off5 i) _ s 0 (by omega) (by omega)).trans (congrArg x3 (by congr 1))))
  · intro x
    refine (dm2 _ _ _ _ x).trans ?_
    exact stepM_eq (m2 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 2 x (fun s e => (load2 _ _ K ((harg7.read_unread _).trans hK) _ _ _ (off7 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off8 i) _ s 0 (by omega) (by omega)).trans (congrArg x3 (by congr 1))))
  · intro x
    refine (dm3 _ _ _ _ x).trans ?_
    exact stepM_eq (m3 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 3 x (fun s e => (load2 _ _ K ((harg7.read_unread _).trans hK) _ _ _ (off10 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off11 i) _ s 0 (by omega) (by omega)).trans (congrArg x3 (by congr 1))))
  · intro x
    refine (dm4 _ _ _ _ x).trans ?_
    exact stepM_eq (m4 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 4 x (fun s e => (load2 _ _ K ((harg7.read_unread _).trans hK) _ _ _ (off13 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off14 i) _ s 0 (by omega) (by omega)).trans (congrArg x3 (by congr 1))))
  · intro x
    refine (dm5 _ _ _ _ x).trans ?_
    exact stepM_eq (m5 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 5 x (fun s e => (load2 _ _ K ((harg7.read_unread _).trans hK) _ _ _ (off16 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off17 i) _ s 0 (by omega) (by omega)).trans (congrArg x3 (by congr 1))))
  · intro x
    refine (dm6 _ _ _ _ x).trans ?_
    exact stepM_eq (m6 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 6 x (fun s e => (load2 _ _ K ((harg7.read_unread _).trans hK) _ _ _ (off19 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off20 i) _ s 0 (by omega) (by omega)).trans (congrArg x3 (by congr 1))))
  · intro x
    refine (dm7 _ _ _ _ x).trans ?_
    exact stepM_eq (m7 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 7 x (fun s e => (load2 _ _ K ((harg7.read_unread _).trans hK) _ _ _ (off22 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off23 i) _ s 0 (by omega) (by omega)).trans (congrArg x3 (by congr 1))))

theorem diag_l (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16)
    (K : FVec Ideal S2048x512 .bf16) (Q : FVec Ideal S512x1024 .bf16) (V : FVec Ideal S512x2048 .bf16)
    (hK : xs0 = K) (hV : xs1 = V) (hQ : View.canon (kernelRun0_B.sl.HS2_1 (F := Ideal) c arg2 harg2 x0) = Q) (h : Fin 8) (x : Fin 1024) :
    View.canon (kernelRun0_B.sl.HS4_9 (F := Ideal) c i arg2 harg2 arg5 harg5 arg7 harg7 arg9 arg10 arg11 x0 x3 xs0) (ix3 h 0 x) = Soft.stepL ⊥ 0 (scd K Q x3 (i 1) h x) := by
  have hi : (i 1).val < 2 := (i 1).isLt
  unfold kernelRun0_B.sl.HS4_9 kernelRun0_B.sl.HS4_8 kernelRun0_B.sl.HS4_7 kernelRun0_B.sl.HS4_6 kernelRun0_B.sl.HS4_5 kernelRun0_B.sl.HS4_4 kernelRun0_B.sl.HS4_3 kernelRun0_B.sl.HS4_2
  refine rows3 _ _ _ _ _ _ _ _ _ (fun h x => Soft.stepL ⊥ 0 (scd K Q x3 (i 1) h x)) ?_ ?_ ?_ ?_ ?_ ?_ ?_ ?_ h x
  · intro x
    refine (dl0 _ _ _ _ _ x).trans ?_
    exact stepL_eq (m0 c i arg2 harg2 arg3 harg3 arg4 harg4 arg5 harg5 arg6 harg6 arg7 harg7 arg8 harg8 arg9 harg9 arg10 harg10 arg11 harg11 arg12 harg12 x0 x3 xs0 xs1 x)
      (l0 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 0 x (fun s e => (load2 _ _ K ((harg7.read_unread _).trans hK) _ _ _ (off1 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off2 i) _ s 0 (by omega) (by omega)).trans (congrArg x3 (by congr 1))))
  · intro x
    refine (dl1 _ _ _ _ _ x).trans ?_
    exact stepL_eq (m1 c i arg2 harg2 arg3 harg3 arg4 harg4 arg5 harg5 arg6 harg6 arg7 harg7 arg8 harg8 arg9 harg9 arg10 harg10 arg11 harg11 arg12 harg12 x0 x3 xs0 xs1 x)
      (l1 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 1 x (fun s e => (load2 _ _ K ((harg7.read_unread _).trans hK) _ _ _ (off4 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off5 i) _ s 0 (by omega) (by omega)).trans (congrArg x3 (by congr 1))))
  · intro x
    refine (dl2 _ _ _ _ _ x).trans ?_
    exact stepL_eq (m2 c i arg2 harg2 arg3 harg3 arg4 harg4 arg5 harg5 arg6 harg6 arg7 harg7 arg8 harg8 arg9 harg9 arg10 harg10 arg11 harg11 arg12 harg12 x0 x3 xs0 xs1 x)
      (l2 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 2 x (fun s e => (load2 _ _ K ((harg7.read_unread _).trans hK) _ _ _ (off7 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off8 i) _ s 0 (by omega) (by omega)).trans (congrArg x3 (by congr 1))))
  · intro x
    refine (dl3 _ _ _ _ _ x).trans ?_
    exact stepL_eq (m3 c i arg2 harg2 arg3 harg3 arg4 harg4 arg5 harg5 arg6 harg6 arg7 harg7 arg8 harg8 arg9 harg9 arg10 harg10 arg11 harg11 arg12 harg12 x0 x3 xs0 xs1 x)
      (l3 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 3 x (fun s e => (load2 _ _ K ((harg7.read_unread _).trans hK) _ _ _ (off10 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off11 i) _ s 0 (by omega) (by omega)).trans (congrArg x3 (by congr 1))))
  · intro x
    refine (dl4 _ _ _ _ _ x).trans ?_
    exact stepL_eq (m4 c i arg2 harg2 arg3 harg3 arg4 harg4 arg5 harg5 arg6 harg6 arg7 harg7 arg8 harg8 arg9 harg9 arg10 harg10 arg11 harg11 arg12 harg12 x0 x3 xs0 xs1 x)
      (l4 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 4 x (fun s e => (load2 _ _ K ((harg7.read_unread _).trans hK) _ _ _ (off13 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off14 i) _ s 0 (by omega) (by omega)).trans (congrArg x3 (by congr 1))))
  · intro x
    refine (dl5 _ _ _ _ _ x).trans ?_
    exact stepL_eq (m5 c i arg2 harg2 arg3 harg3 arg4 harg4 arg5 harg5 arg6 harg6 arg7 harg7 arg8 harg8 arg9 harg9 arg10 harg10 arg11 harg11 arg12 harg12 x0 x3 xs0 xs1 x)
      (l5 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 5 x (fun s e => (load2 _ _ K ((harg7.read_unread _).trans hK) _ _ _ (off16 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off17 i) _ s 0 (by omega) (by omega)).trans (congrArg x3 (by congr 1))))
  · intro x
    refine (dl6 _ _ _ _ _ x).trans ?_
    exact stepL_eq (m6 c i arg2 harg2 arg3 harg3 arg4 harg4 arg5 harg5 arg6 harg6 arg7 harg7 arg8 harg8 arg9 harg9 arg10 harg10 arg11 harg11 arg12 harg12 x0 x3 xs0 xs1 x)
      (l6 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 6 x (fun s e => (load2 _ _ K ((harg7.read_unread _).trans hK) _ _ _ (off19 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off20 i) _ s 0 (by omega) (by omega)).trans (congrArg x3 (by congr 1))))
  · intro x
    refine (dl7 _ _ _ _ _ x).trans ?_
    exact stepL_eq (m7 c i arg2 harg2 arg3 harg3 arg4 harg4 arg5 harg5 arg6 harg6 arg7 harg7 arg8 harg8 arg9 harg9 arg10 harg10 arg11 harg11 arg12 harg12 x0 x3 xs0 xs1 x)
      (l7 c i arg2 harg2 arg3 harg3 arg4 harg4 arg5 harg5 arg6 harg6 arg7 harg7 arg8 harg8 arg9 harg9 arg10 harg10 arg11 harg11 arg12 harg12 x0 x3 xs0 xs1 x)
      (dsc_eq _ _ _ K Q x3 (i 1) 7 x (fun s e => (load2 _ _ K ((harg7.read_unread _).trans hK) _ _ _ (off22 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off23 i) _ s 0 (by omega) (by omega)).trans (congrArg x3 (by congr 1))))

theorem diag_a (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16)
    (K : FVec Ideal S2048x512 .bf16) (Q : FVec Ideal S512x1024 .bf16) (V : FVec Ideal S512x2048 .bf16)
    (hK : xs0 = K) (hV : xs1 = V) (hQ : View.canon (kernelRun0_B.sl.HS2_1 (F := Ideal) c arg2 harg2 x0) = Q) (h : Fin 8) (d : Fin 64) (x : Fin 1024) :
    View.canon (kernelRun0_B.sl.HS5_9 (F := Ideal) c i arg2 harg2 arg5 harg5 arg7 harg7 arg8 harg8 arg9 arg10 arg12 x0 x3 xs0 xs1) (ix2 ⟨h.val * 64 + d.val, by omega⟩ x) = Soft.stepA ⊥ 0 (scd K Q x3 (i 1) h x) (fun s => V (ix2 ⟨h.val * 64 + d.val, by omega⟩ ⟨(i 1).val * 1024 + s.val, by have := s.isLt; have : (i 1).val < 2 := (i 1).isLt; omega⟩)) := by
  have hi : (i 1).val < 2 := (i 1).isLt
  unfold kernelRun0_B.sl.HS5_9 kernelRun0_B.sl.HS5_8 kernelRun0_B.sl.HS5_7 kernelRun0_B.sl.HS5_6 kernelRun0_B.sl.HS5_5 kernelRun0_B.sl.HS5_4 kernelRun0_B.sl.HS5_3 kernelRun0_B.sl.HS5_2
  refine rows2 _ _ _ _ _ _ _ _ _ (fun h d x => Soft.stepA ⊥ 0 (scd K Q x3 (i 1) h x) (fun s => V (ix2 ⟨h.val * 64 + d.val, by omega⟩ ⟨(i 1).val * 1024 + s.val, by have := s.isLt; have : (i 1).val < 2 := (i 1).isLt; omega⟩))) ?_ ?_ ?_ ?_ ?_ ?_ ?_ ?_ h d x
  · intro d x
    refine (da0 _ _ _ _ _ _ d x).trans ?_
    exact stepA_eq (m0 c i arg2 harg2 arg3 harg3 arg4 harg4 arg5 harg5 arg6 harg6 arg7 harg7 arg8 harg8 arg9 harg9 arg10 harg10 arg11 harg11 arg12 harg12 x0 x3 xs0 xs1 x)
      (a0 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 0 x (fun s e => (load2 _ _ K ((harg7.read_unread _).trans hK) _ _ _ (off1 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off2 i) _ s 0 (by omega) (by omega)).trans (congrArg x3 (by congr 1))))
      (fun s => (load2 _ _ V ((harg8.read_unread _).trans hV) _ _ _ (off3 i) _ d s (by omega) (by omega)).trans (congrArg V (by congr 1)))
  · intro d x
    refine (da1 _ _ _ _ _ _ d x).trans ?_
    exact stepA_eq (m1 c i arg2 harg2 arg3 harg3 arg4 harg4 arg5 harg5 arg6 harg6 arg7 harg7 arg8 harg8 arg9 harg9 arg10 harg10 arg11 harg11 arg12 harg12 x0 x3 xs0 xs1 x)
      (a1 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 1 x (fun s e => (load2 _ _ K ((harg7.read_unread _).trans hK) _ _ _ (off4 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off5 i) _ s 0 (by omega) (by omega)).trans (congrArg x3 (by congr 1))))
      (fun s => (load2 _ _ V ((harg8.read_unread _).trans hV) _ _ _ (off6 i) _ d s (by omega) (by omega)).trans (congrArg V (by congr 1)))
  · intro d x
    refine (da2 _ _ _ _ _ _ d x).trans ?_
    exact stepA_eq (m2 c i arg2 harg2 arg3 harg3 arg4 harg4 arg5 harg5 arg6 harg6 arg7 harg7 arg8 harg8 arg9 harg9 arg10 harg10 arg11 harg11 arg12 harg12 x0 x3 xs0 xs1 x)
      (a2 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 2 x (fun s e => (load2 _ _ K ((harg7.read_unread _).trans hK) _ _ _ (off7 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off8 i) _ s 0 (by omega) (by omega)).trans (congrArg x3 (by congr 1))))
      (fun s => (load2 _ _ V ((harg8.read_unread _).trans hV) _ _ _ (off9 i) _ d s (by omega) (by omega)).trans (congrArg V (by congr 1)))
  · intro d x
    refine (da3 _ _ _ _ _ _ d x).trans ?_
    exact stepA_eq (m3 c i arg2 harg2 arg3 harg3 arg4 harg4 arg5 harg5 arg6 harg6 arg7 harg7 arg8 harg8 arg9 harg9 arg10 harg10 arg11 harg11 arg12 harg12 x0 x3 xs0 xs1 x)
      (a3 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 3 x (fun s e => (load2 _ _ K ((harg7.read_unread _).trans hK) _ _ _ (off10 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off11 i) _ s 0 (by omega) (by omega)).trans (congrArg x3 (by congr 1))))
      (fun s => (load2 _ _ V ((harg8.read_unread _).trans hV) _ _ _ (off12 i) _ d s (by omega) (by omega)).trans (congrArg V (by congr 1)))
  · intro d x
    refine (da4 _ _ _ _ _ _ d x).trans ?_
    exact stepA_eq (m4 c i arg2 harg2 arg3 harg3 arg4 harg4 arg5 harg5 arg6 harg6 arg7 harg7 arg8 harg8 arg9 harg9 arg10 harg10 arg11 harg11 arg12 harg12 x0 x3 xs0 xs1 x)
      (a4 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 4 x (fun s e => (load2 _ _ K ((harg7.read_unread _).trans hK) _ _ _ (off13 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off14 i) _ s 0 (by omega) (by omega)).trans (congrArg x3 (by congr 1))))
      (fun s => (load2 _ _ V ((harg8.read_unread _).trans hV) _ _ _ (off15 i) _ d s (by omega) (by omega)).trans (congrArg V (by congr 1)))
  · intro d x
    refine (da5 _ _ _ _ _ _ d x).trans ?_
    exact stepA_eq (m5 c i arg2 harg2 arg3 harg3 arg4 harg4 arg5 harg5 arg6 harg6 arg7 harg7 arg8 harg8 arg9 harg9 arg10 harg10 arg11 harg11 arg12 harg12 x0 x3 xs0 xs1 x)
      (a5 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 5 x (fun s e => (load2 _ _ K ((harg7.read_unread _).trans hK) _ _ _ (off16 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off17 i) _ s 0 (by omega) (by omega)).trans (congrArg x3 (by congr 1))))
      (fun s => (load2 _ _ V ((harg8.read_unread _).trans hV) _ _ _ (off18 i) _ d s (by omega) (by omega)).trans (congrArg V (by congr 1)))
  · intro d x
    refine (da6 _ _ _ _ _ _ d x).trans ?_
    exact stepA_eq (m6 c i arg2 harg2 arg3 harg3 arg4 harg4 arg5 harg5 arg6 harg6 arg7 harg7 arg8 harg8 arg9 harg9 arg10 harg10 arg11 harg11 arg12 harg12 x0 x3 xs0 xs1 x)
      (a6 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 6 x (fun s e => (load2 _ _ K ((harg7.read_unread _).trans hK) _ _ _ (off19 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off20 i) _ s 0 (by omega) (by omega)).trans (congrArg x3 (by congr 1))))
      (fun s => (load2 _ _ V ((harg8.read_unread _).trans hV) _ _ _ (off21 i) _ d s (by omega) (by omega)).trans (congrArg V (by congr 1)))
  · intro d x
    refine (da7 _ _ _ _ _ _ d x).trans ?_
    exact stepA_eq (m7 c i arg2 harg2 arg3 harg3 arg4 harg4 arg5 harg5 arg6 harg6 arg7 harg7 arg8 harg8 arg9 harg9 arg10 harg10 arg11 harg11 arg12 harg12 x0 x3 xs0 xs1 x)
      (a7 c i arg2 harg2 arg3 harg3 arg4 harg4 arg5 harg5 arg6 harg6 arg7 harg7 arg8 harg8 arg9 harg9 arg10 harg10 arg11 harg11 arg12 harg12 x0 x3 xs0 xs1 d x)
      (dsc_eq _ _ _ K Q x3 (i 1) 7 x (fun s e => (load2 _ _ K ((harg7.read_unread _).trans hK) _ _ _ (off22 i) _ s e (by omega) (by omega)).trans (congrArg K (by congr 1)))
        (fun e => (load2 _ _ Q ((View.read_writes_junk_eq_canon _ _).trans hQ) _ _ _ rfl _ e x (by omega) (by omega)).trans (congrArg Q (by congr 1; exact Fin.ext (by simp))))
        (fun s => (load2 _ _ x3 (harg5.read_unread _) _ _ _ (off23 i) _ s 0 (by omega) (by omega)).trans (congrArg x3 (by congr 1))))
      (fun s => (load2 _ _ V ((harg8.read_unread _).trans hV) _ _ _ (off24 i) _ d s (by omega) (by omega)).trans (congrArg V (by congr 1)))

end CaseB

end Cert.FoxPIdeal.Val

end
-- ==== Proof.FoxPOutB.lean ====
/- What the second block of queries of a sequence leaves in the output. -/
module

public import proofs.«01_k».proof.Proof.Gen.FoxPIdeal.Value
public import proofs.«01_k».proof.Proof.FoxPDiagB
public import proofs.«01_k».proof.Proof.FoxPLoop
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem
namespace CaseB

theorem sum (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16)
    (K : FVec Ideal S2048x512 .bf16) (Q : FVec Ideal S512x1024 .bf16) (V : FVec Ideal S512x2048 .bf16)
    (hK : xs0 = K) (hV : xs1 = V) (hQ : View.canon (kernelRun0_B.sl.HS2_1 (F := Ideal) c arg2 harg2 x0) = Q) (hi : (i 1).val = 1) (h : Fin 8) (x : Fin 1024) :
    View.canon ((pb_k0_t2 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (kernelRun0_B.sl.v394 i) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).1 ++ kernelRun0_B.sl.HS3_9 (F := Ideal) c i arg2 harg2 arg5 harg5 arg7 harg7 arg9 arg10 x0 x3 xs0)) (arg11.view.writes (Elt Ideal) arg11.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).2.1 ++ kernelRun0_B.sl.HS4_9 (F := Ideal) c i arg2 harg2 arg5 harg5 arg7 harg7 arg9 arg10 arg11 x0 x3 xs0)) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).2.2 ++ kernelRun0_B.sl.HS5_9 (F := Ideal) c i arg2 harg2 arg5 harg5 arg7 harg7 arg8 harg8 arg9 arg10 arg12 x0 x3 xs0 xs1)) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).2.1 ++ kernelRun0_B.sl.HS4_9 (F := Ideal) c i arg2 harg2 arg5 harg5 arg7 harg7 arg9 arg10 arg11 x0 x3 xs0)) (ix3 h 0 x) = Soft.stepL (Soft.stepM ⊥ (scd K Q x3 (i 1) h x)) (Soft.stepL ⊥ 0 (scd K Q x3 (i 1) h x)) (sc K Q x3 0 h x) := by
  rw [pb2_zero (hn := trips2 i)]
  dsimp only [List.nil_append]
  rw [pb1_one (k := ⟨0, by rw [trips1 i, hi]; exact Nat.one_pos⟩) (hn := (trips1 i).trans hi)]
  refine (trip_l c i arg2 harg2 arg3 harg3 arg4 harg4 arg5 harg5 arg6 harg6 arg7 harg7 arg8 harg8 arg9 harg9 arg10 harg10 arg11 harg11 arg12 harg12 _ _ _ _ _ _ _ _ _ _ K Q x3 V _ _ _ (harg5.read_unread _) ((harg7.read_unread _).trans hK) ((harg8.read_unread _).trans hV) ((View.read_writes_junk_eq_canon _ _).trans hQ)
    (View.read_writes_junk_eq_canon _ _) (View.read_writes_junk_eq_canon _ _) (View.read_writes_junk_eq_canon _ _) _ h x).trans ?_
  rw [diag_m c i arg2 harg2 arg3 harg3 arg4 harg4 arg5 harg5 arg6 harg6 arg7 harg7 arg8 harg8 arg9 harg9 arg10 harg10 arg11 harg11 arg12 harg12 x0 x3 xs0 xs1 K Q V hK hV hQ h x, diag_l c i arg2 harg2 arg3 harg3 arg4 harg4 arg5 harg5 arg6 harg6 arg7 harg7 arg8 harg8 arg9 harg9 arg10 harg10 arg11 harg11 arg12 harg12 x0 x3 xs0 xs1 K Q V hK hV hQ h x]

theorem acc (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16)
    (K : FVec Ideal S2048x512 .bf16) (Q : FVec Ideal S512x1024 .bf16) (V : FVec Ideal S512x2048 .bf16)
    (hK : xs0 = K) (hV : xs1 = V) (hQ : View.canon (kernelRun0_B.sl.HS2_1 (F := Ideal) c arg2 harg2 x0) = Q) (hi : (i 1).val = 1) (h : Fin 8) (d : Fin 64) (x : Fin 1024) :
    View.canon ((pb_k0_t2 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (kernelRun0_B.sl.v394 i) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).1 ++ kernelRun0_B.sl.HS3_9 (F := Ideal) c i arg2 harg2 arg5 harg5 arg7 harg7 arg9 arg10 x0 x3 xs0)) (arg11.view.writes (Elt Ideal) arg11.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).2.1 ++ kernelRun0_B.sl.HS4_9 (F := Ideal) c i arg2 harg2 arg5 harg5 arg7 harg7 arg9 arg10 arg11 x0 x3 xs0)) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).2.2 ++ kernelRun0_B.sl.HS5_9 (F := Ideal) c i arg2 harg2 arg5 harg5 arg7 harg7 arg8 harg8 arg9 arg10 arg12 x0 x3 xs0 xs1)) (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 arg10 harg10 arg11 harg11 arg12 harg12 (kernelRun0_B.sl.v26 i) (0#32) (harg5.unread x3) (harg7.unread xs0) (harg8.unread xs1) (arg9.view.writes (Elt Ideal) arg9.view.junk (kernelRun0_B.sl.HS2_1 (F := Ideal) c arg2 harg2 x0)) (arg10.view.writes (Elt Ideal) arg10.view.junk (kernelRun0_B.sl.HS3_9 (F := Ideal) c i arg2 harg2 arg5 harg5 arg7 harg7 arg9 arg10 x0 x3 xs0)) (arg11.view.writes (Elt Ideal) arg11.view.junk (kernelRun0_B.sl.HS4_9 (F := Ideal) c i arg2 harg2 arg5 harg5 arg7 harg7 arg9 arg10 arg11 x0 x3 xs0)) (arg12.view.writes (Elt Ideal) arg12.view.junk (kernelRun0_B.sl.HS5_9 (F := Ideal) c i arg2 harg2 arg5 harg5 arg7 harg7 arg8 harg8 arg9 arg10 arg12 x0 x3 xs0 xs1)) (Scf.trips (k0_t1_loop i).lb (k0_t1_loop i).ub (k0_t1_loop i).st)).2.2 ++ kernelRun0_B.sl.HS5_9 (F := Ideal) c i arg2 harg2 arg5 harg5 arg7 harg7 arg8 harg8 arg9 arg10 arg12 x0 x3 xs0 xs1)) (ix2 ⟨h.val * 64 + d.val, by omega⟩ x) = Soft.stepA (Soft.stepM ⊥ (scd K Q x3 (i 1) h x)) (Soft.stepA ⊥ 0 (scd K Q x3 (i 1) h x) (fun s => V (ix2 ⟨h.val * 64 + d.val, by omega⟩ ⟨(i 1).val * 1024 + s.val, by have := s.isLt; have : (i 1).val < 2 := (i 1).isLt; omega⟩))) (sc K Q x3 0 h x) (fun s => V (ix2 ⟨h.val * 64 + d.val, by omega⟩ ⟨s.val, by omega⟩)) := by
  rw [pb2_zero (hn := trips2 i)]
  dsimp only [List.nil_append]
  rw [pb1_one (k := ⟨0, by rw [trips1 i, hi]; exact Nat.one_pos⟩) (hn := (trips1 i).trans hi)]
  refine (trip_a c i arg2 harg2 arg3 harg3 arg4 harg4 arg5 harg5 arg6 harg6 arg7 harg7 arg8 harg8 arg9 harg9 arg10 harg10 arg11 harg11 arg12 harg12 _ _ _ _ _ _ _ _ _ _ K Q x3 V _ _ _ (harg5.read_unread _) ((harg7.read_unread _).trans hK) ((harg8.read_unread _).trans hV) ((View.read_writes_junk_eq_canon _ _).trans hQ)
    (View.read_writes_junk_eq_canon _ _) (View.read_writes_junk_eq_canon _ _) (View.read_writes_junk_eq_canon _ _) _ h d x).trans ?_
  rw [diag_m c i arg2 harg2 arg3 harg3 arg4 harg4 arg5 harg5 arg6 harg6 arg7 harg7 arg8 harg8 arg9 harg9 arg10 harg10 arg11 harg11 arg12 harg12 x0 x3 xs0 xs1 K Q V hK hV hQ h x, diag_a c i arg2 harg2 arg3 harg3 arg4 harg4 arg5 harg5 arg6 harg6 arg7 harg7 arg8 harg8 arg9 harg9 arg10 harg10 arg11 harg11 arg12 harg12 x0 x3 xs0 xs1 K Q V hK hV hQ h d x]

theorem quot (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16)
    (K : FVec Ideal S2048x512 .bf16) (Q : FVec Ideal S512x1024 .bf16) (V : FVec Ideal S512x2048 .bf16)
    (hK : xs0 = K) (hV : xs1 = V) (hQ : View.canon (kernelRun0_B.sl.HS2_1 (F := Ideal) c arg2 harg2 x0) = Q) (hi : (i 1).val = 1) (h : Fin 8) (d : Fin 64) (x : Fin 1024) :
    View.canon (kernelRun0_B.sl.HS5_8_1 (F := Ideal) c i arg2 harg2 arg3 harg3 arg4 harg4 arg5 harg5 arg6 harg6 arg7 harg7 arg8 harg8 arg9 harg9 arg10 harg10 arg11 harg11 arg12 harg12 x0 x3 xs0 xs1) (ix2 ⟨h.val * 64 + d.val, by omega⟩ x) = Ideal.div (Soft.stepA (Soft.stepM ⊥ (scd K Q x3 (i 1) h x)) (Soft.stepA ⊥ 0 (scd K Q x3 (i 1) h x) (fun s => V (ix2 ⟨h.val * 64 + d.val, by omega⟩ ⟨(i 1).val * 1024 + s.val, by have := s.isLt; have : (i 1).val < 2 := (i 1).isLt; omega⟩))) (sc K Q x3 0 h x) (fun s => V (ix2 ⟨h.val * 64 + d.val, by omega⟩ ⟨s.val, by omega⟩))) (Soft.stepL (Soft.stepM ⊥ (scd K Q x3 (i 1) h x)) (Soft.stepL ⊥ 0 (scd K Q x3 (i 1) h x)) (sc K Q x3 0 h x)) := by
  unfold kernelRun0_B.sl.HS5_8_1 kernelRun0_B.sl.HS5_7_1 kernelRun0_B.sl.HS5_6_1 kernelRun0_B.sl.HS5_5_1 kernelRun0_B.sl.HS5_4_1 kernelRun0_B.sl.HS5_3_1 kernelRun0_B.sl.HS5_2_1 kernelRun0_B.sl.HS5_1_1
  refine rows2 _ _ _ _ _ _ _ _ _ (fun h d x => Ideal.div (Soft.stepA (Soft.stepM ⊥ (scd K Q x3 (i 1) h x)) (Soft.stepA ⊥ 0 (scd K Q x3 (i 1) h x) (fun s => V (ix2 ⟨h.val * 64 + d.val, by omega⟩ ⟨(i 1).val * 1024 + s.val, by have := s.isLt; have : (i 1).val < 2 := (i 1).isLt; omega⟩))) (sc K Q x3 0 h x) (fun s => V (ix2 ⟨h.val * 64 + d.val, by omega⟩ ⟨s.val, by omega⟩))) (Soft.stepL (Soft.stepM ⊥ (scd K Q x3 (i 1) h x)) (Soft.stepL ⊥ 0 (scd K Q x3 (i 1) h x)) (sc K Q x3 0 h x))) ?_ ?_ ?_ ?_ ?_ ?_ ?_ ?_ h d x
  · intro d x
    refine (quot217 _ _ d x).trans ?_
    refine congrArg₂ Ideal.div ?_ ?_
    · unfold kernelRun0_B.sl.v395
      rw [View.readCov_eq_canon']
      exact (congrArg (View.canon _) (idx2 0 _ 0 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 0 d x)
    · unfold kernelRun0_B.sl.v396
      rw [View.readCov_eq_canon']
      exact (congrArg (View.canon _) (idx3 0 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 0 x)
  · intro d x
    refine (quot218 _ _ d x).trans ?_
    refine congrArg₂ Ideal.div ?_ ?_
    · unfold kernelRun0_B.sl.v403 kernelRun0_B.sl.HS5_1_1
      rw [View.readCov_skip _ _ _ _ _ (by decide)]
      rw [View.readCov_eq_canon']
      exact (congrArg (View.canon _) (idx2 64 _ 1 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 1 d x)
    · unfold kernelRun0_B.sl.v404
      rw [View.readCov_eq_canon']
      exact (congrArg (View.canon _) (idx3 1 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 1 x)
  · intro d x
    refine (quot219 _ _ d x).trans ?_
    refine congrArg₂ Ideal.div ?_ ?_
    · unfold kernelRun0_B.sl.v411 kernelRun0_B.sl.HS5_2_1 kernelRun0_B.sl.HS5_1_1
      rw [View.readCov_skip _ _ _ _ _ (by decide), View.readCov_skip _ _ _ _ _ (by decide)]
      rw [View.readCov_eq_canon']
      exact (congrArg (View.canon _) (idx2 128 _ 2 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 2 d x)
    · unfold kernelRun0_B.sl.v412
      rw [View.readCov_eq_canon']
      exact (congrArg (View.canon _) (idx3 2 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 2 x)
  · intro d x
    refine (quot220 _ _ d x).trans ?_
    refine congrArg₂ Ideal.div ?_ ?_
    · unfold kernelRun0_B.sl.v419 kernelRun0_B.sl.HS5_3_1 kernelRun0_B.sl.HS5_2_1 kernelRun0_B.sl.HS5_1_1
      rw [View.readCov_skip _ _ _ _ _ (by decide), View.readCov_skip _ _ _ _ _ (by decide), View.readCov_skip _ _ _ _ _ (by decide)]
      rw [View.readCov_eq_canon']
      exact (congrArg (View.canon _) (idx2 192 _ 3 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 3 d x)
    · unfold kernelRun0_B.sl.v420
      rw [View.readCov_eq_canon']
      exact (congrArg (View.canon _) (idx3 3 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 3 x)
  · intro d x
    refine (quot221 _ _ d x).trans ?_
    refine congrArg₂ Ideal.div ?_ ?_
    · unfold kernelRun0_B.sl.v427 kernelRun0_B.sl.HS5_4_1 kernelRun0_B.sl.HS5_3_1 kernelRun0_B.sl.HS5_2_1 kernelRun0_B.sl.HS5_1_1
      rw [View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 256 _ 4 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 4 d x)
    · unfold kernelRun0_B.sl.v428
      rw [View.readCov_eq_canon']
      exact (congrArg (View.canon _) (idx3 4 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 4 x)
  · intro d x
    refine (quot222 _ _ d x).trans ?_
    refine congrArg₂ Ideal.div ?_ ?_
    · unfold kernelRun0_B.sl.v435 kernelRun0_B.sl.HS5_5_1 kernelRun0_B.sl.HS5_4_1 kernelRun0_B.sl.HS5_3_1 kernelRun0_B.sl.HS5_2_1 kernelRun0_B.sl.HS5_1_1
      rw [View.readCov_skip _ _ _ _ _ (by decide), View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 320 _ 5 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 5 d x)
    · unfold kernelRun0_B.sl.v436
      rw [View.readCov_eq_canon']
      exact (congrArg (View.canon _) (idx3 5 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 5 x)
  · intro d x
    unfold kernelRun0_B.sl.r_22
    refine (quot1 _ _ d x).trans ?_
    refine congrArg₂ Ideal.div ?_ ?_
    · unfold kernelRun0_B.sl.v443 kernelRun0_B.sl.HS5_6_1 kernelRun0_B.sl.HS5_5_1 kernelRun0_B.sl.HS5_4_1 kernelRun0_B.sl.HS5_3_1 kernelRun0_B.sl.HS5_2_1 kernelRun0_B.sl.HS5_1_1
      rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 384 _ 6 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 6 d x)
    · unfold kernelRun0_B.sl.v444
      rw [View.readCov_eq_canon']
      exact (congrArg (View.canon _) (idx3 6 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 6 x)
  · intro d x
    refine (quot2 _ _ d x).trans ?_
    refine congrArg₂ Ideal.div ?_ ?_
    · unfold kernelRun0_B.sl.v451 kernelRun0_B.sl.HS5_7_1 kernelRun0_B.sl.HS5_6_1 kernelRun0_B.sl.HS5_5_1 kernelRun0_B.sl.HS5_4_1 kernelRun0_B.sl.HS5_3_1 kernelRun0_B.sl.HS5_2_1 kernelRun0_B.sl.HS5_1_1
      rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide)]
      rw [View.readCov_eq_canon']
      exact (congrArg (View.canon _) (idx2 448 _ 7 (by decide) rfl d x)).trans (acc c i arg2 harg2 arg3 harg3 arg4 harg4 arg5 harg5 arg6 harg6 arg7 harg7 arg8 harg8 arg9 harg9 arg10 harg10 arg11 harg11 arg12 harg12 x0 x3 xs0 xs1 K Q V hK hV hQ hi 7 d x)
    · unfold kernelRun0_B.sl.v452
      rw [View.readCov_eq_canon']
      exact (congrArg (View.canon _) (idx3 7 (by decide) _ x)).trans (sum c i arg2 harg2 arg3 harg3 arg4 harg4 arg5 harg5 arg6 harg6 arg7 harg7 arg8 harg8 arg9 harg9 arg10 harg10 arg11 harg11 arg12 harg12 x0 x3 xs0 xs1 K Q V hK hV hQ hi 7 x)

theorem out (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1024x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S512x1024 .f32) (harg12 : arg12.IsWhole) (x0 : Vec Ideal S1024x512 .f32) (x3 : Vec Ideal S2048x128 .f32) (xs0 : Vec Ideal S2048x512 .bf16) (xs1 : Vec Ideal S512x2048 .bf16)
    (hc0 : ¬cond0_0 i) (x1 : Vec Ideal S2048x512 .f32) (x2 : Vec Ideal S2048x512 .f32) (K : FVec Ideal S2048x512 .bf16) (Q : FVec Ideal S512x1024 .bf16) (V : FVec Ideal S512x2048 .bf16)
    (hK : xs0 = K) (hV : xs1 = V) (hQ : View.canon (kernelRun0_B.sl.HS2_1 (F := Ideal) c arg2 harg2 x0) = Q) (hi : (i 1).val = 1) (h : Fin 8) (d : Fin 64) (x : Fin 1024) :
    out0_B_4 (F := Ideal) c i arg2 harg2 arg3 harg3 arg4 harg4 arg5 harg5 arg6 harg6 arg7 harg7 arg8 harg8 arg9 harg9 arg10 harg10 arg11 harg11 arg12 harg12 hc0 x0 x1 x2 x3 xs0 xs1 (ix2 x ⟨h.val * 64 + d.val, by omega⟩) = Ideal.div (Soft.stepA (Soft.stepM ⊥ (scd K Q x3 (i 1) h x)) (Soft.stepA ⊥ 0 (scd K Q x3 (i 1) h x) (fun s => V (ix2 ⟨h.val * 64 + d.val, by omega⟩ ⟨(i 1).val * 1024 + s.val, by have := s.isLt; have : (i 1).val < 2 := (i 1).isLt; omega⟩))) (sc K Q x3 0 h x) (fun s => V (ix2 ⟨h.val * 64 + d.val, by omega⟩ ⟨s.val, by omega⟩))) (Soft.stepL (Soft.stepM ⊥ (scd K Q x3 (i 1) h x)) (Soft.stepL ⊥ 0 (scd K Q x3 (i 1) h x)) (sc K Q x3 0 h x)) := by
  unfold out0_B_4
  rw [View.read_writes_junk_eq_canon]
  unfold kernelRun0_B
  dsimp only
  rw [View.canon_cons_unit_lit _ _ _ (by decide)]
  refine (turned _ x _).trans ?_
  unfold kernelRun0_B.sl.v459
  rw [View.readCov_eq_canon']
  exact (congrArg (View.canon _) (idxw _ _ x)).trans (quot c i arg2 harg2 arg3 harg3 arg4 harg4 arg5 harg5 arg6 harg6 arg7 harg7 arg8 harg8 arg9 harg9 arg10 harg10 arg11 harg11 arg12 harg12 x0 x3 xs0 xs1 K Q V hK hV hQ hi h d x)

theorem turnedQ (c : Dev nD) (arg2 : Memref sig .tc .vmem S1024x512 .f32) (harg2 : arg2.IsWhole) (x0 : Vec Ideal S1024x512 .f32) (j : Fin 512) (x : Fin 1024) :
    View.canon (kernelRun0_B.sl.HS2_1 (F := Ideal) c arg2 harg2 x0) (ix2 j x) = x0 (ix2 x j) * Ideal.ofBits .f32 1040187392#32 := by
  unfold kernelRun0_B.sl.HS2_1
  rw [View.canon_cons_unit_lit _ _ _ (by decide)]
  refine (queries _ x j).trans ?_
  refine congrArg (· * Ideal.ofBits .f32 1040187392#32) ?_
  exact (load2 _ _ x0 (harg2.read_unread _) _ 0 0 rfl _ x j (by omega) (by omega)).trans (congrArg x0 (by congr 1 <;> exact Fin.ext (by simp)))

end CaseB

end Cert.FoxPIdeal.Val

end
-- ==== Proof.FoxPRef.lean ====
/- The reference of the forgetting attention of the prompt rows, as one term of its argument arrays. -/
module

public import proofs.«01_k».proof.Proof.Gen.FoxPRefIdeal.Run
public import Idealize.ShloMosaic.Lib.Pointwise

@[expose] public section

set_option maxRecDepth 16384

noncomputable section

namespace Cert.FoxPRefIdeal.Term

open Cert.FoxPRefIdeal Cert.FoxPRefIdeal.Gen Idealize.ShloMosaic Idealize.ShloMosaic.TcCoe Idealize.SL.Sem

/-- What the reference returns, over its argument arrays. -/
def ref (X0 : FVec Ideal S17408x6144 .f32) (X1 : FVec Ideal S16384x128 .f32) : FVec Ideal S16384x512 .bf16 :=
  have t1 := transpose S8x8x2048 [0, 2, 1] (shapeCast _ (extractStridedSlice S16384x8 ![0, 0] X1 slices_S16384x128_S16384x8_0_0) shapeCasts_S16384x8_S8x2048x8) transposes_S8x2048x8_S8x8x2048_0_2_1
  have t2 := select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (mulf (Host.dotGeneral dot_S8x2048x8x64_S8x2048x8x64_S8x8x2048x2048_3_3_1_1_02_02 none (shapeCast _ (extractStridedSlice S16384x512 ![0, 2048] X0 slices_S17408x6144_S16384x512_0_2048) shapeCasts_S16384x512_S8x2048x8x64) (shapeCast _ (extractStridedSlice S16384x512 ![0, 2560] X0 slices_S17408x6144_S16384x512_0_2560) shapeCasts_S16384x512_S8x2048x8x64)) (broadcastInDim S8x8x2048x2048 ![] bcast_S_S8x8x2048x2048 (constant S_ .f32 0x3E000000#32))) (broadcastInDim S8x8x2048x2048 ![0, 1, 2, 3] bcast_S8x8x2048x1_S8x8x2048x2048_0_1_2_3 (broadcastInDim S8x8x2048x1 ![0, 1, 2] bcast_S8x8x2048_S8x8x2048x1_0_1_2 t1))) (broadcastInDim S8x8x2048x2048 ![0, 1, 2, 3] bcast_S8x8x1x2048_S8x8x2048x2048_0_1_2_3 (broadcastInDim S8x8x1x2048 ![0, 1, 3] bcast_S8x8x2048_S8x8x1x2048_0_1_3 t1))) (broadcastInDim S8x8x2048x2048 ![] bcast_S_S8x8x2048x2048 (id (constant S_ .f32 0xFF800000#32)))
  have t3 := Host.exp (subf t2 (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) (Host.reduce FloatOps.maximumf t2 (constant S_ .f32 0xFF800000#32) reducesTo_S8x8x2048x2048_S8x8x2048_d3 h_S_)))))
  truncf .bf16 (shapeCast _ (transpose S8x2048x8x64 [0, 3, 1, 2] (Host.dotGeneral dot_S8x2048x8x64_S8x8x2048x2048_S8x8x64x2048_1_3_3_2_02_01 none (shapeCast _ (extractStridedSlice S16384x512 ![0, 3072] X0 slices_S17408x6144_S16384x512_0_3072) shapeCasts_S16384x512_S8x2048x8x64) (Host.divf t3 (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd t3 (constant S_ .f32 0x00000000#32) reducesTo_S8x8x2048x2048_S8x8x2048_d3 h_S_))))) transposes_S8x8x64x2048_S8x2048x8x64_0_3_1_2) shapeCasts_S8x2048x8x64_S16384x512) bitsLt_bf16_f32

end Cert.FoxPRefIdeal.Term

end
-- ==== Proof.FoxPRefAt.lean ====
/- The forgetting attention of one query against the keys of its sequence, and the reference read at an index. -/
module

public import proofs.«01_k».proof.Proof.FoxPRef
public import proofs.«01_k».proof.Proof.FoxPSoft
public import Idealize.ShloMosaic.Lib.Pipeline.ValueKit
public import Idealize.ShloMosaic.Lib.Pointwise

@[expose] public section

set_option maxRecDepth 16384

noncomputable section

namespace Cert.FoxPRefIdeal.Term

open Cert.FoxPRefIdeal Cert.FoxPRefIdeal.Gen Idealize.ShloMosaic Idealize.ShloMosaic.TcCoe Idealize.SL.Sem

/-- The score of the query at place `t` against the key at place `s`: their scaled product and the logarithm of the
decay between the places, and the least element for a key after the query. -/
def score (q k : Fin 64 → EReal) (ct cs : EReal) (t s : Fin 2048) : EReal :=
  if s.val ≤ t.val then (∑ e, q e * k e) * Ideal.ofBits .f32 1040187392#32 + ct - cs else Ideal.ofBits .f32 4286578688#32

/-- The running logarithms of the decays, by sequence, head and place. -/
def decays (X1 : FVec Ideal S16384x128 .f32) : FVec Ideal S8x8x2048 .f32 :=
  transpose S8x8x2048 [0, 2, 1] (shapeCast _ (extractStridedSlice S16384x8 ![0, 0] X1 slices_S16384x128_S16384x8_0_0) shapeCasts_S16384x8_S8x2048x8) transposes_S8x2048x8_S8x8x2048_0_2_1

/-- The scores before the mask. -/
def raw (X0 : FVec Ideal S17408x6144 .f32) (t1 : FVec Ideal S8x8x2048 .f32) : FVec Ideal S8x8x2048x2048 .f32 :=
  subf (addf (mulf (Host.dotGeneral dot_S8x2048x8x64_S8x2048x8x64_S8x8x2048x2048_3_3_1_1_02_02 none (shapeCast _ (extractStridedSlice S16384x512 ![0, 2048] X0 slices_S17408x6144_S16384x512_0_2048) shapeCasts_S16384x512_S8x2048x8x64) (shapeCast _ (extractStridedSlice S16384x512 ![0, 2560] X0 slices_S17408x6144_S16384x512_0_2560) shapeCasts_S16384x512_S8x2048x8x64)) (broadcastInDim S8x8x2048x2048 ![] bcast_S_S8x8x2048x2048 (constant S_ .f32 0x3E000000#32))) (broadcastInDim S8x8x2048x2048 ![0, 1, 2, 3] bcast_S8x8x2048x1_S8x8x2048x2048_0_1_2_3 (broadcastInDim S8x8x2048x1 ![0, 1, 2] bcast_S8x8x2048_S8x8x2048x1_0_1_2 t1))) (broadcastInDim S8x8x2048x2048 ![0, 1, 2, 3] bcast_S8x8x1x2048_S8x8x2048x2048_0_1_2_3 (broadcastInDim S8x8x1x2048 ![0, 1, 3] bcast_S8x8x2048_S8x8x1x2048_0_1_3 t1))

/-- Which keys a query sees. -/
def seen : IVec S8x8x2048x2048 1 :=
  broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The masked scores. -/
def masked (u : FVec Ideal S8x8x2048x2048 .f32) : FVec Ideal S8x8x2048x2048 .f32 :=
  select seen u (broadcastInDim S8x8x2048x2048 ![] bcast_S_S8x8x2048x2048 (id (constant S_ .f32 0xFF800000#32)))

/-- The largest score of each row. -/
def rowmax (t : FVec Ideal S8x8x2048x2048 .f32) : FVec Ideal S8x8x2048 .f32 :=
  Host.reduce FloatOps.maximumf t (constant S_ .f32 0xFF800000#32) reducesTo_S8x8x2048x2048_S8x8x2048_d3 h_S_

/-- The largest score of each row, bounded below by the least element. -/
def rowtop (t : FVec Ideal S8x8x2048x2048 .f32) : FVec Ideal S8x8x2048 .f32 :=
  maximumf (broadcastInDim S8x8x2048 ![] bcast_S_S8x8x2048 (constant S_ .f32 0xFF800000#32)) (rowmax t)

/-- The exponentials of the scores less their row's largest. -/
def expos (t : FVec Ideal S8x8x2048x2048 .f32) : FVec Ideal S8x8x2048x2048 .f32 :=
  Host.exp (subf t (broadcastInDim S8x8x2048x2048 ![0, 1, 2, 3] bcast_S8x8x2048x1_S8x8x2048x2048_0_1_2_3 (broadcastInDim S8x8x2048x1 ![0, 1, 2] bcast_S8x8x2048_S8x8x2048x1_0_1_2 (rowtop t))))

/-- The values weighted by the normalised exponentials, the heads side by side. -/
def weigh (X0 : FVec Ideal S17408x6144 .f32) (t3 : FVec Ideal S8x8x2048x2048 .f32) : FVec Ideal S16384x512 .bf16 :=
  truncf .bf16 (shapeCast _ (transpose S8x2048x8x64 [0, 3, 1, 2] (Host.dotGeneral dot_S8x2048x8x64_S8x8x2048x2048_S8x8x64x2048_1_3_3_2_02_01 none (shapeCast _ (extractStridedSlice S16384x512 ![0, 3072] X0 slices_S17408x6144_S16384x512_0_3072) shapeCasts_S16384x512_S8x2048x8x64) (Host.divf t3 (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd t3 (constant S_ .f32 0x00000000#32) reducesTo_S8x8x2048x2048_S8x8x2048_d3 h_S_))))) transposes_S8x8x64x2048_S8x2048x8x64_0_3_1_2) shapeCasts_S8x2048x8x64_S16384x512) bitsLt_bf16_f32

theorem ref_eq (X0 : FVec Ideal S17408x6144 .f32) (X1 : FVec Ideal S16384x128 .f32) :
    ref X0 X1 = weigh X0 (expos (masked (raw X0 (decays X1)))) := rfl

theorem decays_at (X1 : FVec Ideal S16384x128 .f32) (b h : Fin 8) (s : Fin 2048) :
    decays X1 (ix3 b h s) = X1 (ix2 ⟨b.val * 2048 + s.val, by omega⟩ ⟨h.val, by omega⟩) := by
  pointwise [decays]

theorem raw_at (X0 : FVec Ideal S17408x6144 .f32) (t1 : FVec Ideal S8x8x2048 .f32) (b h : Fin 8) (t s : Fin 2048) :
    raw X0 t1 (ix4 b h t s)
      = (∑ e : Fin 64, X0 (ix2 ⟨b.val * 2048 + t.val, by omega⟩ ⟨2048 + (h.val * 64 + e.val), by omega⟩)
          * X0 (ix2 ⟨b.val * 2048 + s.val, by omega⟩ ⟨2560 + (h.val * 64 + e.val), by omega⟩))
          * Ideal.ofBits .f32 1040187392#32 + t1 (ix3 b h t) - t1 (ix3 b h s) := by
  pointwise [raw]

theorem seen_at (b h : Fin 8) (t s : Fin 2048) : seen (ix4 b h t s) = if s.val ≤ t.val then 1#1 else 0#1 := by
  pointwise [seen]
  have hs := s.isLt
  have ht := t.isLt
  have e := IntOp.cmpi_sle (x := BitVec.ofNat 32 s.val) (y := BitVec.ofNat 32 t.val)
  have e1 : (BitVec.ofNat 32 s.val).toInt = s.val := by
    rw [BitVec.toInt_eq_toNat_of_lt (by simp only [BitVec.toNat_ofNat]; omega), BitVec.toNat_ofNat, Nat.mod_eq_of_lt (by omega)]
  have e2 : (BitVec.ofNat 32 t.val).toInt = t.val := by
    rw [BitVec.toInt_eq_toNat_of_lt (by simp only [BitVec.toNat_ofNat]; omega), BitVec.toNat_ofNat, Nat.mod_eq_of_lt (by omega)]
  rw [e1, e2, Int.ofNat_le] at e
  by_cases h : s.val ≤ t.val
  · rw [if_pos h]; exact e.mpr h
  · rw [if_neg h]; exact (BitVec.eq_zero_or_eq_one _).resolve_right fun x => h (e.mp x)

theorem masked_at (u : FVec Ideal S8x8x2048x2048 .f32) (b h : Fin 8) (t s : Fin 2048) :
    masked u (ix4 b h t s) = if s.val ≤ t.val then u (ix4 b h t s) else Ideal.ofBits .f32 4286578688#32 := by
  have e : masked u (ix4 b h t s) = Scalar.select (seen (ix4 b h t s)) (u (ix4 b h t s)) (Ideal.ofBits .f32 4286578688#32) := rfl
  rw [e, seen_at]
  by_cases hs : s.val ≤ t.val
  · rw [if_pos hs, if_pos hs]; rfl
  · rw [if_neg hs, if_neg hs]; rfl

/-- The largest of scores from the least element up is no less than it. -/
theorem max_fold {n : Nat} (b : EReal) (f : Fin n → EReal) :
    max b (Finset.fold max b f Finset.univ) = Finset.fold max b f Finset.univ := by
  refine max_eq_right ?_
  rw [Finset.le_fold_max]
  exact Or.inl le_rfl

/-- The maximum over the last axis of four, read at an index. -/
theorem host_max {n0 n1 n2 n3 : Nat} (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel)
    (a : Fin n0) (b : Fin n1) (d : Fin n2) :
    Host.reduce FloatOps.maximumf v c h hu (ix3 a b d)
      = Finset.fold max (c (Shape.Idx.first hu)) (fun k : Fin n3 => v (ix4 a b d k)) Finset.univ := by
  simp only [pointwise]

theorem rowmax_at (t : FVec Ideal S8x8x2048x2048 .f32) (b h : Fin 8) (s : Fin 2048) :
    rowmax t (ix3 b h s) = Soft.top (fun z : Fin 2048 => t (ix4 b h s z)) :=
  host_max t _ _ _ b h s

/-- The larger of a constant and an array, at an index. -/
theorem bound_at (w : BitVec 32) (u : FVec Ideal S8x8x2048 .f32) (i : S8x8x2048.Idx) :
    maximumf (broadcastInDim S8x8x2048 ![] bcast_S_S8x8x2048 (constant S_ .f32 w)) u i = max (Ideal.ofBits .f32 w) (u i) :=
  rfl

theorem rowtop_at (t : FVec Ideal S8x8x2048x2048 .f32) (b h : Fin 8) (s : Fin 2048) :
    rowtop t (ix3 b h s) = Soft.top (fun z : Fin 2048 => t (ix4 b h s z)) := by
  unfold rowtop
  rw [bound_at, rowmax_at]
  exact max_fold _ _

theorem expos_at (t : FVec Ideal S8x8x2048x2048 .f32) (b h : Fin 8) (s x : Fin 2048) :
    expos t (ix4 b h s x) = Ideal.exp (t (ix4 b h s x) - rowtop t (ix3 b h s)) := by
  pointwise [expos]

theorem weigh_at (X0 : FVec Ideal S17408x6144 .f32) (t : FVec Ideal S8x8x2048x2048 .f32) (r : Fin 16384) (j : Fin 512) :
    weigh X0 t (ix2 r j) = ∑ x : Fin 2048, Ideal.div
        (t (ix4 ⟨r.val / 2048, by omega⟩ ⟨j.val / 64, by omega⟩ ⟨r.val % 2048, by omega⟩ x))
        (∑ z : Fin 2048, t (ix4 ⟨r.val / 2048, by omega⟩ ⟨j.val / 64, by omega⟩ ⟨r.val % 2048, by omega⟩ z))
      * X0 (ix2 ⟨r.val / 2048 * 2048 + x.val, by omega⟩ ⟨3072 + j.val, by omega⟩) := by
  pointwise [weigh]
  exact Finset.sum_congr rfl fun x _ => mul_comm _ _

/-- The scores of a row's query against the keys of its sequence, in the head of a column. -/
def scores (X0 : FVec Ideal S17408x6144 .f32) (X1 : FVec Ideal S16384x128 .f32) (r : Fin 16384) (j : Fin 512) (s : Fin 2048) : EReal :=
  score (fun e => X0 (ix2 ⟨r.val, by omega⟩ ⟨2048 + (j.val / 64 * 64 + e.val), by omega⟩))
    (fun e => X0 (ix2 ⟨r.val / 2048 * 2048 + s.val, by omega⟩ ⟨2560 + (j.val / 64 * 64 + e.val), by omega⟩))
    (X1 (ix2 r ⟨j.val / 64, by omega⟩)) (X1 (ix2 ⟨r.val / 2048 * 2048 + s.val, by omega⟩ ⟨j.val / 64, by omega⟩))
    ⟨r.val % 2048, by omega⟩ s

/-- The attention of a row in a column. -/
def out (X0 : FVec Ideal S17408x6144 .f32) (X1 : FVec Ideal S16384x128 .f32) (r : Fin 16384) (j : Fin 512) : EReal :=
  Soft.attn (scores X0 X1 r j) (fun x => X0 (ix2 ⟨r.val / 2048 * 2048 + x.val, by omega⟩ ⟨3072 + j.val, by omega⟩))

/-- The masked scores of a row. -/
theorem row_at (X0 : FVec Ideal S17408x6144 .f32) (X1 : FVec Ideal S16384x128 .f32) (r : Fin 16384) (j : Fin 512) (s : Fin 2048) :
    masked (raw X0 (decays X1)) (ix4 ⟨r.val / 2048, by omega⟩ ⟨j.val / 64, by omega⟩ ⟨r.val % 2048, by omega⟩ s) = scores X0 X1 r j s := by
  have hr : r.val / 2048 * 2048 + r.val % 2048 = r.val := by omega
  rw [masked_at, raw_at, decays_at, decays_at]
  simp only [hr, scores, score]

/-- The reference at a row and a column. -/
theorem ref_at (X0 : FVec Ideal S17408x6144 .f32) (X1 : FVec Ideal S16384x128 .f32) (r : Fin 16384) (j : Fin 512) : ref X0 X1 (ix2 r j) = out X0 X1 r j := by
  rw [ref_eq, weigh_at]
  simp only [expos_at, rowtop_at, row_at, out, Soft.attn]

/-- The reference at an index. -/
theorem ref_idx (X0 : FVec Ideal S17408x6144 .f32) (X1 : FVec Ideal S16384x128 .f32) (i : S16384x512.Idx) : ref X0 X1 i = out X0 X1 (i 0) (i 1) :=
  (congrArg (ref X0 X1) (ValueIdx.eq_ix2 (n0 := 16384) (n1 := 512) i)).trans (ref_at X0 X1 (i 0) (i 1))

end Cert.FoxPRefIdeal.Term

end
-- ==== Proof.FoxPScore.lean ====
/- The scores of the kernel and those of the reference: they differ by the decay of the query, which a softmax does not see. -/
module

public import proofs.«01_k».proof.Proof.Gen.FoxPIdeal.Value
public import proofs.«01_k».proof.Proof.FoxPTrip
public import proofs.«01_k».proof.Proof.FoxPRefAt
public import Idealize.ShloMosaic.Lib.Pipeline.ValueKit
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem

open Cert.FoxPRefIdeal.Term (score scores)

/-- A sum of reals. -/
theorem coe_sum {n : ℕ} (f : Fin n → ℝ) : (∑ e, (f e : EReal)) = ((∑ e, f e : ℝ) : EReal) := by
  classical
  refine Finset.induction_on (Finset.univ : Finset (Fin n)) ?_ ?_
  · simp
  · intro a S ha ih
    rw [Finset.sum_insert ha, Finset.sum_insert ha, ih, EReal.coe_add]

/-- The queries, the keys and the decays are reals. -/
structure Reals (X0 : FVec Ideal S17408x6144 .f32) (X1 : FVec Ideal S16384x128 .f32) : Prop where
  qk : ∀ (r : Fin 17408) (k : Fin 6144), r.val < 16384 → 2048 ≤ k.val → k.val < 3072 → ∃ z : ℝ, X0 (ix2 r k) = z
  c : ∀ (r : Fin 16384) (k : Fin 128), k.val < 8 → ∃ z : ℝ, X1 (ix2 r k) = z

/-- The buffers of block `p` of the queries of sequence `b` hold the blocks of the two arrays. -/
structure Holds (X0 : FVec Ideal S17408x6144 .f32) (X1 : FVec Ideal S16384x128 .f32) (K : FVec Ideal S2048x512 .bf16) (Q : FVec Ideal S512x1024 .bf16)
    (V : FVec Ideal S512x2048 .bf16) (C : FVec Ideal S2048x128 .f32) (b : Fin 8) (p : Fin 2) : Prop where
  k : ∀ (s : Fin 2048) (j : Fin 512), K (ix2 s j) = X0 (ix2 ⟨b.val * 2048 + s.val, by omega⟩ ⟨2560 + j.val, by omega⟩)
  v : ∀ (s : Fin 2048) (j : Fin 512), V (ix2 j s) = X0 (ix2 ⟨b.val * 2048 + s.val, by omega⟩ ⟨3072 + j.val, by omega⟩)
  q : ∀ (x : Fin 1024) (j : Fin 512), Q (ix2 j x) = X0 (ix2 ⟨b.val * 2048 + p.val * 1024 + x.val, by omega⟩ ⟨2048 + j.val, by omega⟩) * Ideal.ofBits .f32 1040187392#32
  c : ∀ (s : Fin 2048) (h : Fin 128), C (ix2 s h) = X1 (ix2 ⟨b.val * 2048 + s.val, by omega⟩ h)

variable {X0 : FVec Ideal S17408x6144 .f32} {X1 : FVec Ideal S16384x128 .f32} {K : FVec Ideal S2048x512 .bf16} {Q : FVec Ideal S512x1024 .bf16}
  {V : FVec Ideal S512x2048 .bf16} {C : FVec Ideal S2048x128 .f32} {b : Fin 8} {p : Fin 2}

/-- The row of a query. -/
abbrev row (b : Fin 8) (p : Fin 2) (x : Fin 1024) : Fin 16384 := ⟨b.val * 2048 + p.val * 1024 + x.val, by omega⟩

/-- The column of a head's coordinate. -/
abbrev col (h : Fin 8) (d : Fin 64) : Fin 512 := ⟨h.val * 64 + d.val, by omega⟩

/-- The reference's score, at the parts of a row and a column. -/
theorem scores_at (h : Fin 8) (d : Fin 64) (x : Fin 1024) (n : Fin 2048) :
    scores X0 X1 (row b p x) (col h d) n
      = score (fun e => X0 (ix2 ⟨b.val * 2048 + p.val * 1024 + x.val, by omega⟩ ⟨2048 + (h.val * 64 + e.val), by omega⟩))
          (fun e => X0 (ix2 ⟨b.val * 2048 + n.val, by omega⟩ ⟨2560 + (h.val * 64 + e.val), by omega⟩))
          (X1 (ix2 (row b p x) ⟨h.val, by omega⟩)) (X1 (ix2 ⟨b.val * 2048 + n.val, by omega⟩ ⟨h.val, by omega⟩))
          ⟨p.val * 1024 + x.val, by omega⟩ n := by
  have e1 : (h.val * 64 + d.val) / 64 = h.val := by omega
  have e2 : (b.val * 2048 + p.val * 1024 + x.val) / 2048 = b.val := by omega
  have e3 : (b.val * 2048 + p.val * 1024 + x.val) % 2048 = p.val * 1024 + x.val := by omega
  unfold scores
  simp only [e1, e2, e3]

/-- The values of the sequence, at the parts of a row and a column. -/
theorem weighed_at (h : Fin 8) (d : Fin 64) (x : Fin 1024) :
    Cert.FoxPRefIdeal.Term.out X0 X1 (row b p x) (col h d)
      = Soft.attn (scores X0 X1 (row b p x) (col h d)) (fun n => X0 (ix2 ⟨b.val * 2048 + n.val, by omega⟩ ⟨3072 + (h.val * 64 + d.val), by omega⟩)) := by
  have e2 : (b.val * 2048 + p.val * 1024 + x.val) / 2048 = b.val := by omega
  unfold Cert.FoxPRefIdeal.Term.out
  simp only [e2]

/-- A key after the query. -/
theorem scores_gt (h : Fin 8) (d : Fin 64) (x : Fin 1024) (n : Fin 2048) (hn : p.val * 1024 + x.val < n.val) :
    scores X0 X1 (row b p x) (col h d) n = ⊥ := by
  rw [scores_at]
  unfold score
  rw [if_neg (by simp only; omega)]
  exact Soft.bits_bot

/-- A key before it. -/
theorem scores_le (R : Reals X0 X1) (B : Holds X0 X1 K Q V C b p) (o : Fin 2) (h : Fin 8) (d : Fin 64) (x s : Fin 1024) (n : Fin 2048)
    (hn : n.val = o.val * 1024 + s.val) (hle : n.val ≤ p.val * 1024 + x.val) :
    ∃ z c : ℝ, sc K Q C o h x s = z ∧ X1 (ix2 (row b p x) ⟨h.val, by omega⟩) = c ∧ scores X0 X1 (row b p x) (col h d) n = (z : EReal) + c := by
  obtain ⟨n, hn'⟩ := n
  simp only at hn hle
  subst hn
  obtain ⟨w, hw⟩ := Soft.bits_eighth
  obtain ⟨c, hc⟩ := R.c (row b p x) ⟨h.val, by omega⟩ h.isLt
  obtain ⟨c', hc'⟩ := R.c ⟨b.val * 2048 + (o.val * 1024 + s.val), by omega⟩ ⟨h.val, by omega⟩ h.isLt
  choose k hk using fun e : Fin 64 => R.qk ⟨b.val * 2048 + (o.val * 1024 + s.val), by omega⟩ ⟨2560 + (h.val * 64 + e.val), by omega⟩ (by simp only; omega) (by simp only; omega) (by simp only; omega)
  choose q hq using fun e : Fin 64 => R.qk ⟨b.val * 2048 + p.val * 1024 + x.val, by omega⟩ ⟨2048 + (h.val * 64 + e.val), by omega⟩ (by simp only; omega) (by simp only; omega) (by simp only; omega)
  refine ⟨(∑ e, k e * (q e * w)) - c', c, ?_, hc, ?_⟩
  · unfold sc
    rw [B.c, hc']
    simp only [B.k, B.q, hk, hq, hw, ← EReal.coe_mul]
    rw [coe_sum, ← EReal.coe_sub]
  · rw [scores_at]
    unfold score
    rw [if_pos (by simp only; exact hle), hc, hc', hw]
    simp only [hk, hq, ← EReal.coe_mul]
    rw [coe_sum, ← EReal.coe_mul, ← EReal.coe_add, ← EReal.coe_sub, ← EReal.coe_add]
    refine congrArg _ ?_
    rw [Finset.sum_mul, Finset.sum_congr rfl fun e _ => (by ring : q e * k e * w = k e * (q e * w))]
    ring

/-- The first block of queries of a sequence sees its own keys only. -/
theorem first (R : Reals X0 X1) (B : Holds X0 X1 K Q V C b p) (hp : p.val = 0) (h : Fin 8) (d : Fin 64) (x : Fin 1024) :
    Ideal.div (Soft.stepA ⊥ 0 (scd K Q C p h x) (fun s => V (ix2 ⟨h.val * 64 + d.val, by omega⟩ ⟨p.val * 1024 + s.val, by omega⟩))) (Soft.stepL ⊥ 0 (scd K Q C p h x))
      = Cert.FoxPRefIdeal.Term.out X0 X1 (row b p x) (col h d) := by
  obtain ⟨z0, c, hz0, hc, -⟩ := scores_le R B p h d x x ⟨p.val * 1024 + x.val, by omega⟩ rfl le_rfl
  rw [weighed_at]
  refine Soft.first_only _ _ _ _ c ?_ ?_ ?_ ?_ x ?_
  · intro s
    unfold scd
    by_cases hs : s.val ≤ x.val
    · obtain ⟨z, c', hz, hc', e⟩ := scores_le R B p h d x s ⟨s.val, by omega⟩ (by simp only; omega) (by simp only; omega)
      rw [if_pos hs, e, hz, ← hc, hc']
    · rw [if_neg hs, scores_gt h d x _ (by simp only; omega), Soft.bits_bot, EReal.bot_add]
  · intro s
    exact scores_gt h d x _ (by simp only; omega)
  · intro s
    rw [B.v]
    exact congrArg X0 (by congr 1; exact Fin.ext (by simp only; omega))
  · intro s
    unfold scd
    by_cases hs : s.val ≤ x.val
    · obtain ⟨z, c', hz, hc', e⟩ := scores_le R B p h d x s ⟨s.val, by omega⟩ (by simp only; omega) (by simp only; omega)
      rw [if_pos hs, hz]
      exact EReal.coe_ne_top _
    · rw [if_neg hs, Soft.bits_bot]
      exact bot_ne_top
  · unfold scd
    rw [if_pos le_rfl, hz0]
    exact EReal.coe_ne_bot _

/-- The second block of queries sees its own keys and those of the block before. -/
theorem second (R : Reals X0 X1) (B : Holds X0 X1 K Q V C b p) (hp : p.val = 1) (h : Fin 8) (d : Fin 64) (x : Fin 1024) :
    Ideal.div (Soft.stepA (Soft.stepM ⊥ (scd K Q C p h x)) (Soft.stepA ⊥ 0 (scd K Q C p h x) (fun s => V (ix2 ⟨h.val * 64 + d.val, by omega⟩ ⟨p.val * 1024 + s.val, by omega⟩)))
          (sc K Q C 0 h x) (fun s => V (ix2 ⟨h.val * 64 + d.val, by omega⟩ ⟨s.val, by omega⟩)))
        (Soft.stepL (Soft.stepM ⊥ (scd K Q C p h x)) (Soft.stepL ⊥ 0 (scd K Q C p h x)) (sc K Q C 0 h x))
      = Cert.FoxPRefIdeal.Term.out X0 X1 (row b p x) (col h d) := by
  obtain ⟨z0, c, hz0, hc, -⟩ := scores_le R B p h d x x ⟨p.val * 1024 + x.val, by omega⟩ rfl le_rfl
  rw [weighed_at]
  refine Soft.two_blocks _ _ _ _ _ _ c ?_ ?_ ?_ ?_ ?_ ?_ x ?_
  · intro s
    obtain ⟨z, c', hz, hc', e⟩ := scores_le R B 0 h d x s ⟨s.val, by omega⟩ (by simp) (by simp only; omega)
    rw [e, hz, ← hc, hc']
  · intro s
    unfold scd
    by_cases hs : s.val ≤ x.val
    · obtain ⟨z, c', hz, hc', e⟩ := scores_le R B p h d x s ⟨1024 + s.val, by omega⟩ (by simp only; omega) (by simp only; omega)
      rw [if_pos hs, e, hz, ← hc, hc']
    · rw [if_neg hs, scores_gt h d x _ (by simp only; omega), Soft.bits_bot, EReal.bot_add]
  · intro s
    rw [B.v]
  · intro s
    rw [B.v]
    exact congrArg X0 (by congr 1; exact Fin.ext (by simp only; omega))
  · intro s
    unfold scd
    by_cases hs : s.val ≤ x.val
    · obtain ⟨z, c', hz, hc', e⟩ := scores_le R B p h d x s ⟨1024 + s.val, by omega⟩ (by simp only; omega) (by simp only; omega)
      rw [if_pos hs, hz]
      exact EReal.coe_ne_top _
    · rw [if_neg hs, Soft.bits_bot]
      exact bot_ne_top
  · intro s
    obtain ⟨z, c', hz, hc', e⟩ := scores_le R B 0 h d x s ⟨s.val, by omega⟩ (by simp) (by simp only; omega)
    rw [hz]
    exact EReal.coe_ne_top _
  · unfold scd
    rw [if_pos le_rfl, hz0]
    exact EReal.coe_ne_bot _

end Cert.FoxPIdeal.Val

end
-- ==== Proof.FoxPValue.lean ====
/- The forgetting attention of the prompt rows: the kernel's array is the reference's where the queries, the keys and the
decays are reals. -/
module

public import proofs.«01_k».proof.Proof.Gen.FoxPIdeal.Value
public import proofs.«01_k».proof.Proof.FoxPFin
public import proofs.«01_k».proof.Proof.FoxPOutA
public import proofs.«01_k».proof.Proof.FoxPOutB
public import proofs.«01_k».proof.Proof.FoxPScore
public import Idealize.ShloMosaic.Lib.Pipeline.ValueKit
public import Idealize.ShloMosaic.Lib.Pointwise

@[expose] public section

set_option maxRecDepth 16384

noncomputable section

namespace Cert.FoxPIdeal.Val

open Cert.FoxPIdeal Cert.FoxPIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 4] ∧ win0_1.index t = ![t.val / 2, 5] ∧ win0_2.index t = ![t.val / 2, 6]
    ∧ win0_3.index t = ![t.val / 2, 0] ∧ win0_4.index t = ![t.val, 0] :=
  (by decide +kernel : ∀ t : Fin grid0.N, _)

/-- Which block of the queries of a sequence a grid point is. -/
theorem part : ∀ t : Fin cfg0.N, (grid0.coords t 1).val = t.val % 2 :=
  (by decide +kernel : ∀ t : Fin grid0.N, _)

theorem block_q (c : Dev nD) (t : Fin cfg0.N) (x : Fin 1024) (j : Fin 512) (ht : t.val < 16) :
    iblk m c 0 t (ix2 x j) = m ((c : Thread nD τ).loc main_arg0) (ix2 ⟨t.val * 1024 + x.val, by omega⟩ ⟨2048 + j.val, by omega⟩) := by
  blk_ext! [iblk, V, idx t]

theorem block_c (c : Dev nD) (t : Fin cfg0.N) (s : Fin 2048) (j : Fin 128) (ht : t.val < 16) :
    iblk m c 3 t (ix2 s j) = m ((c : Thread nD τ).loc main_arg1) (ix2 ⟨t.val / 2 * 2048 + s.val, by omega⟩ j) := by
  blk_ext! [iblk, V, idx t]

theorem block_k (c : Dev nD) (t : Fin cfg0.N) (s : Fin 2048) (j : Fin 512) (ht : t.val < 16) :
    X0_1 m c t (ix2 s j) = m ((c : Thread nD τ).loc main_arg0) (ix2 ⟨t.val / 2 * 2048 + s.val, by omega⟩ ⟨2560 + j.val, by omega⟩) := by
  unfold X0_1 Pipeline.Window.fill
  rw [dif_pos (moved0_1 t _)]
  blk_ext! [iblk, V, idx t]

theorem block_v (c : Dev nD) (t : Fin cfg0.N) (s : Fin 2048) (j : Fin 512) (ht : t.val < 16) :
    X0_2 m c t (ix2 s j) = m ((c : Thread nD τ).loc main_arg0) (ix2 ⟨t.val / 2 * 2048 + s.val, by omega⟩ ⟨3072 + j.val, by omega⟩) := by
  unfold X0_2 Pipeline.Window.fill
  rw [dif_pos (moved0_2 t _)]
  blk_ext! [iblk, V, idx t]

/-- An index of a block of the output, in its head. -/
theorem place (t : Fin cfg0.N) (ht : t.val < 16) (y : S1024x512.Idx) : ∃ (h : Fin 8) (d : Fin 64) (x : Fin 1024),
    y = ix2 x ⟨h.val * 64 + d.val, by omega⟩ := by
  have h0 : (y 0 : ℕ) < 1024 := (y 0).isLt
  have h1 : (y 1 : ℕ) < 512 := (y 1).isLt
  refine ⟨⟨(y 1 : ℕ) / 64, by omega⟩, ⟨(y 1 : ℕ) % 64, by omega⟩, y 0, ?_⟩
  refine (ValueIdx.eq_ix2 (n0 := 1024) (n1 := 512) y).trans ?_
  congr 1
  exact Fin.ext (by simp only; omega)

/-- What a grid point of a first block of queries leaves in the output. -/
theorem point_A (R : ∀ c : Dev nD, Reals (m ((c : Thread nD τ).loc main_arg0)) (m ((c : Thread nD τ).loc main_arg1))) (c : Dev nD) (t : Fin cfg0.N) (ht : t.val < 16) (h0 : t.val % 2 = 0)
    (h : Fin 8) (d : Fin 64) (x : Fin 1024) :
    (outsAt0 m c t.val t.isLt).1 (ix2 x ⟨h.val * 64 + d.val, by omega⟩)
      = Cert.FoxPRefIdeal.Term.out (m ((c : Thread nD τ).loc main_arg0)) (m ((c : Thread nD τ).loc main_arg1)) ⟨t.val * 1024 + x.val, by omega⟩ ⟨h.val * 64 + d.val, by omega⟩ := by
  have hp : (grid0.coords t 1).val = 0 := (part t).trans h0
  rw [outsAt0_A m c t h0]
  dsimp only
  refine (CaseA.out _ _ _ _ _ _ _ _ _ _ _ _ _ _ _ _ _ _ _ _ _ _ _ _ _ _ _ _ _ _ _ _ rfl rfl rfl hp h d x).trans ?_
  refine (first (b := ⟨t.val / 2, by omega⟩) (p := grid0.coords t 1) (R c) ⟨?_, ?_, ?_, ?_⟩ hp h d x).trans ?_
  · intro s j
    exact (CaseA.keysA _ _ _ _ s j).trans (block_k m c t s j ht)
  · intro s j
    exact (CaseA.valuesA _ _ _ _ s j).trans (block_v m c t s j ht)
  · intro x j
    refine (CaseA.turnedQ _ _ _ _ j x).trans ?_
    refine congrArg (· * Ideal.ofBits .f32 1040187392#32) ?_
    refine (block_q m c t x j ht).trans (congrArg (m ((c : Thread nD τ).loc main_arg0)) ?_)
    congr 1
    exact Fin.ext (by simp only; omega)
  · intro s j
    exact block_c m c t s j ht
  · congr 1
    exact Fin.ext (by simp only; omega)

/-- What a grid point of a second block leaves there. -/
theorem point_B (R : ∀ c : Dev nD, Reals (m ((c : Thread nD τ).loc main_arg0)) (m ((c : Thread nD τ).loc main_arg1))) (c : Dev nD) (t : Fin cfg0.N) (ht : t.val < 16) (h0 : ¬t.val % 2 = 0)
    (h : Fin 8) (d : Fin 64) (x : Fin 1024) :
    (outsAt0 m c t.val t.isLt).1 (ix2 x ⟨h.val * 64 + d.val, by omega⟩)
      = Cert.FoxPRefIdeal.Term.out (m ((c : Thread nD τ).loc main_arg0)) (m ((c : Thread nD τ).loc main_arg1)) ⟨t.val * 1024 + x.val, by omega⟩ ⟨h.val * 64 + d.val, by omega⟩ := by
  have hp : (grid0.coords t 1).val = 1 := (part t).trans (by omega)
  have h1 : (t.val - 1) % 2 = 0 := by omega
  have h2 : (t.val - 1) / 2 = t.val / 2 := by omega
  have hlt : t.val - 1 < cfg0.N := Nat.lt_of_le_of_lt (Nat.sub_le _ _) t.isLt
  have hK : ∀ (s : Fin 2048) (j : Fin 512), (outsAt0 m c (t.val - 1) hlt).2.1 (ix2 s j)
      = m ((c : Thread nD τ).loc main_arg0) (ix2 ⟨t.val / 2 * 2048 + s.val, by omega⟩ ⟨2560 + j.val, by omega⟩) := by
    intro s j
    rw [outsAt0_A m c ⟨t.val - 1, hlt⟩ h1]
    dsimp only
    rw [CaseA.sout0]
    refine (CaseA.keysA _ _ _ _ s j).trans ((block_k m c ⟨t.val - 1, hlt⟩ s j (by simp only; omega)).trans ?_)
    simp only [h2]
  have hV : ∀ (s : Fin 2048) (j : Fin 512), (outsAt0 m c (t.val - 1) hlt).2.2 (ix2 j s)
      = m ((c : Thread nD τ).loc main_arg0) (ix2 ⟨t.val / 2 * 2048 + s.val, by omega⟩ ⟨3072 + j.val, by omega⟩) := by
    intro s j
    rw [outsAt0_A m c ⟨t.val - 1, hlt⟩ h1]
    dsimp only
    rw [CaseA.sout1]
    refine (CaseA.valuesA _ _ _ _ s j).trans ((block_v m c ⟨t.val - 1, hlt⟩ s j (by simp only; omega)).trans ?_)
    simp only [h2]
  rw [outsAt0_B m c t h0]
  dsimp only
  refine (CaseB.out _ _ _ _ _ _ _ _ _ _ _ _ _ _ _ _ _ _ _ _ _ _ _ _ _ _ _ _ _ _ _ _ _ _ rfl rfl rfl hp h d x).trans ?_
  refine (second (b := ⟨t.val / 2, by omega⟩) (p := grid0.coords t 1) (R c) ⟨?_, ?_, ?_, ?_⟩ hp h d x).trans ?_
  · exact hK
  · exact hV
  · intro x j
    refine (CaseB.turnedQ _ _ _ _ j x).trans ?_
    refine congrArg (· * Ideal.ofBits .f32 1040187392#32) ?_
    refine (block_q m c t x j ht).trans (congrArg (m ((c : Thread nD τ).loc main_arg0)) ?_)
    congr 1
    exact Fin.ext (by simp only; omega)
  · intro s j
    exact block_c m c t s j ht
  · congr 1
    exact Fin.ext (by simp only; omega)

/-- The array after the run is the reference's. -/
theorem final (hpre : Cert.Pre_FoxPIdeal_finite m) (c : Dev nD) : (dats m 0 c).arrAt 4 (cfgs 0).N = Cert.FoxPRefIdeal.Term.ref (m ((c : Thread nD τ).loc main_arg0)) (m ((c : Thread nD τ).loc main_arg1)) := by
  have R : ∀ c : Dev nD, Reals (m ((c : Thread nD τ).loc main_arg0)) (m ((c : Thread nD τ).loc main_arg1)) := fun c => ⟨(reals _ _ (hpre c)).1, (reals _ _ (hpre c)).2⟩
  refine (dats m 0 c).arrAt_eq_of_covers 4 _ (by decide +kernel) fun t _ y => ?_
  have ht : t.val < 16 := lt_of_lt_of_eq t.isLt N_0
  blk_simp
  rw [after0_4]
  refine Eq.trans ?_ (Cert.FoxPRefIdeal.Term.ref_idx _ _ _).symm
  obtain ⟨h, d, x, rfl⟩ := place t ht y
  have e : (outsAt0 m c t.val t.isLt).1 (ix2 x ⟨h.val * 64 + d.val, by omega⟩)
      = Cert.FoxPRefIdeal.Term.out (m ((c : Thread nD τ).loc main_arg0)) (m ((c : Thread nD τ).loc main_arg1)) ⟨t.val * 1024 + x.val, by omega⟩ ⟨h.val * 64 + d.val, by omega⟩ := by
    by_cases h0 : t.val % 2 = 0
    · exact point_A m R c t ht h0 h d x
    · exact point_B m R c t ht h0 h d x
  refine e.trans (congrArg₂ (Cert.FoxPRefIdeal.Term.out (m ((c : Thread nD τ).loc main_arg0)) (m ((c : Thread nD τ).loc main_arg1))) (Fin.ext ?_) (Fin.ext ?_))
  · blk_simp [idx t]
  · blk_simp [idx t]

end Cert.FoxPIdeal.Val

end
-- ==== Proof.FfnRef.lean ====
/- The reference of the feed-forward layer, as one term of its argument arrays. -/
module

public import proofs.«01_k».proof.Proof.Gen.FfnRefIdeal.Run
public import Idealize.ShloMosaic.Lib.Pointwise

@[expose] public section

set_option maxRecDepth 16384

noncomputable section

namespace Cert.FfnRefIdeal.Term

open Cert.FfnRefIdeal Cert.FfnRefIdeal.Gen Idealize.ShloMosaic Idealize.ShloMosaic.TcCoe Idealize.SL.Sem

/-- What the reference returns, over its argument arrays. -/
def ref (X0 : FVec Ideal S17408x1024 .f32) (X1 : FVec Ideal S4x1024 .f32) (X2 : FVec Ideal S4x1024x5632 .f32) (X3 : FVec Ideal S4x2816x1024 .f32) : FVec Ideal S17408x1024 .f32 :=
  have t1 := Host.dotGeneral dot_S17408x1024_S1024x5632_S17408x5632_1_0_0_1_n_n none (mulf (mulf X0 (broadcastInDim S17408x1024 ![0, 1] bcast_S17408x1_S17408x1024_0_1 (Host.rsqrt (addf (Host.divf (broadcastInDim S17408x1 ![0] bcast_S17408_S17408x1_0 (Host.reduceAdd (mulf X0 X0) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 (shapeCast _ (extractStridedSlice S1x1024 ![1, 0] X1 slices_S4x1024_S1x1024_1_0) shapeCasts_S1x1024_S1024)))) (shapeCast _ (extractStridedSlice S1x1024x5632 ![1, 0, 0] X2 slices_S4x1024x5632_S1x1024x5632_1_0_0) shapeCasts_S1x1024x5632_S1024x5632)
  have t2 := extractStridedSlice S17408x2816 ![0, 0] t1 slices_S17408x5632_S17408x2816_0_0
  have t3 := broadcastInDim S17408x2816 ![] bcast_S_S17408x2816 (constant S_ .f32 0x3F800000#32)
  addf X0 (Host.dotGeneral dot_S17408x2816_S2816x1024_S17408x1024_1_0_0_1_n_n none (mulf (mulf t2 (Host.divf t3 (addf t3 (Host.exp (Host.negf t2))))) (extractStridedSlice S17408x2816 ![0, 2816] t1 slices_S17408x5632_S17408x2816_0_2816)) (shapeCast _ (extractStridedSlice S1x2816x1024 ![1, 0, 0] X3 slices_S4x2816x1024_S1x2816x1024_1_0_0) shapeCasts_S1x2816x1024_S2816x1024))

end Cert.FfnRefIdeal.Term

end
-- ==== Proof.FfnRefAt.lean ====
/- The reference of the feed-forward layer, read at an index, its inner sum in eleven blocks. -/
module

public import proofs.«01_k».proof.Proof.FfnRef
public import Idealize.ShloMosaic.Lib.Pipeline.ValueKit
public import Idealize.ShloMosaic.Lib.Pointwise

@[expose] public section

set_option maxRecDepth 16384

noncomputable section

namespace Cert.FfnRefIdeal.Term

open Cert.FfnRefIdeal Cert.FfnRefIdeal.Gen Idealize.ShloMosaic Idealize.ShloMosaic.TcCoe Idealize.SL.Sem

/-- The normalised row times a column of the weights. -/
def up (h g w : Fin 1024 → EReal) : EReal :=
  ∑ k, h k * Ideal.rsqrt (Ideal.div (∑ i, h i * h i) (Ideal.ofBits .f32 1149239296#32)
    + Ideal.ofBits .f32 897988541#32) * g k * w k

/-- One hidden unit: the gated product of its two columns. -/
def hid (h g a b : Fin 1024 → EReal) : EReal := up h g a * Ideal.logistic (up h g a) * up h g b

/-- A sum over the hidden units is taken in eleven blocks of 256. -/
theorem tiles (z : EReal) (f : Fin 2816 → EReal) : z + ∑ k, f k = z
      + ∑ t : Fin 256, f ⟨t.val, by omega⟩
      + ∑ t : Fin 256, f ⟨256 + t.val, by omega⟩
      + ∑ t : Fin 256, f ⟨512 + t.val, by omega⟩
      + ∑ t : Fin 256, f ⟨768 + t.val, by omega⟩
      + ∑ t : Fin 256, f ⟨1024 + t.val, by omega⟩
      + ∑ t : Fin 256, f ⟨1280 + t.val, by omega⟩
      + ∑ t : Fin 256, f ⟨1536 + t.val, by omega⟩
      + ∑ t : Fin 256, f ⟨1792 + t.val, by omega⟩
      + ∑ t : Fin 256, f ⟨2048 + t.val, by omega⟩
      + ∑ t : Fin 256, f ⟨2304 + t.val, by omega⟩
      + ∑ t : Fin 256, f ⟨2560 + t.val, by omega⟩ := by
  rw [Fin.sum_univ_tiles 11 256 rfl f]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Fin.sum_univ_zero, zero_add, add_assoc]
  simp [Fin.val_castSucc]

/-- The layer at a row and a column. -/
def out (X0 : FVec Ideal S17408x1024 .f32) (X1 : FVec Ideal S4x1024 .f32) (X2 : FVec Ideal S4x1024x5632 .f32) (X3 : FVec Ideal S4x2816x1024 .f32) (r : Fin 17408) (j : Fin 1024) : EReal :=
  X0 (ix2 r j) + ∑ f : Fin 2816, hid (fun k => X0 (ix2 r k)) (fun k => X1 (ix2 1 k))
      (fun k => X2 (ix3 1 k ⟨f.val, by omega⟩)) (fun k => X2 (ix3 1 k ⟨2816 + f.val, by omega⟩)) * X3 (ix3 1 f j)

/-- The reference at a row and a column. -/
theorem ref_at (X0 : FVec Ideal S17408x1024 .f32) (X1 : FVec Ideal S4x1024 .f32) (X2 : FVec Ideal S4x1024x5632 .f32) (X3 : FVec Ideal S4x2816x1024 .f32) (r : Fin 17408) (j : Fin 1024) : ref X0 X1 X2 X3 (ix2 r j) = out X0 X1 X2 X3 r j := by
  pointwise [ref]
  simp only [out, hid, up, Ideal.logistic, Nat.zero_add]

/-- The reference at an index. -/
theorem ref_idx (X0 : FVec Ideal S17408x1024 .f32) (X1 : FVec Ideal S4x1024 .f32) (X2 : FVec Ideal S4x1024x5632 .f32) (X3 : FVec Ideal S4x2816x1024 .f32) (i : S17408x1024.Idx) : ref X0 X1 X2 X3 i = out X0 X1 X2 X3 (i 0) (i 1) :=
  (congrArg (ref X0 X1 X2 X3) (ValueIdx.eq_ix2 (n0 := 17408) (n1 := 1024) i)).trans (ref_at X0 X1 X2 X3 (i 0) (i 1))

end Cert.FfnRefIdeal.Term

end
-- ==== Proof.FfnValue.lean ====
/- The feed-forward layer: the kernel's array is the reference's. -/
module

public import proofs.«01_k».proof.Proof.Gen.FfnIdeal.Value
public import proofs.«01_k».proof.Proof.FfnRefAt
public import Idealize.ShloMosaic.Lib.Pipeline.ValueKit
public import Idealize.ShloMosaic.Lib.Pointwise

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 0] ∧ win0_1.index t = ![1, 0, 0] ∧ win0_2.index t = ![1, 0, 0] ∧ win0_3.index t = ![1, 0, 0] ∧ win0_4.index t = ![t.val, 0] :=
  (by decide +kernel : ∀ t : Fin grid0.N, _)

set_option maxHeartbeats 1000000 in
/-- The array after the run is the reference's. -/
theorem final (c : Dev nD) : (dats m 0 c).arrAt 4 (cfgs 0).N
    = Cert.FfnRefIdeal.Term.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  have ht : t.val < 34 := lt_of_lt_of_eq t.isLt N_0
  have hy0 : (y 0 : ℕ) < 512 := (y 0).isLt
  pointwise [k0_pay1, k0_pay2, k0_pay3, k0_pay4, k0_pay5, k0_pay6, k0_pay7, k0_pay8, k0_pay9, k0_pay10, k0_pay11, k0_pay12, k0_pay13, k0_pay14, k0_pay15]
  refine Eq.trans ?_ (Cert.FfnRefIdeal.Term.ref_idx _ _ _ _ _).symm
  refine Eq.trans ?_ (Cert.FfnRefIdeal.Term.tiles _ _).symm
  simp only [Cert.FfnRefIdeal.Term.hid, Cert.FfnRefIdeal.Term.up, ← Nat.add_assoc, Nat.reduceAdd]
  have e0 : ∀ k : Fin 1024, iblk m c 0 t (ix2 (y 0) k) = m ((c : Thread nD τ).loc main_arg0) (ix2 ((((View.whole main_v3).slice (win0_4.rect t)).emb y 0 : Fin 17408)) k) := by
    intro k; blk_ext! [iblk, V, idx t]
  have e0' : iblk m c 0 t y = m ((c : Thread nD τ).loc main_arg0) (ix2 ((((View.whole main_v3).slice (win0_4.rect t)).emb y 0 : Fin 17408)) ((((View.whole main_v3).slice (win0_4.rect t)).emb y 1 : Fin 1024))) := by
    blk_ext! [iblk, V, idx t]
  have e1 : ∀ k : Fin 1024, iblk m c 1 t (ix3 0 0 k) = m ((c : Thread nD τ).loc main_arg1) (ix2 1 k) := by
    intro k; blk_ext! [iblk, V, idx t]
  have e2 : ∀ (k : Fin 1024) (f : Fin 5632), iblk m c 2 t (ix3 0 k f) = m ((c : Thread nD τ).loc main_arg2) (ix3 1 k f) := by
    intro k f; blk_ext! [iblk, V, idx t]
  have e3 : ∀ (f : Fin 2816), iblk m c 3 t (ix3 0 f (y 1)) = m ((c : Thread nD τ).loc main_arg3) (ix3 1 f ((((View.whole main_v3).slice (win0_4.rect t)).emb y 1 : Fin 1024))) := by
    intro f; blk_ext! [iblk, V, idx t]
  simp only [e0, e1, e2, e3]
  rw [e0']

end Cert.FfnIdeal.Val

end
-- ==== Proof.MergeRef.lean ====
/- The reference of the merge of the four branches, as one term of its argument arrays. -/
module

public import proofs.«01_k».proof.Proof.Gen.MergeRefIdeal.Run
public import Idealize.ShloMosaic.Lib.Pointwise

@[expose] public section

set_option maxRecDepth 16384

noncomputable section

namespace Cert.MergeRefIdeal.Term

open Cert.MergeRefIdeal Cert.MergeRefIdeal.Gen Idealize.ShloMosaic Idealize.ShloMosaic.TcCoe Idealize.SL.Sem

/-- What the reference returns, over its argument arrays. -/
def ref (X0 : FVec Ideal S17408x1024 .f32) (X1 : FVec Ideal S4x1024 .f32) (X2 : FVec Ideal S16384x512 .bf16) (X3 : FVec Ideal S16384x512 .bf16) (X4 : FVec Ideal S16384x512 .bf16) (X5 : FVec Ideal S16384x512 .bf16) (X6 : FVec Ideal S1024x512 .f32) (X7 : FVec Ideal S1024x512 .f32) (X8 : FVec Ideal S1024x512 .f32) (X9 : FVec Ideal S1024x512 .f32) (X10 : FVec Ideal S4x1024x4096 .bf16) (X11 : FVec Ideal S4x4x1024 .f32) (X12 : FVec Ideal S4x4x512x1024 .f32) (X13 : FVec Ideal S4x1024x1024 .f32) : FVec Ideal S17408x1024 .f32 :=
  have t1 := broadcastInDim S17408x4x1024 ![] bcast_S_S17408x4x1024 (constant S_ .f32 0x3F800000#32)
  addf X0 (Host.dotGeneral dot_S17408x1024_S1024x1024_S17408x1024_1_0_0_1_n_n none (Host.reduceAdd (mulf (Host.divf t1 (addf t1 (Host.exp (Host.negf (addf (shapeCast _ (Host.dotGeneral dot_S17408x1024_S1024x4096_S17408x4096_1_0_0_1_n_n none (mulf (mulf X0 (broadcastInDim S17408x1024 ![0, 1] bcast_S17408x1_S17408x1024_0_1 (Host.rsqrt (addf (Host.divf (broadcastInDim S17408x1 ![0] bcast_S17408_S17408x1_0 (Host.reduceAdd (mulf X0 X0) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 (shapeCast _ (extractStridedSlice S1x1024 ![1, 0] X1 slices_S4x1024_S1x1024_1_0) shapeCasts_S1x1024_S1024)))) (extf .f32 (shapeCast _ (extractStridedSlice S1x1024x4096 ![1, 0, 0] X10 slices_S4x1024x4096_S1x1024x4096_1_0_0) shapeCasts_S1x1024x4096_S1024x4096) bitsLt_bf16_f32)) shapeCasts_S17408x4096_S17408x4x1024) (broadcastInDim S17408x4x1024 ![0, 1, 2] bcast_S1x4x1024_S17408x4x1024_0_1_2 (broadcastInDim S1x4x1024 ![1, 2] bcast_S4x1024_S1x4x1024_1_2 (shapeCast _ (extractStridedSlice S1x4x1024 ![1, 0, 0] X11 slices_S4x4x1024_S1x4x1024_1_0_0) shapeCasts_S1x4x1024_S4x1024)))))))) (transpose S17408x4x1024 [2, 0, 1] (Host.dotGeneral (φ₂ := .f32) dot_S4x512x1024_S17408x4x512_S4x1024x17408_1_2_2_0_0_1 none (shapeCast _ (extractStridedSlice S1x4x512x1024 ![1, 0, 0, 0] X12 slices_S4x4x512x1024_S1x4x512x1024_1_0_0_0) shapeCasts_S1x4x512x1024_S4x512x1024) ((concatenate S17408x4x512 1 [⟨S17408x1x512, ((broadcastInDim S17408x1x512 ![0, 2] bcast_S17408x512_S17408x1x512_0_2 (concatenate S17408x512 0 [⟨S16384x512, (extf .f32 X2 bitsLt_bf16_f32)⟩, ⟨S1024x512, X6⟩] concatenates_S16384x512_S1024x512_S17408x512_d0)) : (⟨S17408x1x512, .f32⟩ : BufTy).Contents (Elt Ideal))⟩, ⟨S17408x1x512, ((broadcastInDim S17408x1x512 ![0, 2] bcast_S17408x512_S17408x1x512_0_2 (concatenate S17408x512 0 [⟨S16384x512, (extf .f32 X3 bitsLt_bf16_f32)⟩, ⟨S1024x512, X7⟩] concatenates_S16384x512_S1024x512_S17408x512_d0)) : (⟨S17408x1x512, .f32⟩ : BufTy).Contents (Elt Ideal))⟩, ⟨S17408x1x512, ((broadcastInDim S17408x1x512 ![0, 2] bcast_S17408x512_S17408x1x512_0_2 (concatenate S17408x512 0 [⟨S16384x512, (extf .f32 X4 bitsLt_bf16_f32)⟩, ⟨S1024x512, X8⟩] concatenates_S16384x512_S1024x512_S17408x512_d0)) : (⟨S17408x1x512, .f32⟩ : BufTy).Contents (Elt Ideal))⟩, ⟨S17408x1x512, ((broadcastInDim S17408x1x512 ![0, 2] bcast_S17408x512_S17408x1x512_0_2 (concatenate S17408x512 0 [⟨S16384x512, (extf .f32 X5 bitsLt_bf16_f32)⟩, ⟨S1024x512, X9⟩] concatenates_S16384x512_S1024x512_S17408x512_d0)) : (⟨S17408x1x512, .f32⟩ : BufTy).Contents (Elt Ideal))⟩] concatenates_S17408x1x512_S17408x1x512_S17408x1x512_S17408x1x512_S17408x4x512_d1 : (⟨S17408x4x512, .f32⟩ : BufTy).Contents (Elt Ideal)))) transposes_S4x1024x17408_S17408x4x1024_2_0_1)) (constant S_ .f32 0x00000000#32) reducesTo_S17408x4x1024_S17408x1024_d1 h_S_) (shapeCast _ (extractStridedSlice S1x1024x1024 ![1, 0, 0] X13 slices_S4x1024x1024_S1x1024x1024_1_0_0) shapeCasts_S1x1024x1024_S1024x1024))

end Cert.MergeRefIdeal.Term

end
-- ==== Proof.MergeRefAt.lean ====
/- The reference of the branch merge, read at an index. -/
module

public import proofs.«01_k».proof.Proof.MergeRef
public import Idealize.ShloMosaic.Lib.Pipeline.ValueKit
public import Idealize.ShloMosaic.Lib.Pointwise

@[expose] public section

set_option maxRecDepth 16384

noncomputable section

namespace Cert.MergeRefIdeal.Term

open Cert.MergeRefIdeal Cert.MergeRefIdeal.Gen Idealize.ShloMosaic Idealize.ShloMosaic.TcCoe Idealize.SL.Sem

/-- The gate of one branch: the logistic of the normalised row times a column of the weights, plus the bias. -/
def gate (h g w : Fin 1024 → EReal) (b : EReal) : EReal :=
  Ideal.logistic ((∑ k, h k * Ideal.rsqrt (Ideal.div (∑ i, h i * h i) (Ideal.ofBits .f32 1149239296#32)
    + Ideal.ofBits .f32 897988541#32) * g k * w k) + b)

/-- A branch's output row projected on one column. -/
def proj (y w : Fin 512 → EReal) : EReal := ∑ e, y e * w e

theorem proj_comm (y w : Fin 512 → EReal) : proj y w = ∑ e, w e * y e :=
  Finset.sum_congr rfl fun _ _ => mul_comm _ _

/-- The gated projection of one branch. -/
def branch (h g w : Fin 1024 → EReal) (b : EReal) (y v : Fin 512 → EReal) : EReal := gate h g w b * proj y v

/-- The merge at a row and a column: the four gated projections, summed, times the output weights, onto the input. -/
def out (X0 : FVec Ideal S17408x1024 .f32) (X1 : FVec Ideal S4x1024 .f32)
    (X2 X3 X4 X5 : FVec Ideal S16384x512 .bf16) (X6 X7 X8 X9 : FVec Ideal S1024x512 .f32)
    (X10 : FVec Ideal S4x1024x4096 .bf16) (X11 : FVec Ideal S4x4x1024 .f32) (X12 : FVec Ideal S4x4x512x1024 .f32)
    (X13 : FVec Ideal S4x1024x1024 .f32) (r : Fin 17408) (j : Fin 1024) : EReal :=
  X0 (ix2 r j) + ∑ x : Fin 1024,
      (branch (fun k => X0 (ix2 r k)) (fun k => X1 (ix2 1 k)) (fun k => X10 (ix3 1 k ⟨0 + x.val, by omega⟩))
          (X11 (ix3 1 0 x)) (fun e => if h : r.val < 16384 then X2 (ix2 ⟨r.val, h⟩ e) else X6 (ix2 ⟨r.val - 16384, by omega⟩ e))
          (fun e => X12 (ix4 1 0 e x))
        + branch (fun k => X0 (ix2 r k)) (fun k => X1 (ix2 1 k)) (fun k => X10 (ix3 1 k ⟨1024 + x.val, by omega⟩))
          (X11 (ix3 1 1 x)) (fun e => if h : r.val < 16384 then X3 (ix2 ⟨r.val, h⟩ e) else X7 (ix2 ⟨r.val - 16384, by omega⟩ e))
          (fun e => X12 (ix4 1 1 e x))
        + branch (fun k => X0 (ix2 r k)) (fun k => X1 (ix2 1 k)) (fun k => X10 (ix3 1 k ⟨2048 + x.val, by omega⟩))
          (X11 (ix3 1 2 x)) (fun e => if h : r.val < 16384 then X4 (ix2 ⟨r.val, h⟩ e) else X8 (ix2 ⟨r.val - 16384, by omega⟩ e))
          (fun e => X12 (ix4 1 2 e x))
        + branch (fun k => X0 (ix2 r k)) (fun k => X1 (ix2 1 k)) (fun k => X10 (ix3 1 k ⟨3072 + x.val, by omega⟩))
          (X11 (ix3 1 3 x)) (fun e => if h : r.val < 16384 then X5 (ix2 ⟨r.val, h⟩ e) else X9 (ix2 ⟨r.val - 16384, by omega⟩ e))
          (fun e => X12 (ix4 1 3 e x))) * X13 (ix3 1 x j)

/-- The reference at a row and a column. -/
theorem ref_at (X0 : FVec Ideal S17408x1024 .f32) (X1 : FVec Ideal S4x1024 .f32)
    (X2 X3 X4 X5 : FVec Ideal S16384x512 .bf16) (X6 X7 X8 X9 : FVec Ideal S1024x512 .f32)
    (X10 : FVec Ideal S4x1024x4096 .bf16) (X11 : FVec Ideal S4x4x1024 .f32) (X12 : FVec Ideal S4x4x512x1024 .f32)
    (X13 : FVec Ideal S4x1024x1024 .f32) (r : Fin 17408) (j : Fin 1024) : ref X0 X1 X2 X3 X4 X5 X6 X7 X8 X9 X10 X11 X12 X13 (ix2 r j) = out X0 X1 X2 X3 X4 X5 X6 X7 X8 X9 X10 X11 X12 X13 r j := by
  pointwise [ref, Fin.sum_univ_four]
  simp only [out, branch, gate, proj_comm, Ideal.logistic, Nat.zero_add]

/-- The reference at an index. -/
theorem ref_idx (X0 : FVec Ideal S17408x1024 .f32) (X1 : FVec Ideal S4x1024 .f32)
    (X2 X3 X4 X5 : FVec Ideal S16384x512 .bf16) (X6 X7 X8 X9 : FVec Ideal S1024x512 .f32)
    (X10 : FVec Ideal S4x1024x4096 .bf16) (X11 : FVec Ideal S4x4x1024 .f32) (X12 : FVec Ideal S4x4x512x1024 .f32)
    (X13 : FVec Ideal S4x1024x1024 .f32) (i : S17408x1024.Idx) : ref X0 X1 X2 X3 X4 X5 X6 X7 X8 X9 X10 X11 X12 X13 i = out X0 X1 X2 X3 X4 X5 X6 X7 X8 X9 X10 X11 X12 X13 (i 0) (i 1) :=
  (congrArg (ref X0 X1 X2 X3 X4 X5 X6 X7 X8 X9 X10 X11 X12 X13) (ValueIdx.eq_ix2 (n0 := 17408) (n1 := 1024) i)).trans (ref_at X0 X1 X2 X3 X4 X5 X6 X7 X8 X9 X10 X11 X12 X13 (i 0) (i 1))

end Cert.MergeRefIdeal.Term

end
-- ==== Proof.MergeValue.lean ====
/- The merge of the four branches: the kernel's array is the reference's. -/
module

public import proofs.«01_k».proof.Proof.Gen.MergeIdeal.Value
public import proofs.«01_k».proof.Proof.MergeRefAt
public import Idealize.ShloMosaic.Lib.Pipeline.ValueKit
public import Idealize.ShloMosaic.Lib.Pointwise

@[expose] public section

set_option maxRecDepth 16384

noncomputable section

namespace Cert.MergeIdeal.Val

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 0] ∧ win0_1.index t = ![1, 0, 0] ∧ win0_2.index t = ![min t.val 31, 0] ∧ win0_3.index t = ![min t.val 31, 0] ∧ win0_4.index t = ![min t.val 31, 0] ∧ win0_5.index t = ![min t.val 31, 0] ∧ win0_6.index t = ![t.val - 32, 0] ∧ win0_7.index t = ![t.val - 32, 0] ∧ win0_8.index t = ![t.val - 32, 0] ∧ win0_9.index t = ![t.val - 32, 0] ∧ win0_10.index t = ![1, 0, 0] ∧ win0_11.index t = ![1, 0, 0, 0] ∧ win0_12.index t = ![1, 0, 0, 0] ∧ win0_13.index t = ![1, 0, 0] ∧ win0_14.index t = ![t.val, 0] :=
  (by decide +kernel : ∀ t : Fin grid0.N, _)

/-- A selection on the condition 1. -/
theorem select_pos {α : Type} (a b : α) : Scalar.select 1 a b = a := rfl

/-- A selection on the condition 0. -/
theorem select_neg {α : Type} (a b : α) : Scalar.select 0 a b = b := rfl

/-- The prompt blocks are those of the first 32 grid points. -/
theorem sel : ∀ t : Fin cfg0.N,
    (t.val < 32 → Scalar.cmpi CmpIPredicate.slt (BitVec.ofNat 32 (grid0.coords t 0).val) 32#32 = 1)
    ∧ (¬ t.val < 32 → Scalar.cmpi CmpIPredicate.slt (BitVec.ofNat 32 (grid0.coords t 0).val) 32#32 = 0) :=
  (by decide +kernel : ∀ t : Fin grid0.N, _)

/-- The array after the run is the reference's. -/
theorem final (c : Dev nD) : (dats m 0 c).arrAt 14 (cfgs 0).N
    = Cert.MergeRefIdeal.Term.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  rw [after0_14]; frame_out
  have ht : t.val < 34 := lt_of_lt_of_eq t.isLt N_0
  have hy0 : (y 0 : ℕ) < 512 := (y 0).isLt
  pointwise [k0_pay1, k0_pay2, k0_pay3, k0_pay4, k0_pay5, k0_pay6]
  refine Eq.trans ?_ (Cert.MergeRefIdeal.Term.ref_idx _ _ _ _ _ _ _ _ _ _ _ _ _ _ _).symm
  simp only [Cert.MergeRefIdeal.Term.out, Cert.MergeRefIdeal.Term.branch, Cert.MergeRefIdeal.Term.gate, Cert.MergeRefIdeal.Term.proj]
  blk_simp [idx t]
  by_cases h : t.val < 32
  · simp only [(sel t).1 h, select_pos]
    have h' : t.val * 512 + (y 0 : ℕ) < 16384 := by omega
    simp only [dif_pos h']
    blk_point [iblk, V, idx t]
  · simp only [(sel t).2 h, select_neg]
    have h' : ¬ t.val * 512 + (y 0 : ℕ) < 16384 := by omega
    simp only [dif_neg h']
    blk_point [iblk, V, idx t]

end Cert.MergeIdeal.Val

end
-- ==== Proof.MixRef.lean ====
/- The reference of the combined input projection, as one term of its argument arrays. -/
module

public import proofs.«01_k».proof.Proof.Gen.MixRefIdeal.Run
public import Idealize.ShloMosaic.Lib.Pointwise

@[expose] public section

set_option maxRecDepth 16384

noncomputable section

namespace Cert.MixRefIdeal.Term

open Cert.MixRefIdeal Cert.MixRefIdeal.Gen Idealize.ShloMosaic Idealize.ShloMosaic.TcCoe Idealize.SL.Sem

/-- What the reference returns, over its argument arrays. -/
def ref (X0 : FVec Ideal S17408x1024 .f32) (X1 : FVec Ideal S4x1024 .f32) (X2 : FVec Ideal S4x1024x6144 .bf16) : FVec Ideal S17408x6144 .f32 :=
  Host.dotGeneral dot_S17408x1024_S1024x6144_S17408x6144_1_0_0_1_n_n none (mulf (mulf X0 (broadcastInDim S17408x1024 ![0, 1] bcast_S17408x1_S17408x1024_0_1 (Host.rsqrt (addf (Host.divf (broadcastInDim S17408x1 ![0] bcast_S17408_S17408x1_0 (Host.reduceAdd (mulf X0 X0) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 (shapeCast _ (extractStridedSlice S1x1024 ![1, 0] X1 slices_S4x1024_S1x1024_1_0) shapeCasts_S1x1024_S1024)))) (extf .f32 (shapeCast _ (extractStridedSlice S1x1024x6144 ![1, 0, 0] X2 slices_S4x1024x6144_S1x1024x6144_1_0_0) shapeCasts_S1x1024x6144_S1024x6144) bitsLt_bf16_f32)

end Cert.MixRefIdeal.Term

end
-- ==== Proof.MixValue.lean ====
/- The combined input projection: the kernel's array is the reference's. -/
module

public import proofs.«01_k».proof.Proof.Gen.MixIdeal.Value
public import proofs.«01_k».proof.Proof.MixRef
public import Idealize.ShloMosaic.Lib.Pipeline.ValueKit
public import Idealize.ShloMosaic.Lib.Pointwise

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 0] ∧ win0_1.index t = ![1, 0, 0]
    ∧ win0_2.index t = ![1, 0, 0] ∧ win0_3.index t = ![t.val, 0] :=
  (by decide +kernel : ∀ t : Fin grid0.N, _)

/-- What the body stores at an index of its block is the reference at that index of the array. -/
theorem point (c : Dev nD) (t : Fin cfg0.N) (y) :
    k0_pay1 (iblk m c 0 t) (iblk m c 1 t) (iblk m c 2 t) y
    = Cert.MixRefIdeal.Term.ref (m ((c : Thread nD τ).loc main_arg0)) (m ((c : Thread nD τ).loc main_arg1))
      (m ((c : Thread nD τ).loc main_arg2)) (((cfg0.win 3).blk t).view.emb y) := by
  pointwise [k0_pay1, Cert.MixRefIdeal.Term.ref]
  blk_point [iblk, V, idx t]

/-- The array after the run is the reference's. -/
theorem final (c : Dev nD) : (dats m 0 c).arrAt 3 (cfgs 0).N
    = Cert.MixRefIdeal.Term.ref (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]; frame_out
  exact point m c t y

end Cert.MixIdeal.Val

end
-- ==== Proof.XqRef.lean ====
/- The reference of the query projection of the cross-attention, as one term of its argument arrays. -/
module

public import proofs.«01_k».proof.Proof.Gen.XqRefIdeal.Run
public import Idealize.ShloMosaic.Lib.Pointwise

@[expose] public section

set_option maxRecDepth 16384

noncomputable section

namespace Cert.XqRefIdeal.Term

open Cert.XqRefIdeal Cert.XqRefIdeal.Gen Idealize.ShloMosaic Idealize.ShloMosaic.TcCoe Idealize.SL.Sem

/-- What the reference returns, over its argument arrays. -/
def ref (X0 : FVec Ideal S17408x1024 .f32) (X1 : FVec Ideal S4x1024 .f32) (X2 : FVec Ideal S4x1024x1024 .f32) : FVec Ideal S17408x1024 .f32 :=
  Host.dotGeneral dot_S17408x1024_S1024x1024_S17408x1024_1_0_0_1_n_n none (mulf (mulf X0 (broadcastInDim S17408x1024 ![0, 1] bcast_S17408x1_S17408x1024_0_1 (Host.rsqrt (addf (Host.divf (broadcastInDim S17408x1 ![0] bcast_S17408_S17408x1_0 (Host.reduceAdd (mulf X0 X0) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 (shapeCast _ (extractStridedSlice S1x1024 ![1, 0] X1 slices_S4x1024_S1x1024_1_0) shapeCasts_S1x1024_S1024)))) (shapeCast _ (extractStridedSlice S1x1024x1024 ![1, 0, 0] X2 slices_S4x1024x1024_S1x1024x1024_1_0_0) shapeCasts_S1x1024x1024_S1024x1024)

end Cert.XqRefIdeal.Term

end
-- ==== Proof.XqValue.lean ====
/- The query projection of the cross-attention: the kernel's array is the reference's. -/
module

public import proofs.«01_k».proof.Proof.Gen.XqIdeal.Value
public import proofs.«01_k».proof.Proof.XqRef
public import Idealize.ShloMosaic.Lib.Pipeline.ValueKit
public import Idealize.ShloMosaic.Lib.Pointwise

@[expose] public section

set_option maxRecDepth 16384

noncomputable section

namespace Cert.XqIdeal.Val

open Cert.XqIdeal Cert.XqIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 0] ∧ win0_1.index t = ![1, 0, 0]
    ∧ win0_2.index t = ![1, 0, 0] ∧ win0_3.index t = ![t.val, 0] :=
  (by decide +kernel : ∀ t : Fin grid0.N, _)

/-- What the body stores at an index of its block is the reference at that index of the array. -/
theorem point (c : Dev nD) (t : Fin cfg0.N) (y) :
    k0_pay1 (iblk m c 0 t) (iblk m c 1 t) (iblk m c 2 t) y
    = Cert.XqRefIdeal.Term.ref (m ((c : Thread nD τ).loc main_arg0)) (m ((c : Thread nD τ).loc main_arg1))
      (m ((c : Thread nD τ).loc main_arg2)) (((cfg0.win 3).blk t).view.emb y) := by
  pointwise [k0_pay1, Cert.XqRefIdeal.Term.ref]
  blk_point [iblk, V, idx t]

/-- The array after the run is the reference's. -/
theorem final (c : Dev nD) : (dats m 0 c).arrAt 3 (cfgs 0).N
    = Cert.XqRefIdeal.Term.ref (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]; frame_out
  exact point m c t y

end Cert.XqIdeal.Val

end
-- ==== Proof.KvRef.lean ====
/- The reference of the memory keys and values, as one term of its argument arrays. -/
module

public import proofs.«01_k».proof.Proof.Gen.KvRefIdeal.Run
public import Idealize.ShloMosaic.Lib.Pointwise

@[expose] public section

set_option maxRecDepth 16384

noncomputable section

namespace Cert.KvRefIdeal.Term

open Cert.KvRefIdeal Cert.KvRefIdeal.Gen Idealize.ShloMosaic Idealize.ShloMosaic.TcCoe Idealize.SL.Sem

/-- What the reference returns, over its argument arrays. -/
def ref (X0 : FVec Ideal S8x256x1024 .f32) (X1 : FVec Ideal S4x1024 .f32) (X2 : FVec Ideal S4x1024x2048 .f32) : FVec Ideal S2x2048x1024 .f32 :=
  shapeCast _ (concatenate S2x8x256x1024 0 [⟨S1x8x256x1024, (broadcastInDim S1x8x256x1024 ![1, 2, 3] bcast_S8x256x1024_S1x8x256x1024_1_2_3 (extractStridedSlice S8x256x1024 ![0, 0, 0] (Host.dotGeneral dot_S8x256x1024_S1024x2048_S8x256x2048_2_0_01_1_n_n none (mulf (mulf X0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X0 X0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![1, 0] X1 slices_S4x1024_S1x1024_1_0) shapeCasts_S1x1024_S1024)))) (shapeCast _ (extractStridedSlice S1x1024x2048 ![1, 0, 0] X2 slices_S4x1024x2048_S1x1024x2048_1_0_0) shapeCasts_S1x1024x2048_S1024x2048)) slices_S8x256x2048_S8x256x1024_0_0_0))⟩, ⟨S1x8x256x1024, (broadcastInDim S1x8x256x1024 ![1, 2, 3] bcast_S8x256x1024_S1x8x256x1024_1_2_3 (extractStridedSlice S8x256x1024 ![0, 0, 1024] (Host.dotGeneral dot_S8x256x1024_S1024x2048_S8x256x2048_2_0_01_1_n_n none (mulf (mulf X0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X0 X0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![1, 0] X1 slices_S4x1024_S1x1024_1_0) shapeCasts_S1x1024_S1024)))) (shapeCast _ (extractStridedSlice S1x1024x2048 ![1, 0, 0] X2 slices_S4x1024x2048_S1x1024x2048_1_0_0) shapeCasts_S1x1024x2048_S1024x2048)) slices_S8x256x2048_S8x256x1024_0_0_1024))⟩] concatenates_S1x8x256x1024_S1x8x256x1024_S2x8x256x1024_d0) shapeCasts_S2x8x256x1024_S2x2048x1024

end Cert.KvRefIdeal.Term

end
-- ==== Proof.KvRefAt.lean ====
/- The reference of the memory keys and values, read at an index. -/
module

public import proofs.«01_k».proof.Proof.KvRef
public import Idealize.ShloMosaic.Lib.Pipeline.ValueKit
public import Idealize.ShloMosaic.Lib.Pointwise

@[expose] public section

set_option maxRecDepth 16384

noncomputable section

namespace Cert.KvRefIdeal.Term

open Cert.KvRefIdeal Cert.KvRefIdeal.Gen Idealize.ShloMosaic Idealize.ShloMosaic.TcCoe Idealize.SL.Sem

/-- The normalised row times a column of the weights. -/
def up (h g w : Fin 1024 → EReal) : EReal :=
  ∑ k, h k * Ideal.rsqrt (Ideal.div (∑ i, h i * h i) (Ideal.ofBits .f32 1149239296#32)
    + Ideal.ofBits .f32 897988541#32) * g k * w k

/-- The keys (half 0) and values (half 1) at a row and a column. -/
def out (X0 : FVec Ideal S8x256x1024 .f32) (X1 : FVec Ideal S4x1024 .f32) (X2 : FVec Ideal S4x1024x2048 .f32) (p : Fin 2) (r : Fin 2048) (j : Fin 1024) : EReal :=
  up (fun k => X0 (ix3 ⟨r.val / 256, by omega⟩ ⟨r.val % 256, by omega⟩ k)) (fun k => X1 (ix2 1 k))
    (fun k => X2 (ix3 1 k ⟨p.val * 1024 + j.val, by omega⟩))

/-- The reference at a half, a row and a column. -/
theorem ref_at (X0 : FVec Ideal S8x256x1024 .f32) (X1 : FVec Ideal S4x1024 .f32) (X2 : FVec Ideal S4x1024x2048 .f32) (p : Fin 2) (r : Fin 2048) (j : Fin 1024) : ref X0 X1 X2 (ix3 p r j) = out X0 X1 X2 p r j := by
  pointwise [ref]
  split
  · next h =>
    have e : p.val * 1024 = 0 := by omega
    simp only [out, up, e, Nat.zero_add]
  · next h =>
    have e : p.val * 1024 = 1024 := by omega
    simp only [out, up, e]

/-- The reference at an index. -/
theorem ref_idx (X0 : FVec Ideal S8x256x1024 .f32) (X1 : FVec Ideal S4x1024 .f32) (X2 : FVec Ideal S4x1024x2048 .f32) (i : S2x2048x1024.Idx) : ref X0 X1 X2 i = out X0 X1 X2 (i 0) (i 1) (i 2) :=
  (congrArg (ref X0 X1 X2) (ValueIdx.eq_ix3 (n0 := 2) (n1 := 2048) (n2 := 1024) i)).trans
    (ref_at X0 X1 X2 (i 0) (i 1) (i 2))

end Cert.KvRefIdeal.Term

end
-- ==== Proof.KvValue.lean ====
/- The memory keys and values: the kernel's array is the reference's. -/
module

public import proofs.«01_k».proof.Proof.Gen.KvIdeal.Value
public import proofs.«01_k».proof.Proof.KvRefAt
public import Idealize.ShloMosaic.Lib.Pipeline.ValueKit
public import Idealize.ShloMosaic.Lib.Pointwise

@[expose] public section

set_option maxRecDepth 16384

noncomputable section

namespace Cert.KvIdeal.Val

open Cert.KvIdeal Cert.KvIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 0] ∧ win0_1.index t = ![1, 0, 0] ∧ win0_2.index t = ![1, 0, 0] ∧ win0_3.index t = ![0, t.val, 0] :=
  (by decide +kernel : ∀ t : Fin grid0.N, _)

/-- One half of a block: the product over the blocks is the reference's. -/
theorem half (c : Dev nD) (t : Fin cfg0.N) (y : S2x1024x1024.Idx) (o : ℕ) (hp : (y 0 : ℕ) * 1024 = o)
    (a : Fin 1024) (ha : (y 1 : ℕ) = a.val) (b : Fin 1024) (hb : (y 2 : ℕ) = b.val) :
    Cert.KvRefIdeal.Term.up (fun k => iblk m c 0 t (ix2 a k)) (fun k => iblk m c 1 t (ix3 0 0 k))
      (fun k => iblk m c 2 t (ix3 0 k ⟨o + b.val, by have : (y 0 : ℕ) < 2 := (y 0).isLt; omega⟩))
    = Cert.KvRefIdeal.Term.ref (m ((c : Thread nD τ).loc main_arg0)) (m ((c : Thread nD τ).loc main_arg1)) (m ((c : Thread nD τ).loc main_arg2)) (((cfg0.win 3).blk t).view.emb y) := by
  have ht : t.val < 2 := lt_of_lt_of_eq t.isLt N_0
  refine Eq.trans ?_ (Cert.KvRefIdeal.Term.ref_idx _ _ _ _).symm
  unfold Cert.KvRefIdeal.Term.out
  have e1 : ((((cfg0.win 3).blk t).view.emb y 1 : Fin 2048) : ℕ) = t.val * 1024 + a.val := by
    clear hp; blk_simp [idx t]; omega
  have e2 : ((((cfg0.win 3).blk t).view.emb y 2 : Fin 1024) : ℕ) = b.val := by
    clear hp e1; blk_simp [idx t]; omega
  have r0 : ∀ k : Fin 1024, iblk m c 0 t (ix2 a k) = m ((c : Thread nD τ).loc main_arg0)
      (ix3 ⟨(t.val * 1024 + a.val) / 256, by omega⟩ ⟨(t.val * 1024 + a.val) % 256, by omega⟩ k) := by
    intro k
    blk_simp [iblk, idx t]; entry_read; pointwise
    blk_ext [idx t]
  have r1 : ∀ k : Fin 1024, iblk m c 1 t (ix3 0 0 k) = m ((c : Thread nD τ).loc main_arg1) (ix2 1 k) := by
    intro k
    blk_simp [iblk, idx t]; entry_read; pointwise
    blk_ext [idx t]
  have r2 : ∀ (k : Fin 1024) (j : Fin 2048), iblk m c 2 t (ix3 0 k j) = m ((c : Thread nD τ).loc main_arg2) (ix3 1 k j) := by
    intro k j
    blk_simp [iblk, idx t]; entry_read; pointwise
    blk_ext [idx t]
  have z0 : ((((cfg0.win 3).blk t).view.emb y 0 : Fin 2) : ℕ) = (y 0 : ℕ) := by
    blk_simp [idx t]
  have e0 : ((((cfg0.win 3).blk t).view.emb y 0 : Fin 2) : ℕ) * 1024 = o := (congrArg (· * 1024) z0).trans hp
  simp only [r0, r1, r2, e0, e1, e2]

/-- What the body stores at an index of its block is the reference at that index of the array. -/
theorem point (c : Dev nD) (t : Fin cfg0.N) (y) :
    out0_3 (iblk m c 0 t) (iblk m c 1 t) (iblk m c 2 t) y
    = Cert.KvRefIdeal.Term.ref (m ((c : Thread nD τ).loc main_arg0)) (m ((c : Thread nD τ).loc main_arg1)) (m ((c : Thread nD τ).loc main_arg2)) (((cfg0.win 3).blk t).view.emb y) := by
  unfold out0_3
  canon_tiles x h
  case piece0 =>
    open_payloads
    pointwise
    have e := half m c t y 1024 (by omega) (x 1) h1 (x 2) h2
    simp only [Cert.KvRefIdeal.Term.up, Nat.zero_add] at e
    exact e
  case piece1 =>
    open_payloads
    pointwise
    have e := half m c t y 0 (by omega) (x 1) h1 (x 2) h2
    simp only [Cert.KvRefIdeal.Term.up, Nat.zero_add] at e
    exact e

/-- The array after the run is the reference's. -/
theorem final (c : Dev nD) : (dats m 0 c).arrAt 3 (cfgs 0).N = Cert.KvRefIdeal.Term.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.KvIdeal.Val

end
-- ==== Proof.XaPRef.lean ====
/- The reference of the cross-attention of the prompt rows, as one term of its argument arrays. -/
module

public import proofs.«01_k».proof.Proof.Gen.XaPRefIdeal.Run
public import Idealize.ShloMosaic.Lib.Pointwise

@[expose] public section

set_option maxRecDepth 16384

noncomputable section

namespace Cert.XaPRefIdeal.Term

open Cert.XaPRefIdeal Cert.XaPRefIdeal.Gen Idealize.ShloMosaic Idealize.ShloMosaic.TcCoe Idealize.SL.Sem

/-- What the reference returns, over its argument arrays. -/
def ref (X0 : FVec Ideal S17408x1024 .f32) (X1 : FVec Ideal S2x8x256x1024 .f32) : FVec Ideal S16384x1024 .bf16 :=
  have t1 := mulf (Host.dotGeneral dot_S8x2048x4x256_S8x256x4x256_S8x4x2048x256_3_3_1_1_02_02 none (shapeCast _ (extractStridedSlice S16384x1024 ![0, 0] X0 slices_S17408x1024_S16384x1024_0_0) shapeCasts_S16384x1024_S8x2048x4x256) (shapeCast _ (shapeCast _ (extractStridedSlice S1x8x256x1024 ![0, 0, 0, 0] X1 slices_S2x8x256x1024_S1x8x256x1024_0_0_0_0) shapeCasts_S1x8x256x1024_S8x256x1024) shapeCasts_S8x256x1024_S8x256x4x256)) (broadcastInDim S8x4x2048x256 ![] bcast_S_S8x4x2048x256 (constant S_ .f32 0x3D800000#32))
  have t2 := Host.exp (subf t1 (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) (Host.reduce FloatOps.maximumf t1 (constant S_ .f32 0xFF800000#32) reducesTo_S8x4x2048x256_S8x4x2048_d3 h_S_)))))
  truncf .bf16 (shapeCast _ (transpose S8x2048x4x256 [0, 3, 1, 2] (Host.dotGeneral dot_S8x256x4x256_S8x4x2048x256_S8x4x256x2048_1_3_3_2_02_01 none (shapeCast _ (shapeCast _ (extractStridedSlice S1x8x256x1024 ![1, 0, 0, 0] X1 slices_S2x8x256x1024_S1x8x256x1024_1_0_0_0) shapeCasts_S1x8x256x1024_S8x256x1024) shapeCasts_S8x256x1024_S8x256x4x256) (Host.divf t2 (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd t2 (constant S_ .f32 0x00000000#32) reducesTo_S8x4x2048x256_S8x4x2048_d3 h_S_))))) transposes_S8x4x256x2048_S8x2048x4x256_0_3_1_2) shapeCasts_S8x2048x4x256_S16384x1024) bitsLt_bf16_f32

end Cert.XaPRefIdeal.Term

end
-- ==== Proof.XaPRefAt.lean ====
/- Softmax attention of one query against 256 keys and values, and the reference read at an index. -/
module

public import proofs.«01_k».proof.Proof.XaPRef
public import Idealize.ShloMosaic.Lib.Pipeline.ValueKit
public import Idealize.ShloMosaic.Lib.Pointwise

@[expose] public section

set_option maxRecDepth 16384

noncomputable section

namespace Cert.XaPRefIdeal.Term

open Cert.XaPRefIdeal Cert.XaPRefIdeal.Gen Idealize.ShloMosaic Idealize.ShloMosaic.TcCoe Idealize.SL.Sem

/-- The scaled score of a query against a key. -/
def score (q k : Fin 256 → EReal) : EReal := (∑ e, q e * k e) * Ideal.ofBits .f32 1031798784#32

/-- The largest score of a query. -/
def top (q : Fin 256 → EReal) (k : Fin 256 → Fin 256 → EReal) : EReal :=
  Finset.fold max (Ideal.ofBits .f32 4286578688#32) (fun x => score q (k x)) Finset.univ

/-- The softmax attention of a query to one column of the values. -/
def attn (q : Fin 256 → EReal) (k : Fin 256 → Fin 256 → EReal) (v : Fin 256 → EReal) : EReal :=
  ∑ x, Ideal.div (Ideal.exp (score q (k x) - top q k)) (∑ z, Ideal.exp (score q (k z) - top q k)) * v x

/-- The scaled scores. -/
def scores (X0 : FVec Ideal S17408x1024 .f32) (X1 : FVec Ideal S2x8x256x1024 .f32) : FVec Ideal S8x4x2048x256 .f32 :=
  mulf (Host.dotGeneral dot_S8x2048x4x256_S8x256x4x256_S8x4x2048x256_3_3_1_1_02_02 none (shapeCast _ (extractStridedSlice S16384x1024 ![0, 0] X0 slices_S17408x1024_S16384x1024_0_0) shapeCasts_S16384x1024_S8x2048x4x256) (shapeCast _ (shapeCast _ (extractStridedSlice S1x8x256x1024 ![0, 0, 0, 0] X1 slices_S2x8x256x1024_S1x8x256x1024_0_0_0_0) shapeCasts_S1x8x256x1024_S8x256x1024) shapeCasts_S8x256x1024_S8x256x4x256)) (broadcastInDim S8x4x2048x256 ![] bcast_S_S8x4x2048x256 (constant S_ .f32 0x3D800000#32))

/-- The largest score of each row. -/
def rowmax (t : FVec Ideal S8x4x2048x256 .f32) : FVec Ideal S8x4x2048 .f32 :=
  Host.reduce FloatOps.maximumf t (constant S_ .f32 0xFF800000#32) reducesTo_S8x4x2048x256_S8x4x2048_d3 h_S_

/-- The largest score of each row, bounded below by the least element. -/
def rowtop (t : FVec Ideal S8x4x2048x256 .f32) : FVec Ideal S8x4x2048 .f32 :=
  maximumf (broadcastInDim S8x4x2048 ![] bcast_S_S8x4x2048 (constant S_ .f32 0xFF800000#32)) (rowmax t)

/-- The exponentials of the scores less their row's largest. -/
def expos (t : FVec Ideal S8x4x2048x256 .f32) : FVec Ideal S8x4x2048x256 .f32 :=
  Host.exp (subf t (broadcastInDim S8x4x2048x256 ![0, 1, 2, 3] bcast_S8x4x2048x1_S8x4x2048x256_0_1_2_3 (broadcastInDim S8x4x2048x1 ![0, 1, 2] bcast_S8x4x2048_S8x4x2048x1_0_1_2 (rowtop t))))

/-- The values weighted by the normalised exponentials, the heads side by side. -/
def weigh (X1 : FVec Ideal S2x8x256x1024 .f32) (t : FVec Ideal S8x4x2048x256 .f32) : FVec Ideal S16384x1024 .bf16 :=
  truncf .bf16 (shapeCast _ (transpose S8x2048x4x256 [0, 3, 1, 2] (Host.dotGeneral dot_S8x256x4x256_S8x4x2048x256_S8x4x256x2048_1_3_3_2_02_01 none (shapeCast _ (shapeCast _ (extractStridedSlice S1x8x256x1024 ![1, 0, 0, 0] X1 slices_S2x8x256x1024_S1x8x256x1024_1_0_0_0) shapeCasts_S1x8x256x1024_S8x256x1024) shapeCasts_S8x256x1024_S8x256x4x256) (Host.divf t (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd t (constant S_ .f32 0x00000000#32) reducesTo_S8x4x2048x256_S8x4x2048_d3 h_S_))))) transposes_S8x4x256x2048_S8x2048x4x256_0_3_1_2) shapeCasts_S8x2048x4x256_S16384x1024) bitsLt_bf16_f32

theorem ref_eq (X0 : FVec Ideal S17408x1024 .f32) (X1 : FVec Ideal S2x8x256x1024 .f32) :
    ref X0 X1 = weigh X1 (expos (scores X0 X1)) := rfl

theorem scores_at (X0 : FVec Ideal S17408x1024 .f32) (X1 : FVec Ideal S2x8x256x1024 .f32)
    (b : Fin 8) (h : Fin 4) (s : Fin 2048) (x : Fin 256) :
    scores X0 X1 (ix4 b h s x) = score (fun e => X0 (ix2 ⟨b.val * 2048 + s.val, by omega⟩ ⟨h.val * 256 + e.val, by omega⟩))
      (fun e => X1 (ix4 0 b x ⟨h.val * 256 + e.val, by omega⟩)) := by
  pointwise [scores]
  rfl

/-- The largest of scores from the least element up is no less than it. -/
theorem max_fold {n : Nat} (b : EReal) (f : Fin n → EReal) :
    max b (Finset.fold max b f Finset.univ) = Finset.fold max b f Finset.univ := by
  refine max_eq_right ?_
  rw [Finset.le_fold_max]
  exact Or.inl le_rfl

/-- The maximum over the last axis of four, read at an index. -/
theorem host_max {n0 n1 n2 n3 : Nat} (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel)
    (a : Fin n0) (b : Fin n1) (d : Fin n2) :
    Host.reduce FloatOps.maximumf v c h hu (ix3 a b d)
      = Finset.fold max (c (Shape.Idx.first hu)) (fun k : Fin n3 => v (ix4 a b d k)) Finset.univ := by
  simp only [pointwise]

theorem rowmax_at (t : FVec Ideal S8x4x2048x256 .f32) (b : Fin 8) (h : Fin 4) (s : Fin 2048) :
    rowmax t (ix3 b h s)
      = Finset.fold max (Ideal.ofBits .f32 4286578688#32) (fun z : Fin 256 => t (ix4 b h s z)) Finset.univ :=
  host_max t _ _ _ b h s

/-- The larger of a constant and an array, at an index. -/
theorem bound_at (w : BitVec 32) (u : FVec Ideal S8x4x2048 .f32) (i : S8x4x2048.Idx) :
    maximumf (broadcastInDim S8x4x2048 ![] bcast_S_S8x4x2048 (constant S_ .f32 w)) u i = max (Ideal.ofBits .f32 w) (u i) :=
  rfl

theorem rowtop_at (t : FVec Ideal S8x4x2048x256 .f32) (b : Fin 8) (h : Fin 4) (s : Fin 2048) :
    rowtop t (ix3 b h s)
      = Finset.fold max (Ideal.ofBits .f32 4286578688#32) (fun z : Fin 256 => t (ix4 b h s z)) Finset.univ := by
  unfold rowtop
  rw [bound_at, rowmax_at, max_fold]

theorem expos_at (t : FVec Ideal S8x4x2048x256 .f32) (b : Fin 8) (h : Fin 4) (s : Fin 2048) (x : Fin 256) :
    expos t (ix4 b h s x) = Ideal.exp (t (ix4 b h s x) - rowtop t (ix3 b h s)) := by
  pointwise [expos]

theorem weigh_at (X1 : FVec Ideal S2x8x256x1024 .f32) (t : FVec Ideal S8x4x2048x256 .f32) (r : Fin 16384) (j : Fin 1024) :
    weigh X1 t (ix2 r j) = ∑ x : Fin 256, Ideal.div
        (t (ix4 ⟨r.val / 2048, by omega⟩ ⟨j.val / 256, by omega⟩ ⟨r.val % 2048, by omega⟩ x))
        (∑ z : Fin 256, t (ix4 ⟨r.val / 2048, by omega⟩ ⟨j.val / 256, by omega⟩ ⟨r.val % 2048, by omega⟩ z))
      * X1 (ix4 1 ⟨r.val / 2048, by omega⟩ x j) := by
  pointwise [weigh]
  exact Finset.sum_congr rfl fun x _ => mul_comm _ _

/-- The attention of a row to a column: the column's head of the row against the keys of the row's sequence. -/
def out (X0 : FVec Ideal S17408x1024 .f32) (X1 : FVec Ideal S2x8x256x1024 .f32) (r : Fin 16384) (j : Fin 1024) : EReal :=
  attn (fun e => X0 (ix2 ⟨r.val, by omega⟩ ⟨j.val / 256 * 256 + e.val, by omega⟩))
    (fun x e => X1 (ix4 0 ⟨r.val / 2048, by omega⟩ x ⟨j.val / 256 * 256 + e.val, by omega⟩))
    (fun x => X1 (ix4 1 ⟨r.val / 2048, by omega⟩ x j))

/-- The reference at a row and a column. -/
theorem ref_at (X0 : FVec Ideal S17408x1024 .f32) (X1 : FVec Ideal S2x8x256x1024 .f32) (r : Fin 16384) (j : Fin 1024) : ref X0 X1 (ix2 r j) = out X0 X1 r j := by
  have hr : r.val / 2048 * 2048 + r.val % 2048 = r.val := by omega
  rw [ref_eq, weigh_at]
  simp only [expos_at, rowtop_at, scores_at, hr, out, attn, top]

/-- The reference at an index. -/
theorem ref_idx (X0 : FVec Ideal S17408x1024 .f32) (X1 : FVec Ideal S2x8x256x1024 .f32) (i : S16384x1024.Idx) : ref X0 X1 i = out X0 X1 (i 0) (i 1) :=
  (congrArg (ref X0 X1) (ValueIdx.eq_ix2 (n0 := 16384) (n1 := 1024) i)).trans (ref_at X0 X1 (i 0) (i 1))

end Cert.XaPRefIdeal.Term

end
-- ==== Proof.XaPValue.lean ====
/- The cross-attention of the prompt rows: the kernel's array is the reference's. -/
module

public import proofs.«01_k».proof.Proof.Gen.XaPIdeal.Value
public import proofs.«01_k».proof.Proof.XaPRefAt
public import Idealize.ShloMosaic.Lib.Pipeline.ValueKit
public import Idealize.ShloMosaic.Lib.Pointwise

@[expose] public section

set_option maxRecDepth 16384

noncomputable section

namespace Cert.XaPIdeal.Val

open Cert.XaPIdeal Cert.XaPIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 0] ∧ win0_1.index t = ![0, t.val / 4, 0, 0] ∧ win0_2.index t = ![1, t.val / 4, 0, 0] ∧ win0_3.index t = ![t.val, 0] :=
  (by decide +kernel : ∀ t : Fin grid0.N, _)

/-- One head of a block: the attention over its columns of the blocks is the reference's. -/
theorem head (c : Dev nD) (t : Fin cfg0.N) (y : S512x1024.Idx) (a : Fin 512) (ha : (y 0 : ℕ) = a.val) (o : ℕ)
    (b : Fin 256) (hb : (y 1 : ℕ) = o + b.val) (ho : o + 256 ≤ 1024) (hd : o % 256 = 0) :
    Cert.XaPRefIdeal.Term.attn (fun e => iblk m c 0 t (ix2 a ⟨o + e.val, by omega⟩))
      (fun x e => iblk m c 1 t (ix4 0 0 x ⟨o + e.val, by omega⟩)) (fun x => iblk m c 2 t (ix4 0 0 x ⟨o + b.val, by omega⟩))
    = Cert.XaPRefIdeal.Term.ref (m ((c : Thread nD τ).loc main_arg0)) (m ((c : Thread nD τ).loc main_arg1)) (((cfg0.win 3).blk t).view.emb y) := by
  have ht : t.val < 32 := lt_of_lt_of_eq t.isLt N_0
  refine Eq.trans ?_ (Cert.XaPRefIdeal.Term.ref_idx _ _ _).symm
  unfold Cert.XaPRefIdeal.Term.out
  have e0 : ((((cfg0.win 3).blk t).view.emb y 0 : Fin 16384) : ℕ) = t.val * 512 + a.val := by
    blk_simp [idx t]; omega
  have e1 : ((((cfg0.win 3).blk t).view.emb y 1 : Fin 1024) : ℕ) = o + b.val := by
    blk_simp [idx t]; omega
  congr 1
  · funext e; blk_ext! [iblk, V, idx t]
  · funext x e; blk_ext! [iblk, V, idx t]
  · funext x; blk_ext! [iblk, V, idx t]

/-- What the body stores at an index of its block is the reference at that index of the array. -/
theorem point (c : Dev nD) (t : Fin cfg0.N) (y) :
    out0_3 (iblk m c 0 t) (iblk m c 1 t) (iblk m c 2 t) y
    = Cert.XaPRefIdeal.Term.ref (m ((c : Thread nD τ).loc main_arg0)) (m ((c : Thread nD τ).loc main_arg1)) (((cfg0.win 3).blk t).view.emb y) := by
  unfold out0_3
  canon_tiles x h
  case piece0 =>
    open_payloads
    pointwise
    have e := head m c t _ (x 0) h0 768 (x 1) (by omega) (by omega) (by omega)
    simp only [Cert.XaPRefIdeal.Term.attn, Cert.XaPRefIdeal.Term.top, Cert.XaPRefIdeal.Term.score, Nat.zero_add] at e
    exact e
  case piece1 =>
    open_payloads
    pointwise
    have e := head m c t _ (x 0) h0 512 (x 1) (by omega) (by omega) (by omega)
    simp only [Cert.XaPRefIdeal.Term.attn, Cert.XaPRefIdeal.Term.top, Cert.XaPRefIdeal.Term.score, Nat.zero_add] at e
    exact e
  case piece2 =>
    open_payloads
    pointwise
    have e := head m c t _ (x 0) h0 256 (x 1) (by omega) (by omega) (by omega)
    simp only [Cert.XaPRefIdeal.Term.attn, Cert.XaPRefIdeal.Term.top, Cert.XaPRefIdeal.Term.score, Nat.zero_add] at e
    exact e
  case piece3 =>
    open_payloads
    pointwise
    have e := head m c t _ (x 0) h0 0 (x 1) (by omega) (by omega) (by omega)
    simp only [Cert.XaPRefIdeal.Term.attn, Cert.XaPRefIdeal.Term.top, Cert.XaPRefIdeal.Term.score, Nat.zero_add] at e
    exact e

/-- The array after the run is the reference's. -/
theorem final (c : Dev nD) : (dats m 0 c).arrAt 3 (cfgs 0).N = Cert.XaPRefIdeal.Term.ref (m ((c : Thread nD τ).loc main_arg0)) (m ((c : Thread nD τ).loc main_arg1)) := by
  refine (dats m 0 c).arrAt_eq_of_covers 3 _ (by decide +kernel) fun t _ y => ?_
  blk_simp
  rw [after0_3]
  exact point m c t y

end Cert.XaPIdeal.Val

end
-- ==== Proof.XoRef.lean ====
/- The reference of the output projection of the cross-attention, as one term of its argument arrays. -/
module

public import proofs.«01_k».proof.Proof.Gen.XoRefIdeal.Run
public import Idealize.ShloMosaic.Lib.Pointwise

@[expose] public section

set_option maxRecDepth 16384

noncomputable section

namespace Cert.XoRefIdeal.Term

open Cert.XoRefIdeal Cert.XoRefIdeal.Gen Idealize.ShloMosaic Idealize.ShloMosaic.TcCoe Idealize.SL.Sem

/-- What the reference returns, over its argument arrays. -/
def ref (X0 : FVec Ideal S17408x1024 .f32) (X1 : FVec Ideal S16384x1024 .bf16) (X2 : FVec Ideal S1024x1024 .f32) (X3 : FVec Ideal S4x1024x1024 .f32) : FVec Ideal S17408x1024 .f32 :=
  addf X0 (Host.dotGeneral dot_S17408x1024_S1024x1024_S17408x1024_1_0_0_1_n_n none (concatenate S17408x1024 0 [⟨S16384x1024, (extf .f32 X1 bitsLt_bf16_f32)⟩, ⟨S1024x1024, X2⟩] concatenates_S16384x1024_S1024x1024_S17408x1024_d0) (shapeCast _ (extractStridedSlice S1x1024x1024 ![1, 0, 0] X3 slices_S4x1024x1024_S1x1024x1024_1_0_0) shapeCasts_S1x1024x1024_S1024x1024))

end Cert.XoRefIdeal.Term

end
-- ==== Proof.XoValue.lean ====
/- The output projection of the cross-attention: the kernel's array is the reference's. -/
module

public import proofs.«01_k».proof.Proof.Gen.XoIdeal.Value
public import proofs.«01_k».proof.Proof.XoRef
public import Idealize.ShloMosaic.Lib.Pipeline.ValueKit
public import Idealize.ShloMosaic.Lib.Pointwise

@[expose] public section

set_option maxRecDepth 16384

noncomputable section

namespace Cert.XoIdeal.Val

open Cert.XoIdeal Cert.XoIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val, 0] ∧ win0_1.index t = ![min t.val 15, 0] ∧ win0_2.index t = ![t.val - 16, 0] ∧ win0_3.index t = ![1, 0, 0] ∧ win0_4.index t = ![t.val, 0] :=
  (by decide +kernel : ∀ t : Fin grid0.N, _)

/-- A selection on the condition 1. -/
theorem select_pos {α : Type} (a b : α) : Scalar.select 1 a b = a := rfl

/-- A selection on the condition 0. -/
theorem select_neg {α : Type} (a b : α) : Scalar.select 0 a b = b := rfl

/-- The prompt blocks are those of the first 16 grid points. -/
theorem sel : ∀ t : Fin cfg0.N,
    (t.val < 16 → Scalar.cmpi CmpIPredicate.slt (BitVec.ofNat 32 (grid0.coords t 0).val) 16#32 = 1)
    ∧ (¬ t.val < 16 → Scalar.cmpi CmpIPredicate.slt (BitVec.ofNat 32 (grid0.coords t 0).val) 16#32 = 0) :=
  (by decide +kernel : ∀ t : Fin grid0.N, _)

/-- What the body stores at an index of its block is the reference at that index of the array. -/
theorem point (c : Dev nD) (t : Fin cfg0.N) (y) :
    k0_pay1 (grid0.coords t) (iblk m c 1 t) (iblk m c 2 t) (iblk m c 0 t) (iblk m c 3 t) y
    = Cert.XoRefIdeal.Term.ref (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 17 := lt_of_lt_of_eq t.isLt N_0
  pointwise [k0_pay1, Cert.XoRefIdeal.Term.ref]
  blk_simp [idx t]
  by_cases h : t.val < 16
  · simp only [(sel t).1 h, select_pos]
    have h' : t.val * 1024 + (y 0 : ℕ) < 16384 := by have : (y 0 : ℕ) < 1024 := (y 0).isLt; omega
    simp only [dif_pos h']
    blk_point [iblk, V, idx t]
  · simp only [(sel t).2 h, select_neg]
    have h' : ¬ t.val * 1024 + (y 0 : ℕ) < 16384 := by omega
    simp only [dif_neg h']
    blk_point [iblk, V, idx t]

/-- The array after the run is the reference's. -/
theorem final (c : Dev nD) : (dats m 0 c).arrAt 4 (cfgs 0).N
    = Cert.XoRefIdeal.Term.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.XoIdeal.Val

end
-- ==== Proof.lean ====
/- The claim: for each call of the kernel and its reference, the frames, the kernel's idealization and the equality of
   the two returned arrays over the extended reals. -/
module

public import proofs.«01_k».proof.Defs
public import proofs.«01_k».proof.Proof.Gen.FoxP
public import proofs.«01_k».proof.Proof.Gen.FoxP.Frame
public import proofs.«01_k».proof.Proof.Gen.FoxPIdeal
public import proofs.«01_k».proof.Proof.Gen.FoxPIdeal.Frame
public import proofs.«01_k».proof.Proof.Gen.FoxPRefIdeal
public import proofs.«01_k».proof.Proof.Gen.FoxPRefIdeal.Run
public import proofs.«01_k».proof.Proof.Gen.FoxPIdeal.Value
public import proofs.«01_k».proof.Proof.FoxPValue
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnIdeal.Value
public import proofs.«01_k».proof.Proof.FfnValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeIdeal.Value
public import proofs.«01_k».proof.Proof.MergeValue
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.MixIdeal.Value
public import proofs.«01_k».proof.Proof.MixValue
public import proofs.«01_k».proof.Proof.Gen.Xq
public import proofs.«01_k».proof.Proof.Gen.Xq.Frame
public import proofs.«01_k».proof.Proof.Gen.XqIdeal
public import proofs.«01_k».proof.Proof.Gen.XqIdeal.Frame
public import proofs.«01_k».proof.Proof.Gen.XqRefIdeal
public import proofs.«01_k».proof.Proof.Gen.XqRefIdeal.Run
public import proofs.«01_k».proof.Proof.Gen.XqIdeal.Value
public import proofs.«01_k».proof.Proof.XqValue
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.Gen.KvRefIdeal.Run
public import proofs.«01_k».proof.Proof.Gen.KvIdeal.Value
public import proofs.«01_k».proof.Proof.KvValue
public import proofs.«01_k».proof.Proof.Gen.XaP
public import proofs.«01_k».proof.Proof.Gen.XaP.Frame
public import proofs.«01_k».proof.Proof.Gen.XaPIdeal
public import proofs.«01_k».proof.Proof.Gen.XaPIdeal.Frame
public import proofs.«01_k».proof.Proof.Gen.XaPRefIdeal
public import proofs.«01_k».proof.Proof.Gen.XaPRefIdeal.Run
public import proofs.«01_k».proof.Proof.Gen.XaPIdeal.Value
public import proofs.«01_k».proof.Proof.XaPValue
public import proofs.«01_k».proof.Proof.Gen.Xo
public import proofs.«01_k».proof.Proof.Gen.Xo.Frame
public import proofs.«01_k».proof.Proof.Gen.XoIdeal
public import proofs.«01_k».proof.Proof.Gen.XoIdeal.Frame
public import proofs.«01_k».proof.Proof.Gen.XoRefIdeal
public import proofs.«01_k».proof.Proof.Gen.XoRefIdeal.Run
public import proofs.«01_k».proof.Proof.Gen.XoIdeal.Value
public import proofs.«01_k».proof.Proof.XoValue
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem

/-- The reference of the forgetting attention of the prompt rows ends with its arguments as they were and no semaphore held. -/
theorem refFrame_FoxP : quiescent_FoxPRefIdeal := fun m ρ _ =>
  (θ_run Cert.FoxPRefIdeal.defs _ _).mono (fun r h => ⟨fun c => (h c).2, sem_eq_zero_of_no_sems (by decide) r.2⟩)
    (Cert.FoxPRefIdeal.Value.run (F := Ideal) m ρ)

/-- The same under the precondition. -/
theorem refFramePre_FoxP : quiescent_FoxPRefIdeal_pre_finite := fun m ρ _ =>
  (θ_run Cert.FoxPRefIdeal.defs _ _).mono (fun r h => ⟨fun c => (h c).2, sem_eq_zero_of_no_sems (by decide) r.2⟩)
    (Cert.FoxPRefIdeal.Value.run (F := Ideal) m ρ)

/-- Over the extended reals the kernel of the forgetting attention of the prompt rows returns what its reference returns. -/
theorem value_FoxP : algebraic_FoxPIdeal_FoxPRefIdeal_pre_finite := by
  intro m ρ m' ρ' hpre hagree
  refine ⟨_, Cert.FoxPIdeal.Value.run_blocks (F := Ideal) m ρ, ?_⟩
  refine (θ_run Cert.FoxPRefIdeal.defs _ _).mono (fun _ h c => ⟨?_, (h c).2⟩) (Cert.FoxPRefIdeal.Value.run (F := Ideal) m' ρ')
  refine Eq.trans (b := Cert.FoxPRefIdeal.Term.ref (m' ((c.tc : Thread Cert.FoxPRefIdeal.nD Cert.FoxPRefIdeal.τ).loc Cert.FoxPRefIdeal.main_arg0))
    (m' ((c.tc : Thread Cert.FoxPRefIdeal.nD Cert.FoxPRefIdeal.τ).loc Cert.FoxPRefIdeal.main_arg1))) (h c).1 ?_
  simp only [hagree c]
  exact (Cert.FoxPIdeal.Val.final m hpre c).symm

/-- The reference of the feed-forward layer ends with its arguments as they were and no semaphore held. -/
theorem refFrame_Ffn : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- Over the extended reals the kernel of the feed-forward layer returns what its reference returns. -/
theorem value_Ffn : algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  refine Eq.trans (b := Cert.FfnRefIdeal.Term.ref (m' ((c.tc : Thread Cert.FfnRefIdeal.nD Cert.FfnRefIdeal.τ).loc Cert.FfnRefIdeal.main_arg0))
    (m' ((c.tc : Thread Cert.FfnRefIdeal.nD Cert.FfnRefIdeal.τ).loc Cert.FfnRefIdeal.main_arg1))
    (m' ((c.tc : Thread Cert.FfnRefIdeal.nD Cert.FfnRefIdeal.τ).loc Cert.FfnRefIdeal.main_arg2))
    (m' ((c.tc : Thread Cert.FfnRefIdeal.nD Cert.FfnRefIdeal.τ).loc Cert.FfnRefIdeal.main_arg3))) (h c).1 ?_
  simp only [hagree c]
  exact (Cert.FfnIdeal.Val.final m c).symm

/-- The reference of the merge of the four branches ends with its arguments as they were and no semaphore held. -/
theorem refFrame_Merge : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- Over the extended reals the kernel of the merge of the four branches returns what its reference returns. -/
theorem value_Merge : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  refine Eq.trans (b := Cert.MergeRefIdeal.Term.ref (m' ((c.tc : Thread Cert.MergeRefIdeal.nD Cert.MergeRefIdeal.τ).loc Cert.MergeRefIdeal.main_arg0))
    (m' ((c.tc : Thread Cert.MergeRefIdeal.nD Cert.MergeRefIdeal.τ).loc Cert.MergeRefIdeal.main_arg1))
    (m' ((c.tc : Thread Cert.MergeRefIdeal.nD Cert.MergeRefIdeal.τ).loc Cert.MergeRefIdeal.main_arg2))
    (m' ((c.tc : Thread Cert.MergeRefIdeal.nD Cert.MergeRefIdeal.τ).loc Cert.MergeRefIdeal.main_arg3))
    (m' ((c.tc : Thread Cert.MergeRefIdeal.nD Cert.MergeRefIdeal.τ).loc Cert.MergeRefIdeal.main_arg4))
    (m' ((c.tc : Thread Cert.MergeRefIdeal.nD Cert.MergeRefIdeal.τ).loc Cert.MergeRefIdeal.main_arg5))
    (m' ((c.tc : Thread Cert.MergeRefIdeal.nD Cert.MergeRefIdeal.τ).loc Cert.MergeRefIdeal.main_arg6))
    (m' ((c.tc : Thread Cert.MergeRefIdeal.nD Cert.MergeRefIdeal.τ).loc Cert.MergeRefIdeal.main_arg7))
    (m' ((c.tc : Thread Cert.MergeRefIdeal.nD Cert.MergeRefIdeal.τ).loc Cert.MergeRefIdeal.main_arg8))
    (m' ((c.tc : Thread Cert.MergeRefIdeal.nD Cert.MergeRefIdeal.τ).loc Cert.MergeRefIdeal.main_arg9))
    (m' ((c.tc : Thread Cert.MergeRefIdeal.nD Cert.MergeRefIdeal.τ).loc Cert.MergeRefIdeal.main_arg10))
    (m' ((c.tc : Thread Cert.MergeRefIdeal.nD Cert.MergeRefIdeal.τ).loc Cert.MergeRefIdeal.main_arg11))
    (m' ((c.tc : Thread Cert.MergeRefIdeal.nD Cert.MergeRefIdeal.τ).loc Cert.MergeRefIdeal.main_arg12))
    (m' ((c.tc : Thread Cert.MergeRefIdeal.nD Cert.MergeRefIdeal.τ).loc Cert.MergeRefIdeal.main_arg13))) (h c).1 ?_
  simp only [hagree c]
  exact (Cert.MergeIdeal.Val.final m c).symm

/-- The reference of the combined input projection ends with its arguments as they were and no semaphore held. -/
theorem refFrame_Mix : quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- Over the extended reals the kernel of the combined input projection returns what its reference returns. -/
theorem value_Mix : algebraic_MixIdeal_MixRefIdeal := by
  intro m ρ m' ρ' _ hagree
  refine ⟨_, Cert.MixIdeal.Value.run_blocks (F := Ideal) m ρ, ?_⟩
  refine (θ_run Cert.MixRefIdeal.defs _ _).mono (fun _ h c => ⟨?_, (h c).2⟩) (Cert.MixRefIdeal.Value.run (F := Ideal) m' ρ')
  refine Eq.trans (b := Cert.MixRefIdeal.Term.ref (m' ((c.tc : Thread Cert.MixRefIdeal.nD Cert.MixRefIdeal.τ).loc Cert.MixRefIdeal.main_arg0))
    (m' ((c.tc : Thread Cert.MixRefIdeal.nD Cert.MixRefIdeal.τ).loc Cert.MixRefIdeal.main_arg1))
    (m' ((c.tc : Thread Cert.MixRefIdeal.nD Cert.MixRefIdeal.τ).loc Cert.MixRefIdeal.main_arg2))) (h c).1 ?_
  simp only [hagree c]
  exact (Cert.MixIdeal.Val.final m c).symm

/-- The reference of the query projection of the cross-attention ends with its arguments as they were and no semaphore held. -/
theorem refFrame_Xq : quiescent_XqRefIdeal := fun m ρ _ =>
  (θ_run Cert.XqRefIdeal.defs _ _).mono (fun r h => ⟨fun c => (h c).2, sem_eq_zero_of_no_sems (by decide) r.2⟩)
    (Cert.XqRefIdeal.Value.run (F := Ideal) m ρ)

/-- Over the extended reals the kernel of the query projection of the cross-attention returns what its reference returns. -/
theorem value_Xq : algebraic_XqIdeal_XqRefIdeal := by
  intro m ρ m' ρ' _ hagree
  refine ⟨_, Cert.XqIdeal.Value.run_blocks (F := Ideal) m ρ, ?_⟩
  refine (θ_run Cert.XqRefIdeal.defs _ _).mono (fun _ h c => ⟨?_, (h c).2⟩) (Cert.XqRefIdeal.Value.run (F := Ideal) m' ρ')
  refine Eq.trans (b := Cert.XqRefIdeal.Term.ref (m' ((c.tc : Thread Cert.XqRefIdeal.nD Cert.XqRefIdeal.τ).loc Cert.XqRefIdeal.main_arg0))
    (m' ((c.tc : Thread Cert.XqRefIdeal.nD Cert.XqRefIdeal.τ).loc Cert.XqRefIdeal.main_arg1))
    (m' ((c.tc : Thread Cert.XqRefIdeal.nD Cert.XqRefIdeal.τ).loc Cert.XqRefIdeal.main_arg2))) (h c).1 ?_
  simp only [hagree c]
  exact (Cert.XqIdeal.Val.final m c).symm

/-- The reference of the memory keys and values ends with its arguments as they were and no semaphore held. -/
theorem refFrame_Kv : quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

/-- Over the extended reals the kernel of the memory keys and values returns what its reference returns. -/
theorem value_Kv : algebraic_KvIdeal_KvRefIdeal := by
  intro m ρ m' ρ' _ hagree
  refine ⟨_, Cert.KvIdeal.Value.run_blocks (F := Ideal) m ρ, ?_⟩
  refine (θ_run Cert.KvRefIdeal.defs _ _).mono (fun _ h c => ⟨?_, (h c).2⟩) (Cert.KvRefIdeal.Value.run (F := Ideal) m' ρ')
  refine Eq.trans (b := Cert.KvRefIdeal.Term.ref (m' ((c.tc : Thread Cert.KvRefIdeal.nD Cert.KvRefIdeal.τ).loc Cert.KvRefIdeal.main_arg0))
    (m' ((c.tc : Thread Cert.KvRefIdeal.nD Cert.KvRefIdeal.τ).loc Cert.KvRefIdeal.main_arg1))
    (m' ((c.tc : Thread Cert.KvRefIdeal.nD Cert.KvRefIdeal.τ).loc Cert.KvRefIdeal.main_arg2))) (h c).1 ?_
  simp only [hagree c]
  exact (Cert.KvIdeal.Val.final m c).symm

/-- The reference of the cross-attention of the prompt rows ends with its arguments as they were and no semaphore held. -/
theorem refFrame_XaP : quiescent_XaPRefIdeal := fun m ρ _ =>
  (θ_run Cert.XaPRefIdeal.defs _ _).mono (fun r h => ⟨fun c => (h c).2, sem_eq_zero_of_no_sems (by decide) r.2⟩)
    (Cert.XaPRefIdeal.Value.run (F := Ideal) m ρ)

/-- Over the extended reals the kernel of the cross-attention of the prompt rows returns what its reference returns. -/
theorem value_XaP : algebraic_XaPIdeal_XaPRefIdeal := by
  intro m ρ m' ρ' _ hagree
  refine ⟨_, Cert.XaPIdeal.Value.run_blocks (F := Ideal) m ρ, ?_⟩
  refine (θ_run Cert.XaPRefIdeal.defs _ _).mono (fun _ h c => ⟨?_, (h c).2⟩) (Cert.XaPRefIdeal.Value.run (F := Ideal) m' ρ')
  refine Eq.trans (b := Cert.XaPRefIdeal.Term.ref (m' ((c.tc : Thread Cert.XaPRefIdeal.nD Cert.XaPRefIdeal.τ).loc Cert.XaPRefIdeal.main_arg0))
    (m' ((c.tc : Thread Cert.XaPRefIdeal.nD Cert.XaPRefIdeal.τ).loc Cert.XaPRefIdeal.main_arg1))) (h c).1 ?_
  simp only [hagree c]
  exact (Cert.XaPIdeal.Val.final m c).symm

/-- The reference of the output projection of the cross-attention ends with its arguments as they were and no semaphore held. -/
theorem refFrame_Xo : quiescent_XoRefIdeal := fun m ρ _ =>
  (θ_run Cert.XoRefIdeal.defs _ _).mono (fun r h => ⟨fun c => (h c).2, sem_eq_zero_of_no_sems (by decide) r.2⟩)
    (Cert.XoRefIdeal.Value.run (F := Ideal) m ρ)

/-- Over the extended reals the kernel of the output projection of the cross-attention returns what its reference returns. -/
theorem value_Xo : algebraic_XoIdeal_XoRefIdeal := by
  intro m ρ m' ρ' _ hagree
  refine ⟨_, Cert.XoIdeal.Value.run_blocks (F := Ideal) m ρ, ?_⟩
  refine (θ_run Cert.XoRefIdeal.defs _ _).mono (fun _ h c => ⟨?_, (h c).2⟩) (Cert.XoRefIdeal.Value.run (F := Ideal) m' ρ')
  refine Eq.trans (b := Cert.XoRefIdeal.Term.ref (m' ((c.tc : Thread Cert.XoRefIdeal.nD Cert.XoRefIdeal.τ).loc Cert.XoRefIdeal.main_arg0))
    (m' ((c.tc : Thread Cert.XoRefIdeal.nD Cert.XoRefIdeal.τ).loc Cert.XoRefIdeal.main_arg1))
    (m' ((c.tc : Thread Cert.XoRefIdeal.nD Cert.XoRefIdeal.τ).loc Cert.XoRefIdeal.main_arg2))
    (m' ((c.tc : Thread Cert.XoRefIdeal.nD Cert.XoRefIdeal.τ).loc Cert.XoRefIdeal.main_arg3))) (h c).1 ?_
  simp only [hagree c]
  exact (Cert.XoIdeal.Val.final m c).symm

/-- Every claim of the certificate. -/
theorem claim : Cert.Claim := ⟨Cert.FoxP.Gen.facts,
  Cert.FoxPIdeal.Gen.facts,
  Cert.FoxPRefIdeal.Gen.facts,
  Cert.Ffn.Gen.facts,
  Cert.FfnIdeal.Gen.facts,
  Cert.FfnRefIdeal.Gen.facts,
  Cert.Merge.Gen.facts,
  Cert.MergeIdeal.Gen.facts,
  Cert.MergeRefIdeal.Gen.facts,
  Cert.Mix.Gen.facts,
  Cert.MixIdeal.Gen.facts,
  Cert.MixRefIdeal.Gen.facts,
  Cert.Xq.Gen.facts,
  Cert.XqIdeal.Gen.facts,
  Cert.XqRefIdeal.Gen.facts,
  Cert.Kv.Gen.facts,
  Cert.KvIdeal.Gen.facts,
  Cert.KvRefIdeal.Gen.facts,
  Cert.XaP.Gen.facts,
  Cert.XaPIdeal.Gen.facts,
  Cert.XaPRefIdeal.Gen.facts,
  Cert.Xo.Gen.facts,
  Cert.XoIdeal.Gen.facts,
  Cert.XoRefIdeal.Gen.facts,
  Cert.Pre_finite.Gen.facts,
  fun m ρ _ => Cert.FoxP.Gen.frame m ρ,
  fun m ρ _ => Cert.FoxPIdeal.Gen.frame m ρ,
  fun m ρ _ => Cert.FoxPIdeal.Gen.frame m ρ,
  refFrame_FoxP,
  refFramePre_FoxP,
  fun m ρ _ => Cert.Ffn.Gen.frame m ρ,
  fun m ρ _ => Cert.FfnIdeal.Gen.frame m ρ,
  refFrame_Ffn,
  fun m ρ _ => Cert.Merge.Gen.frame m ρ,
  fun m ρ _ => Cert.MergeIdeal.Gen.frame m ρ,
  refFrame_Merge,
  fun m ρ _ => Cert.Mix.Gen.frame m ρ,
  fun m ρ _ => Cert.MixIdeal.Gen.frame m ρ,
  refFrame_Mix,
  fun m ρ _ => Cert.Xq.Gen.frame m ρ,
  fun m ρ _ => Cert.XqIdeal.Gen.frame m ρ,
  refFrame_Xq,
  fun m ρ _ => Cert.Kv.Gen.frame m ρ,
  fun m ρ _ => Cert.KvIdeal.Gen.frame m ρ,
  refFrame_Kv,
  fun m ρ _ => Cert.XaP.Gen.frame m ρ,
  fun m ρ _ => Cert.XaPIdeal.Gen.frame m ρ,
  refFrame_XaP,
  fun m ρ _ => Cert.Xo.Gen.frame m ρ,
  fun m ρ _ => Cert.XoIdeal.Gen.frame m ρ,
  refFrame_Xo,
  (trivial : preserves_FoxP_FoxPIdeal),
  value_FoxP,
  (trivial : preserves_Ffn_FfnIdeal),
  value_Ffn,
  (trivial : preserves_Merge_MergeIdeal),
  value_Merge,
  (trivial : preserves_Mix_MixIdeal),
  value_Mix,
  (trivial : preserves_Xq_XqIdeal),
  value_Xq,
  (trivial : preserves_Kv_KvIdeal),
  value_Kv,
  (trivial : preserves_XaP_XaPIdeal),
  value_XaP,
  (trivial : preserves_Xo_XoIdeal),
  value_Xo⟩

end Cert.Proof

end
